-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35_0) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v35_1) = v2 c
          ∧ r.2.mem ((c.tc : Thread Cert.ReferenceIdeal.nD Cert.ReferenceIdeal.τ).loc Cert.ReferenceIdeal.main_v35_2) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1x128x4096 : Shape := ⟨3, ![1, 128, 4096]⟩
abbrev S4096x14336 : Shape := ⟨2, ![4096, 14336]⟩
abbrev S32x112 : Shape := ⟨2, ![32, 112]⟩
abbrev S4096x8 : Shape := ⟨2, ![4096, 8]⟩
abbrev S8 : Shape := ⟨1, ![8]⟩
abbrev S1x128x2 : Shape := ⟨3, ![1, 128, 2]⟩
abbrev S8x4096x16 : Shape := ⟨3, ![8, 4096, 16]⟩
abbrev S8x16x14336 : Shape := ⟨3, ![8, 16, 14336]⟩
abbrev S_ : Shape := ⟨0, ![]⟩

class Facts : Prop where
  bitsLt_bf16_f32 : FTy.bits .bf16 < FTy.bits .f32
  bcast_S_S1x128x4096 : S_.BroadcastsInDim S1x128x4096 (![] : Fin 0 → Fin S1x128x4096.rank)
  bcast_S_S1x128x2 : S_.BroadcastsInDim S1x128x2 (![] : Fin 0 → Fin S1x128x2.rank)

variable [Facts]

def fn {F : FTy → Type} [FloatOps F] (main_arg0 : FVec F S1x128x4096 .bf16) (main_arg1 : FVec F S4096x14336 .fp8e4m3) (main_arg2 : FVec F S32x112 .f32) (main_arg3 : FVec F S4096x8 .bf16) (main_arg4 : FVec F S8 .f32) (main_arg5 : IVec S1x128x2 32) (main_arg6 : FVec F S8x4096x16 .bf16) (main_arg7 : FVec F S8x16x14336 .bf16) : IVec S1x128x4096 1 × IVec S1x128x2 1 :=
  let main_v0 : FVec F S1x128x4096 .f32 := (extf .f32 · bitsLt_bf16_f32) main_arg0
  let main_v1 : FVec F S1x128x4096 .f32 := Host.absf main_v0
  let main_cst : FVec F S_ .f32 := constant S_ .f32 0x7F7F0000#32
  let main_v2 : FVec F S1x128x4096 .f32 := broadcastInDim S1x128x4096 ![] bcast_S_S1x128x4096 main_cst
  let main_v3 : IVec S1x128x4096 1 := cmpf .ole main_v1 main_v2
  let main_c : IVec S_ 32 := constantI S_ 32 0#32
  let main_v4 : IVec S1x128x2 32 := broadcastInDim S1x128x2 ![] bcast_S_S1x128x2 main_c
  let main_v5 : IVec S1x128x2 1 := cmpi .sge main_arg5 main_v4
  let main_c_0 : IVec S_ 32 := constantI S_ 32 8#32
  let main_v6 : IVec S1x128x2 32 := broadcastInDim S1x128x2 ![] bcast_S_S1x128x2 main_c_0
  let main_v7 : IVec S1x128x2 1 := cmpi .slt main_arg5 main_v6
  let main_v8 : IVec S1x128x2 1 := andi main_v5 main_v7
  (main_v3, main_v8)
-- ==== Kernel.lean ====
abbrev S1x128x4096 : Shape := ⟨3, ![1, 128, 4096]⟩
abbrev S4096x14336 : Shape := ⟨2, ![4096, 14336]⟩
abbrev S32x112 : Shape := ⟨2, ![32, 112]⟩
abbrev S4096x8 : Shape := ⟨2, ![4096, 8]⟩
abbrev S8 : Shape := ⟨1, ![8]⟩
abbrev S1x128x2 : Shape := ⟨3, ![1, 128, 2]⟩
abbrev S8x4096x16 : Shape := ⟨3, ![8, 4096, 16]⟩
abbrev S8x16x14336 : Shape := ⟨3, ![8, 16, 14336]⟩
abbrev S8x16x4096 : Shape := ⟨3, ![8, 16, 4096]⟩
abbrev S128x4096 : Shape := ⟨2, ![128, 4096]⟩
abbrev S8x4096 : Shape := ⟨2, ![8, 4096]⟩
abbrev S128x2 : Shape := ⟨2, ![128, 2]⟩
abbrev S2x128 : Shape := ⟨2, ![2, 128]⟩
abbrev S8x1 : Shape := ⟨2, ![8, 1]⟩
abbrev S128x14336 : Shape := ⟨2, ![128, 14336]⟩
abbrev S32x128 : Shape := ⟨2, ![32, 128]⟩
abbrev S4096x1024 : Shape := ⟨2, ![4096, 1024]⟩
abbrev S128x1024 : Shape := ⟨2, ![128, 1024]⟩
abbrev S16x128x256 : Shape := ⟨3, ![16, 128, 256]⟩
abbrev S128x128 : Shape := ⟨2, ![128, 128]⟩
abbrev S128x32 : Shape := ⟨2, ![128, 32]⟩
abbrev S128 : Shape := ⟨1, ![128]⟩
abbrev S128x1 : Shape := ⟨2, ![128, 1]⟩
abbrev S1x256 : Shape := ⟨2, ![1, 256]⟩
abbrev S128x256 : Shape := ⟨2, ![128, 256]⟩
abbrev S1x128x128 : Shape := ⟨3, ![1, 128, 128]⟩
abbrev S8x128 : Shape := ⟨2, ![8, 128]⟩
abbrev S1x128 : Shape := ⟨2, ![1, 128]⟩
abbrev S8x1x128 : Shape := ⟨3, ![8, 1, 128]⟩
abbrev S8x16x128 : Shape := ⟨3, ![8, 16, 128]⟩
abbrev S1x1 : Shape := ⟨2, ![1, 1]⟩
abbrev S256x256 : Shape := ⟨2, ![256, 256]⟩
abbrev S1x128x256 : Shape := ⟨3, ![1, 128, 256]⟩

abbrev nBuf : Space → Nat
  | .hbm => 20
  | .vmem => 16
  | .smem => 1
  | _ => 0

abbrev bufTy : (tb : Table) → Fin (tcTables nBuf tb) → BufTy
  | .hbm, ⟨0, _⟩ => ⟨S1x128x4096, .bf16⟩
  | .hbm, ⟨1, _⟩ => ⟨S4096x14336, .fp8e4m3⟩
  | .hbm, ⟨2, _⟩ => ⟨S32x112, .f32⟩
  | .hbm, ⟨3, _⟩ => ⟨S4096x8, .bf16⟩
  | .hbm, ⟨4, _⟩ => ⟨S8, .f32⟩
  | .hbm, ⟨5, _⟩ => ⟨S1x128x2, .i32⟩
  | .hbm, ⟨6, _⟩ => ⟨S8x4096x16, .bf16⟩
  | .hbm, ⟨7, _⟩ => ⟨S8x16x14336, .bf16⟩
  | .hbm, ⟨8, _⟩ => ⟨S8x16x4096, .bf16⟩
  | .hbm, ⟨9, _⟩ => ⟨S128x4096, .bf16⟩
  | .hbm, ⟨10, _⟩ => ⟨S8x4096, .bf16⟩
  | .hbm, ⟨11, _⟩ => ⟨S128x2, .i32⟩
  | .hbm, ⟨12, _⟩ => ⟨S2x128, .i32⟩
  | .hbm, ⟨13, _⟩ => ⟨S8x1, .f32⟩
  | .hbm, ⟨14, _⟩ => ⟨S128x14336, .bf16⟩
  | .hbm, ⟨15, _⟩ => ⟨S128x4096, .bf16⟩
  | .hbm, ⟨16, _⟩ => ⟨S128x14336, .bf16⟩
  | .hbm, ⟨17, _⟩ => ⟨S2x128, .f32⟩
  | .hbm, ⟨18, _⟩ => ⟨S128x4096, .fp8e4m3⟩
  | .hbm, ⟨19, _⟩ => ⟨S32x128, .f32⟩
  | .local _ .vmem, ⟨0, _⟩ => ⟨S128x4096, .bf16⟩
  | .local _ .vmem, ⟨1, _⟩ => ⟨S8x4096, .bf16⟩
  | .local _ .vmem, ⟨2, _⟩ => ⟨S8x1, .f32⟩
  | .local _ .vmem, ⟨3, _⟩ => ⟨S2x128, .i32⟩
  | .local _ .vmem, ⟨4, _⟩ => ⟨S128x4096, .bf16⟩
  | .local _ .vmem, ⟨5, _⟩ => ⟨S4096x1024, .fp8e4m3⟩
  | .local _ .vmem, ⟨6, _⟩ => ⟨S4096x1024, .fp8e4m3⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S2x128, .f32⟩
  | .local _ .vmem, ⟨12, _⟩ => ⟨S128x4096, .fp8e4m3⟩
  | .local _ .vmem, ⟨13, _⟩ => ⟨S32x128, .f32⟩
  | .local _ .vmem, ⟨14, _⟩ => ⟨S16x128x256, .bf16⟩
  | .local _ .vmem, ⟨15, _⟩ => ⟨S128x128, .bf16⟩
  | .local _ .smem, ⟨0, _⟩ => ⟨S32x112, .f32⟩
  | _, _ => ⟨S1x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_scratch0 : Ref sig .tc := ⟨.vmem, 14, rfl⟩
abbrev cc0_scratch1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem11_0 : DmaSem sig := 14

abbrev nD : Nat := 1
abbrev τ : Topo := Topo.v7x

variable {F : FTy → Type} [FloatOps F]

abbrev grid0 : Pipeline.Grid := ⟨1, ![14], ![false]⟩

def k0_off1 (i : grid0.Coords) (c0_i32_6 : BitVec 32) : Fin 2 → Nat :=
  let c0_7 : Index := 0#32
  let arg0 : BitVec 32 := BitVec.ofNat 32 (i 0).val
  let c8_i32 : BitVec 32 := 8#32
  let v9 : BitVec 32 := Scalar.muli arg0 c8_i32
  let v10 : BitVec 32 := Scalar.addi v9 c0_i32_6
  let v11 : Index := Scalar.indexCast v10
  ![0, v11.toNat]
def k0_off2 (i : grid0.Coords) (c0_i32_14 : BitVec 32) : Fin 2 → Nat :=
  let c1 : Index := 1#32
  let arg0 : BitVec 32 := BitVec.ofNat 32 (i 0).val
  let c8_i32_13 : BitVec 32 := 8#32
  let v30 : BitVec 32 := Scalar.muli arg0 c8_i32_13
  let v31 : BitVec 32 := Scalar.addi v30 c0_i32_14
  let v32 : Index := Scalar.indexCast v31
  ![1, v32.toNat]
def k0_off3 (i : grid0.Coords) (c0_i32_26 : BitVec 32) : Fin 2 → Nat :=
  let c2 : Index := 2#32
  let arg0 : BitVec 32 := BitVec.ofNat 32 (i 0).val
  let c8_i32_25 : BitVec 32 := 8#32
  let v56 : BitVec 32 := Scalar.muli arg0 c8_i32_25
  let v57 : BitVec 32 := Scalar.addi v56 c0_i32_26
  let v58 : Index := Scalar.indexCast v57
  ![2, v58.toNat]
def k0_off4 (i : grid0.Coords) (c0_i32_34 : BitVec 32) : Fin 2 → Nat :=
  let c3 : Index := 3#32
  let arg0 : BitVec 32 := BitVec.ofNat 32 (i 0).val
  let c8_i32_33 : BitVec 32 := 8#32
  let v77 : BitVec 32 := Scalar.muli arg0 c8_i32_33
  let v78 : BitVec 32 := Scalar.addi v77 c0_i32_34
  let v79 : Index := Scalar.indexCast v78
  ![3, v79.toNat]
def k0_off5 (i : grid0.Coords) (c0_i32_46 : BitVec 32) : Fin 2 → Nat :=
  let c4 : Index := 4#32
  let arg0 : BitVec 32 := BitVec.ofNat 32 (i 0).val
  let c8_i32_45 : BitVec 32 := 8#32
  let v103 : BitVec 32 := Scalar.muli arg0 c8_i32_45
  let v104 : BitVec 32 := Scalar.addi v103 c0_i32_46
  let v105 : Index := Scalar.indexCast v104
  ![4, v105.toNat]
def k0_off6 (i : grid0.Coords) (c0_i32_54 : BitVec 32) : Fin 2 → Nat :=
  let c5 : Index := 5#32
  let arg0 : BitVec 32 := BitVec.ofNat 32 (i 0).val
  let c8_i32_53 : BitVec 32 := 8#32
  let v124 : BitVec 32 := Scalar.muli arg0 c8_i32_53
  let v125 : BitVec 32 := Scalar.addi v124 c0_i32_54
  let v126 : Index := Scalar.indexCast v125
  ![5, v126.toNat]
def k0_off7 (i : grid0.Coords) (c0_i32_66 : BitVec 32) : Fin 2 → Nat :=
  let c6 : Index := 6#32
  let arg0 : BitVec 32 := BitVec.ofNat 32 (i 0).val
  let c8_i32_65 : BitVec 32 := 8#32
  let v150 : BitVec 32 := Scalar.muli arg0 c8_i32_65
  let v151 : BitVec 32 := Scalar.addi v150 c0_i32_66
  let v152 : Index := Scalar.indexCast v151
  ![6, v152.toNat]
def k0_off8 (i : grid0.Coords) (c0_i32_74 : BitVec 32) : Fin 2 → Nat :=
  let c7 : Index := 7#32
  let arg0 : BitVec 32 := BitVec.ofNat 32 (i 0).val
  let c8_i32_73 : BitVec 32 := 8#32
  let v171 : BitVec 32 := Scalar.muli arg0 c8_i32_73
  let v172 : BitVec 32 := Scalar.addi v171 c0_i32_74
  let v173 : Index := Scalar.indexCast v172
  ![7, v173.toNat]
def k0_off9 (i : grid0.Coords) (c0_i32_86 : BitVec 32) : Fin 2 → Nat :=
  let c8 : Index := 8#32
  let arg0 : BitVec 32 := BitVec.ofNat 32 (i 0).val
  let c8_i32_85 : BitVec 32 := 8#32
  let v197 : BitVec 32 := Scalar.muli arg0 c8_i32_85
  let v198 : BitVec 32 := Scalar.addi v197 c0_i32_86
  let v199 : Index := Scalar.indexCast v198
  ![8, v199.toNat]
def k0_off10 (i : grid0.Coords) (c0_i32_94 : BitVec 32) : Fin 2 → Nat :=
  let c9 : Index := 9#32
  let arg0 : BitVec 32 := BitVec.ofNat 32 (i 0).val
  let c8_i32_93 : BitVec 32 := 8#32
  let v218 : BitVec 32 := Scalar.muli arg0 c8_i32_93
  let v219 : BitVec 32 := Scalar.addi v218 c0_i32_94
  let v220 : Index := Scalar.indexCast v219
  ![9, v220.toNat]
def k0_off11 (i : grid0.Coords) (c0_i32_106 : BitVec 32) : Fin 2 → Nat :=
  let c10 : Index := 10#32
  let arg0 : BitVec 32 := BitVec.ofNat 32 (i 0).val
  let c8_i32_105 : BitVec 32 := 8#32
  let v244 : BitVec 32 := Scalar.muli arg0 c8_i32_105
  let v245 : BitVec 32 := Scalar.addi v244 c0_i32_106
  let v246 : Index := Scalar.indexCast v245
  ![10, v246.toNat]
def k0_off12 (i : grid0.Coords) (c0_i32_114 : BitVec 32) : Fin 2 → Nat :=
  let c11 : Index := 11#32
  let arg0 : BitVec 32 := BitVec.ofNat 32 (i 0).val
  let c8_i32_113 : BitVec 32 := 8#32
  let v265 : BitVec 32 := Scalar.muli arg0 c8_i32_113
  let v266 : BitVec 32 := Scalar.addi v265 c0_i32_114
  let v267 : Index := Scalar.indexCast v266
  ![11, v267.toNat]
def k0_off13 (i : grid0.Coords) (c0_i32_126 : BitVec 32) : Fin 2 → Nat :=
  let c12 : Index := 12#32
  let arg0 : BitVec 32 := BitVec.ofNat 32 (i 0).val
  let c8_i32_125 : BitVec 32 := 8#32
  let v291 : BitVec 32 := Scalar.muli arg0 c8_i32_125
  let v292 : BitVec 32 := Scalar.addi v291 c0_i32_126
  let v293 : Index := Scalar.indexCast v292
  ![12, v293.toNat]
def k0_off14 (i : grid0.Coords) (c0_i32_134 : BitVec 32) : Fin 2 → Nat :=
  let c13 : Index := 13#32
  let arg0 : BitVec 32 := BitVec.ofNat 32 (i 0).val
  let c8_i32_133 : BitVec 32 := 8#32
  let v312 : BitVec 32 := Scalar.muli arg0 c8_i32_133
  let v313 : BitVec 32 := Scalar.addi v312 c0_i32_134
  let v314 : Index := Scalar.indexCast v313
  ![13, v314.toNat]
def k0_off15 (i : grid0.Coords) (c0_i32_146 : BitVec 32) : Fin 2 → Nat :=
  let c14 : Index := 14#32
  let arg0 : BitVec 32 := BitVec.ofNat 32 (i 0).val
  let c8_i32_145 : BitVec 32 := 8#32
  let v338 : BitVec 32 := Scalar.muli arg0 c8_i32_145
  let v339 : BitVec 32 := Scalar.addi v338 c0_i32_146
  let v340 : Index := Scalar.indexCast v339
  ![14, v340.toNat]
def k0_off16 (i : grid0.Coords) (c0_i32_154 : BitVec 32) : Fin 2 → Nat :=
  let c15 : Index := 15#32
  let arg0 : BitVec 32 := BitVec.ofNat 32 (i 0).val
  let c8_i32_153 : BitVec 32 := 8#32
  let v359 : BitVec 32 := Scalar.muli arg0 c8_i32_153
  let v360 : BitVec 32 := Scalar.addi v359 c0_i32_154
  let v361 : Index := Scalar.indexCast v360
  ![15, v361.toNat]
def k0_off17 (i : grid0.Coords) (c0_i32_166 : BitVec 32) : Fin 2 → Nat :=
  let c16 : Index := 16#32
  let arg0 : BitVec 32 := BitVec.ofNat 32 (i 0).val
  let c8_i32_165 : BitVec 32 := 8#32
  let v385 : BitVec 32 := Scalar.muli arg0 c8_i32_165
  let v386 : BitVec 32 := Scalar.addi v385 c0_i32_166
  let v387 : Index := Scalar.indexCast v386
  ![16, v387.toNat]
def k0_off18 (i : grid0.Coords) (c0_i32_174 : BitVec 32) : Fin 2 → Nat :=
  let c17 : Index := 17#32
  let arg0 : BitVec 32 := BitVec.ofNat 32 (i 0).val
  let c8_i32_173 : BitVec 32 := 8#32
  let v406 : BitVec 32 := Scalar.muli arg0 c8_i32_173
  let v407 : BitVec 32 := Scalar.addi v406 c0_i32_174
  let v408 : Index := Scalar.indexCast v407
  ![17, v408.toNat]
def k0_off19 (i : grid0.Coords) (c0_i32_186 : BitVec 32) : Fin 2 → Nat :=
  let c18 : Index := 18#32
  let arg0 : BitVec 32 := BitVec.ofNat 32 (i 0).val
  let c8_i32_185 : BitVec 32 := 8#32
  let v432 : BitVec 32 := Scalar.muli arg0 c8_i32_185
  let v433 : BitVec 32 := Scalar.addi v432 c0_i32_186
  let v434 : Index := Scalar.indexCast v433
  ![18, v434.toNat]
def k0_off20 (i : grid0.Coords) (c0_i32_194 : BitVec 32) : Fin 2 → Nat :=
  let c19 : Index := 19#32
  let arg0 : BitVec 32 := BitVec.ofNat 32 (i 0).val
  let c8_i32_193 : BitVec 32 := 8#32
  let v453 : BitVec 32 := Scalar.muli arg0 c8_i32_193
  let v454 : BitVec 32 := Scalar.addi v453 c0_i32_194
  let v455 : Index := Scalar.indexCast v454
  ![19, v455.toNat]
def k0_off21 (i : grid0.Coords) (c0_i32_206 : BitVec 32) : Fin 2 → Nat :=
  let c20 : Index := 20#32
  let arg0 : BitVec 32 := BitVec.ofNat 32 (i 0).val
  let c8_i32_205 : BitVec 32 := 8#32
  let v479 : BitVec 32 := Scalar.muli arg0 c8_i32_205
  let v480 : BitVec 32 := Scalar.addi v479 c0_i32_206
  let v481 : Index := Scalar.indexCast v480
  ![20, v481.toNat]
def k0_off22 (i : grid0.Coords) (c0_i32_214 : BitVec 32) : Fin 2 → Nat :=
  let c21 : Index := 21#32
  let arg0 : BitVec 32 := BitVec.ofNat 32 (i 0).val
  let c8_i32_213 : BitVec 32 := 8#32
  let v500 : BitVec 32 := Scalar.muli arg0 c8_i32_213
  let v501 : BitVec 32 := Scalar.addi v500 c0_i32_214
  let v502 : Index := Scalar.indexCast v501
  ![21, v502.toNat]
def k0_off23 (i : grid0.Coords) (c0_i32_226 : BitVec 32) : Fin 2 → Nat :=
  let c22 : Index := 22#32
  let arg0 : BitVec 32 := BitVec.ofNat 32 (i 0).val
  let c8_i32_225 : BitVec 32 := 8#32
  let v526 : BitVec 32 := Scalar.muli arg0 c8_i32_225
  let v527 : BitVec 32 := Scalar.addi v526 c0_i32_226
  let v528 : Index := Scalar.indexCast v527
  ![22, v528.toNat]
def k0_off24 (i : grid0.Coords) (c0_i32_234 : BitVec 32) : Fin 2 → Nat :=
  let c23 : Index := 23#32
  let arg0 : BitVec 32 := BitVec.ofNat 32 (i 0).val
  let c8_i32_233 : BitVec 32 := 8#32
  let v547 : BitVec 32 := Scalar.muli arg0 c8_i32_233
  let v548 : BitVec 32 := Scalar.addi v547 c0_i32_234
  let v549 : Index := Scalar.indexCast v548
  ![23, v549.toNat]
def k0_off25 (i : grid0.Coords) (c0_i32_246 : BitVec 32) : Fin 2 → Nat :=
  let c24 : Index := 24#32
  let arg0 : BitVec 32 := BitVec.ofNat 32 (i 0).val
  let c8_i32_245 : BitVec 32 := 8#32
  let v573 : BitVec 32 := Scalar.muli arg0 c8_i32_245
  let v574 : BitVec 32 := Scalar.addi v573 c0_i32_246
  let v575 : Index := Scalar.indexCast v574
  ![24, v575.toNat]
def k0_off26 (i : grid0.Coords) (c0_i32_254 : BitVec 32) : Fin 2 → Nat :=
  let c25 : Index := 25#32
  let arg0 : BitVec 32 := BitVec.ofNat 32 (i 0).val
  let c8_i32_253 : BitVec 32 := 8#32
  let v594 : BitVec 32 := Scalar.muli arg0 c8_i32_253
  let v595 : BitVec 32 := Scalar.addi v594 c0_i32_254
  let v596 : Index := Scalar.indexCast v595
  ![25, v596.toNat]
def k0_off27 (i : grid0.Coords) (c0_i32_266 : BitVec 32) : Fin 2 → Nat :=
  let c26 : Index := 26#32
  let arg0 : BitVec 32 := BitVec.ofNat 32 (i 0).val
  let c8_i32_265 : BitVec 32 := 8#32
  let v620 : BitVec 32 := Scalar.muli arg0 c8_i32_265
  let v621 : BitVec 32 := Scalar.addi v620 c0_i32_266
  let v622 : Index := Scalar.indexCast v621
  ![26, v622.toNat]
def k0_off28 (i : grid0.Coords) (c0_i32_274 : BitVec 32) : Fin 2 → Nat :=
  let c27 : Index := 27#32
  let arg0 : BitVec 32 := BitVec.ofNat 32 (i 0).val
  let c8_i32_273 : BitVec 32 := 8#32
  let v641 : BitVec 32 := Scalar.muli arg0 c8_i32_273
  let v642 : BitVec 32 := Scalar.addi v641 c0_i32_274
  let v643 : Index := Scalar.indexCast v642
  ![27, v643.toNat]
def k0_off29 (i : grid0.Coords) (c0_i32_286 : BitVec 32) : Fin 2 → Nat :=
  let c28 : Index := 28#32
  let arg0 : BitVec 32 := BitVec.ofNat 32 (i 0).val
  let c8_i32_285 : BitVec 32 := 8#32
  let v667 : BitVec 32 := Scalar.muli arg0 c8_i32_285
  let v668 : BitVec 32 := Scalar.addi v667 c0_i32_286
  let v669 : Index := Scalar.indexCast v668
  ![28, v669.toNat]
def k0_off30 (i : grid0.Coords) (c0_i32_294 : BitVec 32) : Fin 2 → Nat :=
  let c29 : Index := 29#32
  let arg0 : BitVec 32 := BitVec.ofNat 32 (i 0).val
  let c8_i32_293 : BitVec 32 := 8#32
  let v688 : BitVec 32 := Scalar.muli arg0 c8_i32_293
  let v689 : BitVec 32 := Scalar.addi v688 c0_i32_294
  let v690 : Index := Scalar.indexCast v689
  ![29, v690.toNat]
def k0_off31 (i : grid0.Coords) (c0_i32_306 : BitVec 32) : Fin 2 → Nat :=
  let c30 : Index := 30#32
  let arg0 : BitVec 32 := BitVec.ofNat 32 (i 0).val
  let c8_i32_305 : BitVec 32 := 8#32
  let v714 : BitVec 32 := Scalar.muli arg0 c8_i32_305
  let v715 : BitVec 32 := Scalar.addi v714 c0_i32_306
  let v716 : Index := Scalar.indexCast v715
  ![30, v716.toNat]
def k0_off32 (i : grid0.Coords) (c0_i32_314 : BitVec 32) : Fin 2 → Nat :=
  let c31 : Index := 31#32
  let arg0 : BitVec 32 := BitVec.ofNat 32 (i 0).val
  let c8_i32_313 : BitVec 32 := 8#32
  let v735 : BitVec 32 := Scalar.muli arg0 c8_i32_313
  let v736 : BitVec 32 := Scalar.addi v735 c0_i32_314
  let v737 : Index := Scalar.indexCast v736
  ![31, v737.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S32x112 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x1024 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x4096 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S1x128x4096 : Shape := ⟨3, ![1, 128, 4096]⟩
abbrev S4096x14336 : Shape := ⟨2, ![4096, 14336]⟩
abbrev S32x112 : Shape := ⟨2, ![32, 112]⟩
abbrev S4096x8 : Shape := ⟨2, ![4096, 8]⟩
abbrev S8 : Shape := ⟨1, ![8]⟩
abbrev S1x128x2 : Shape := ⟨3, ![1, 128, 2]⟩
abbrev S8x4096x16 : Shape := ⟨3, ![8, 4096, 16]⟩
abbrev S8x16x14336 : Shape := ⟨3, ![8, 16, 14336]⟩
abbrev S1x128x8 : Shape := ⟨3, ![1, 128, 8]⟩
abbrev S1x1x8 : Shape := ⟨3, ![1, 1, 8]⟩
abbrev S_ : Shape := ⟨0, ![]⟩
abbrev S1x128 : Shape := ⟨2, ![1, 128]⟩
abbrev S1x128x1 : Shape := ⟨3, ![1, 128, 1]⟩
abbrev S128x2x1 : Shape := ⟨3, ![128, 2, 1]⟩
abbrev S1 : Shape := ⟨1, ![1]⟩
abbrev S1x1x1 : Shape := ⟨3, ![1, 1, 1]⟩
abbrev S128x2 : Shape := ⟨2, ![128, 2]⟩
abbrev S1x128x2x1 : Shape := ⟨4, ![1, 128, 2, 1]⟩
abbrev S1x1x1x8 : Shape := ⟨4, ![1, 1, 1, 8]⟩
abbrev S1x128x2x8 : Shape := ⟨4, ![1, 128, 2, 8]⟩
abbrev S1x128x8x16 : Shape := ⟨4, ![1, 128, 8, 16]⟩
abbrev S1x128x8x1 : Shape := ⟨4, ![1, 128, 8, 1]⟩
abbrev S1x128x14336 : Shape := ⟨3, ![1, 128, 14336]⟩
abbrev S2x128 : Shape := ⟨2, ![2, 128]⟩
abbrev S128x14336 : Shape := ⟨2, ![128, 14336]⟩
abbrev S128x4096 : Shape := ⟨2, ![128, 4096]⟩
abbrev S32x128 : Shape := ⟨2, ![32, 128]⟩
abbrev S128x32x128 : Shape := ⟨3, ![128, 32, 128]⟩
abbrev S128x32 : Shape := ⟨2, ![128, 32]⟩
abbrev S128x32x1 : Shape := ⟨3, ![128, 32, 1]⟩
abbrev S32x112x1 : Shape := ⟨3, ![32, 112, 1]⟩
abbrev S32x112x128 : Shape := ⟨3, ![32, 112, 128]⟩
abbrev S32x14336 : Shape := ⟨2, ![32, 14336]⟩
abbrev S32x128x14336 : Shape := ⟨3, ![32, 128, 14336]⟩
abbrev S32x1x14336 : Shape := ⟨3, ![32, 1, 14336]⟩

abbrev nBuf : Space → Nat
  | .hbm => 79
  | .vmem => 7
  | .smem => 0
  | _ => 0

abbrev bufTy : (tb : Table) → Fin (tcTables nBuf tb) → BufTy
  | .hbm, ⟨0, _⟩ => ⟨S1x128x4096, .bf16⟩
  | .hbm, ⟨1, _⟩ => ⟨S4096x14336, .fp8e4m3⟩
  | .hbm, ⟨2, _⟩ => ⟨S32x112, .f32⟩
  | .hbm, ⟨3, _⟩ => ⟨S4096x8, .bf16⟩
  | .hbm, ⟨4, _⟩ => ⟨S8, .f32⟩
  | .hbm, ⟨5, _⟩ => ⟨S1x128x2, .i32⟩
  | .hbm, ⟨6, _⟩ => ⟨S8x4096x16, .bf16⟩
  | .hbm, ⟨7, _⟩ => ⟨S8x16x14336, .bf16⟩
  | .hbm, ⟨8, _⟩ => ⟨S1x128x8, .f32⟩
  | .hbm, ⟨9, _⟩ => ⟨S1x1x8, .f32⟩
  | .hbm, ⟨10, _⟩ => ⟨S1x128x8, .f32⟩
  | .hbm, ⟨11, _⟩ => ⟨S1x128x8, .f32⟩
  | .hbm, ⟨12, _⟩ => ⟨S_, .f32⟩
  | .hbm, ⟨13, _⟩ => ⟨S1x128, .f32⟩
  | .hbm, ⟨14, _⟩ => ⟨S_, .f32⟩
  | .hbm, ⟨15, _⟩ => ⟨S1x128, .f32⟩
  | .hbm, ⟨16, _⟩ => ⟨S1x128, .f32⟩
  | .hbm, ⟨17, _⟩ => ⟨S1x128x1, .f32⟩
  | .hbm, ⟨18, _⟩ => ⟨S1x128x8, .f32⟩
  | .hbm, ⟨19, _⟩ => ⟨S1x128x8, .f32⟩
  | .hbm, ⟨20, _⟩ => ⟨S1x128x8, .f32⟩
  | .hbm, ⟨21, _⟩ => ⟨S_, .f32⟩
  | .hbm, ⟨22, _⟩ => ⟨S1x128, .f32⟩
  | .hbm, ⟨23, _⟩ => ⟨S1x128x1, .f32⟩
  | .hbm, ⟨24, _⟩ => ⟨S1x128x8, .f32⟩
  | .hbm, ⟨25, _⟩ => ⟨S1x128x8, .f32⟩
  | .hbm, ⟨26, _⟩ => ⟨S_, .i32⟩
  | .hbm, ⟨27, _⟩ => ⟨S1x128x2, .i32⟩
  | .hbm, ⟨28, _⟩ => ⟨S1x128x2, .i1⟩
  | .hbm, ⟨29, _⟩ => ⟨S_, .i32⟩
  | .hbm, ⟨30, _⟩ => ⟨S1x128x2, .i32⟩
  | .hbm, ⟨31, _⟩ => ⟨S1x128x2, .i32⟩
  | .hbm, ⟨32, _⟩ => ⟨S1x128x2, .i32⟩
  | .hbm, ⟨33, _⟩ => ⟨S128x2x1, .i32⟩
  | .hbm, ⟨34, _⟩ => ⟨S1, .i32⟩
  | .hbm, ⟨35, _⟩ => ⟨S_, .i32⟩
  | .hbm, ⟨36, _⟩ => ⟨S128x2x1, .i32⟩
  | .hbm, ⟨37, _⟩ => ⟨S128x2x1, .i1⟩
  | .hbm, ⟨38, _⟩ => ⟨S1x1x1, .i32⟩
  | .hbm, ⟨39, _⟩ => ⟨S128x2x1, .i32⟩
  | .hbm, ⟨40, _⟩ => ⟨S128x2x1, .i1⟩
  | .hbm, ⟨41, _⟩ => ⟨S128x2x1, .i1⟩
  | .hbm, ⟨42, _⟩ => ⟨S_, .i1⟩
  | .hbm, ⟨43, _⟩ => ⟨S128x2, .i1⟩
  | .hbm, ⟨44, _⟩ => ⟨S1x128x2, .f32⟩
  | .hbm, ⟨45, _⟩ => ⟨S1x128x2, .i1⟩
  | .hbm, ⟨46, _⟩ => ⟨S_, .f32⟩
  | .hbm, ⟨47, _⟩ => ⟨S1x128x2, .f32⟩
  | .hbm, ⟨48, _⟩ => ⟨S1x128x2, .f32⟩
  | .hbm, ⟨49, _⟩ => ⟨S_, .f32⟩
  | .hbm, ⟨50, _⟩ => ⟨S1x128, .f32⟩
  | .hbm, ⟨51, _⟩ => ⟨S1x128x1, .f32⟩
  | .hbm, ⟨52, _⟩ => ⟨S1x128x2, .f32⟩
  | .hbm, ⟨53, _⟩ => ⟨S1x128x2, .f32⟩
  | .hbm, ⟨54, _⟩ => ⟨S1x128x2x1, .i32⟩
  | .hbm, ⟨55, _⟩ => ⟨S1x1x1x8, .i32⟩
  | .hbm, ⟨56, _⟩ => ⟨S1x128x2x8, .i32⟩
  | .hbm, ⟨57, _⟩ => ⟨S1x128x2x8, .i32⟩
  | .hbm, ⟨58, _⟩ => ⟨S1x128x2x8, .i1⟩
  | .hbm, ⟨59, _⟩ => ⟨S1x128x2x8, .f32⟩
  | .hbm, ⟨60, _⟩ => ⟨S1x128x2x1, .f32⟩
  | .hbm, ⟨61, _⟩ => ⟨S1x128x2x8, .f32⟩
  | .hbm, ⟨62, _⟩ => ⟨S1x128x2x8, .f32⟩
  | .hbm, ⟨63, _⟩ => ⟨S_, .f32⟩
  | .hbm, ⟨64, _⟩ => ⟨S1x128x8, .f32⟩
  | .hbm, ⟨65, _⟩ => ⟨S1x128x8x16, .f32⟩
  | .hbm, ⟨66, _⟩ => ⟨S_, .f32⟩
  | .hbm, ⟨67, _⟩ => ⟨S1x128x8, .f32⟩
  | .hbm, ⟨68, _⟩ => ⟨S1x128x8, .f32⟩
  | .hbm, ⟨69, _⟩ => ⟨S1x128x8x1, .f32⟩
  | .hbm, ⟨70, _⟩ => ⟨S1x128x8x16, .f32⟩
  | .hbm, ⟨71, _⟩ => ⟨S1x128x8x16, .f32⟩
  | .hbm, ⟨72, _⟩ => ⟨S1x128x8x16, .bf16⟩
  | .hbm, ⟨73, _⟩ => ⟨S1x128x14336, .f32⟩
  | .hbm, ⟨74, _⟩ => ⟨S128x2, .f32⟩
  | .hbm, ⟨75, _⟩ => ⟨S2x128, .f32⟩
  | .hbm, ⟨76, _⟩ => ⟨S128x14336, .bf16⟩
  | .hbm, ⟨77, _⟩ => ⟨S128x4096, .fp8e4m3⟩
  | .hbm, ⟨78, _⟩ => ⟨S32x128, .f32⟩
  | .local _ .vmem, ⟨0, _⟩ => ⟨S1x128x4096, .bf16⟩
  | .local _ .vmem, ⟨1, _⟩ => ⟨S4096x14336, .fp8e4m3⟩
  | .local _ .vmem, ⟨2, _⟩ => ⟨S32x112, .f32⟩
  | .local _ .vmem, ⟨3, _⟩ => ⟨S1x128x14336, .f32⟩
  | .local _ .vmem, ⟨4, _⟩ => ⟨S128x14336, .bf16⟩
  | .local _ .vmem, ⟨5, _⟩ => ⟨S128x4096, .fp8e4m3⟩
  | .local _ .vmem, ⟨6, _⟩ => ⟨S32x128, .f32⟩
  | _, _ => ⟨S1x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v15 : Ref sig .tc := ⟨.hbm, 48, rfl⟩
abbrev main_cst_2 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_cst_3 : Ref sig .tc := ⟨.hbm, 63, rfl⟩
abbrev main_v24 : Ref sig .tc := ⟨.hbm, 64, rfl⟩
abbrev main_v25 : Ref sig .tc := ⟨.hbm, 65, rfl⟩
abbrev main_cst_4 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35_0 : Ref sig .tc := ⟨.hbm, 76, rfl⟩
abbrev main_v35_1 : Ref sig .tc := ⟨.hbm, 77, rfl⟩
abbrev main_v35_2 : Ref sig .tc := ⟨.hbm, 78, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x14336 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x112 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128x14336 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x14336 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Runs.lean ====
module

public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import proofs.«01_k».proof.Proof.Gen.KernelIdeal.Frame

@[expose] public section

set_option synthInstance.maxSize 4096
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, k0_cond1, e0]
    word_cmp
   : ∀ t : Fin grid0.N, cond0_0 (grid0.coords t) ↔ t.val % 14 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an output stored at every point, under no condition). -/
theorem liveAt0_8 : ∀ t : Fin cfg0.N, cfg0.idle 8 (grid0.coords t) = false := fun _ => rfl
/-- Whether output 9's buffer is FRESH at each position `1 ‥ N` — holds nothing the body stored since the region's entry or the
    last write-back (written back at the point before, or idle there and fresh before it) —, as a bitmask, bit `n` for position `n + 1`; position 0 is fresh. `freshTab0_9_step` checks it against the configuration's own
    step point by point and Lib/Pipeline/TableIdle.lean `Cfg.fresh_tab` makes it `Cfg.fresh` (`fresh0_9_eq`). -/
def freshTab0_9 : ℕ → Bool
  | 0 => true
  | n + 1 => (0x2000 : ℕ).testBit n
theorem freshTab0_9_step : ∀ t : Fin cfg0.N,
    freshTab0_9 (t.val + 1) = ((cfg0.win 9).flush t || (cfg0.idle 9 (cfg0.grid.coords t) && freshTab0_9 t.val)) := by decide +kernel
theorem fresh0_9_eq (t : Fin cfg0.N) : cfg0.fresh 9 t.val = freshTab0_9 t.val :=
  Pipeline.Cfg.fresh_tab cfg0 9 freshTab0_9 rfl freshTab0_9_step t.val (Nat.le_of_lt t.isLt)
/-- At the first point output 9 is live: the prologue stores into it. -/
theorem liveAt0_9_A : ∀ t : Fin cfg0.N, cond0_0 (grid0.coords t) → cfg0.idle 9 (grid0.coords t) = false := by decide +kernel
/-- At every later point output 9 is idle. -/
theorem idleAt0_9_B : ∀ t : Fin cfg0.N, ¬cond0_0 (grid0.coords t) → cfg0.idle 9 (grid0.coords t) = true := by decide +kernel
/-- At every later point output 9's buffer holds what the first point stored. -/
theorem notFresh0_9_B : ∀ t : Fin cfg0.N, ¬cond0_0 (grid0.coords t) → cfg0.fresh 9 t.val = false := by
  intro t; rw [fresh0_9_eq t]; revert t; decide +kernel
/-- Whether output 10's buffer is FRESH at each position `1 ‥ N` — holds nothing the body stored since the region's entry or the
    last write-back (written back at the point before, or idle there and fresh before it) —, as a bitmask, bit `n` for position `n + 1`; position 0 is fresh. `freshTab0_10_step` checks it against the configuration's own
    step point by point and Lib/Pipeline/TableIdle.lean `Cfg.fresh_tab` makes it `Cfg.fresh` (`fresh0_10_eq`). -/
def freshTab0_10 : ℕ → Bool
  | 0 => true
  | n + 1 => (0x2000 : ℕ).testBit n
theorem freshTab0_10_step : ∀ t : Fin cfg0.N,
    freshTab0_10 (t.val + 1) = ((cfg0.win 10).flush t || (cfg0.idle 10 (cfg0.grid.coords t) && freshTab0_10 t.val)) := by decide +kernel
theorem fresh0_10_eq (t : Fin cfg0.N) : cfg0.fresh 10 t.val = freshTab0_10 t.val :=
  Pipeline.Cfg.fresh_tab cfg0 10 freshTab0_10 rfl freshTab0_10_step t.val (Nat.le_of_lt t.isLt)
/-- At the first point output 10 is live: the prologue stores into it. -/
theorem liveAt0_10_A : ∀ t : Fin cfg0.N, cond0_0 (grid0.coords t) → cfg0.idle 10 (grid0.coords t) = false := by decide +kernel
/-- At every later point output 10 is idle. -/
theorem idleAt0_10_B : ∀ t : Fin cfg0.N, ¬cond0_0 (grid0.coords t) → cfg0.idle 10 (grid0.coords t) = true := by decide +kernel
/-- At every later point output 10's buffer holds what the first point stored. -/
theorem notFresh0_10_B : ∀ t : Fin cfg0.N, ¬cond0_0 (grid0.coords t) → cfg0.fresh 10 t.val = false := by
  intro t; rw [fresh0_10_eq t]; revert t; decide +kernel
/-- Whether output 11's buffer is FRESH at each position `1 ‥ N` — holds nothing the body stored since the region's entry or the
    last write-back (written back at the point before, or idle there and fresh before it) —, as a bitmask, bit `n` for position `n + 1`; position 0 is fresh. `freshTab0_11_step` checks it against the configuration's own
    step point by point and Lib/Pipeline/TableIdle.lean `Cfg.fresh_tab` makes it `Cfg.fresh` (`fresh0_11_eq`). -/
def freshTab0_11 : ℕ → Bool
  | 0 => true
  | n + 1 => (0x2000 : ℕ).testBit n
theorem freshTab0_11_step : ∀ t : Fin cfg0.N,
    freshTab0_11 (t.val + 1) = ((cfg0.win 11).flush t || (cfg0.idle 11 (cfg0.grid.coords t) && freshTab0_11 t.val)) := by decide +kernel
theorem fresh0_11_eq (t : Fin cfg0.N) : cfg0.fresh 11 t.val = freshTab0_11 t.val :=
  Pipeline.Cfg.fresh_tab cfg0 11 freshTab0_11 rfl freshTab0_11_step t.val (Nat.le_of_lt t.isLt)
/-- At the first point output 11 is live: the prologue stores into it. -/
theorem liveAt0_11_A : ∀ t : Fin cfg0.N, cond0_0 (grid0.coords t) → cfg0.idle 11 (grid0.coords t) = false := by decide +kernel
/-- At every later point output 11 is idle. -/
theorem idleAt0_11_B : ∀ t : Fin cfg0.N, ¬cond0_0 (grid0.coords t) → cfg0.idle 11 (grid0.coords t) = true := by decide +kernel
/-- At every later point output 11's buffer holds what the first point stored. -/
theorem notFresh0_11_B : ∀ t : Fin cfg0.N, ¬cond0_0 (grid0.coords t) → cfg0.fresh 11 t.val = false := by
  intro t; rw [fresh0_11_eq t]; revert t; decide +kernel

/-! ## The staging and scratch memrefs -/

/-- One staging buffer of output window 8, through which its contents are stated (`View.read_writes_of_cover`: the
    choice does not matter). -/
abbrev VO0_8 : View sig .tc .vmem S128x1024 .bf16 := (Memref.whole cc0_stg8_0 : Memref sig .tc .vmem S128x1024 .bf16).view
/-- One staging buffer of output window 9, through which its contents are stated (`View.read_writes_of_cover`: the
    choice does not matter). -/
abbrev VO0_9 : View sig .tc .vmem S2x128 .f32 := (Memref.whole cc0_stg9_0 : Memref sig .tc .vmem S2x128 .f32).view
/-- One staging buffer of output window 10, through which its contents are stated (`View.read_writes_of_cover`: the
    choice does not matter). -/
abbrev VO0_10 : View sig .tc .vmem S128x4096 .fp8e4m3 := (Memref.whole cc0_stg10_0 : Memref sig .tc .vmem S128x4096 .fp8e4m3).view
/-- One staging buffer of output window 11, through which its contents are stated (`View.read_writes_of_cover`: the
    choice does not matter). -/
abbrev VO0_11 : View sig .tc .vmem S32x128 .f32 := (Memref.whole cc0_stg11_0 : Memref sig .tc .vmem S32x128 .f32).view
/-- Each window's current staging memref at point `t`, spelled as the pipeline passes it (`bodyAt0`), and its wholeness. -/
abbrev ms0_0 (t : Fin cfg0.N) : Memref sig .tc .smem S32x112 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x128 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x4096 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4096x1024 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x4096 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S32x128 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S16x128x256 .bf16 := Memref.whole cc0_scratch0
abbrev scM0_1 : Memref sig .tc .vmem S128x128 .bf16 := Memref.whole cc0_scratch1
/-- The scratch `arg13` the kernel carries between points, as a view: what it holds is stated through it. -/
abbrev VS0_0 : View sig .tc .vmem S16x128x256 .bf16 := scM0_0.view
/-- The scratch `arg14` the kernel carries between points, as a view: what it holds is stated through it. -/
abbrev VS0_1 : View sig .tc .vmem S128x128 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.Body.lean ====
module

public import proofs.«01_k».proof.Proof.Gen.KernelIdeal.Skeleton
public import proofs.«01_k».proof.Proof.Runs

@[expose] public section

set_option synthInstance.maxSize 4096
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What the body does at the first point only: quantise the tokens, dense the gates, build the
    gated low-rank activations. -/
def prologue (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole) :
    Prog (TpuEff nD τ sig (Elt F) Λ₀ .tc) PUnit := do
  let ⟨v3035, v3036, v3064, v3076, v3077⟩ : Σ' (v3035 : IVec S128x32 32) (v3036 : FVec F S128x32 .f32) (v3064 : FVec F S128x1 .f32) (v3076 : FVec F S128x128 .bf16), FVec F S128x1 .bf16 ← k0_part1 i arg1 harg1 arg2 harg2 arg3 harg3 arg4 harg4 arg5 harg5 arg6 harg6 arg7 harg7 arg8 harg8 arg9 harg9 arg10 harg10 arg11 harg11 arg12 harg12 arg13 harg13 arg14 harg14
  let ⟨v3087, v3115, v3120, cst_1521⟩ : Σ' (v3087 : FVec F S128x32 .f32) (v3115 : FVec F S128x1 .f32) (v3120 : FVec F S128x128 .f32), F .f32 ← k0_part2 i arg1 harg1 arg2 harg2 arg3 harg3 arg4 harg4 arg5 harg5 arg6 harg6 arg7 harg7 arg8 harg8 arg9 harg9 arg10 harg10 arg11 harg11 arg12 harg12 arg13 harg13 arg14 harg14 v3035 v3036 v3064 v3076 v3077
  let ⟨v3138, v3141, v3159, v3161, v3162⟩ : Σ' (v3138 : FVec F S128x32 .f32) (v3141 : FVec F S128x128 .f32) (v3159 : IVec S128x1 32) (v3161 : IVec S128x1 1), IVec S128x1 32 ← k0_part3 i arg1 harg1 arg2 harg2 arg3 harg3 arg4 harg4 arg5 harg5 arg6 harg6 arg7 harg7 arg8 harg8 arg9 harg9 arg10 harg10 arg11 harg11 arg12 harg12 arg13 harg13 arg14 harg14 v3035 v3087 v3115 v3120 cst_1521
  let ⟨v3189, v3192, v3200, v3204, c0_i32_1553⟩ : Σ' (v3189 : FVec F S128x32 .f32) (v3192 : FVec F S128x128 .f32) (v3200 : IVec S1x256 32) (v3204 : IVec S128x256 1), BitVec 32 ← k0_part4 i arg1 harg1 arg2 harg2 arg3 harg3 arg4 harg4 arg5 harg5 arg6 harg6 arg7 harg7 arg8 harg8 arg9 harg9 arg10 harg10 arg11 harg11 arg12 harg12 arg13 harg13 arg14 harg14 v3035 v3138 v3141 v3159 v3161 v3162
  let ⟨v3240, v3243, v3246⟩ : Σ' (v3240 : FVec F S128x32 .f32) (v3243 : FVec F S128x128 .f32), FVec F S128x1 .f32 ← k0_part5 i arg1 harg1 arg2 harg2 arg3 harg3 arg4 harg4 arg5 harg5 arg6 harg6 arg7 harg7 arg8 harg8 arg9 harg9 arg10 harg10 arg11 harg11 arg12 harg12 arg13 harg13 arg14 harg14 v3035 v3189 v3192 v3200 v3204 c0_i32_1553
  let ⟨v3268, v3288⟩ : Σ' (v3268 : FVec F S128x1 .f32), IVec S128x32 1 ← k0_part6 i arg1 harg1 arg2 harg2 arg3 harg3 arg4 harg4 arg5 harg5 arg6 harg6 arg7 harg7 arg8 harg8 arg9 harg9 arg10 harg10 arg11 harg11 arg12 harg12 arg13 harg13 arg14 harg14 v3035 v3243 v3246
  let ⟨v3291, v3319, v3331, v3332⟩ : Σ' (v3291 : FVec F S128x32 .f32) (v3319 : FVec F S128x1 .f32) (v3331 : FVec F S128x128 .bf16), FVec F S128x1 .bf16 ← k0_part7 i arg1 harg1 arg2 harg2 arg3 harg3 arg4 harg4 arg5 harg5 arg6 harg6 arg7 harg7 arg8 harg8 arg9 harg9 arg10 harg10 arg11 harg11 arg12 harg12 arg13 harg13 arg14 harg14 v3240 v3268 v3288
  let ⟨v3342, v3370, v3375, cst_1616⟩ : Σ' (v3342 : FVec F S128x32 .f32) (v3370 : FVec F S128x1 .f32) (v3375 : FVec F S128x128 .f32), F .f32 ← k0_part8 i arg1 harg1 arg2 harg2 arg3 harg3 arg4 harg4 arg5 harg5 arg6 harg6 arg7 harg7 arg8 harg8 arg9 harg9 arg10 harg10 arg11 harg11 arg12 harg12 arg13 harg13 arg14 harg14 v3035 v3291 v3319 v3331 v3332
  let ⟨v3393, v3396, v3414, v3416, v3417⟩ : Σ' (v3393 : FVec F S128x32 .f32) (v3396 : FVec F S128x128 .f32) (v3414 : IVec S128x1 32) (v3416 : IVec S128x1 1), IVec S128x1 32 ← k0_part9 i arg1 harg1 arg2 harg2 arg3 harg3 arg4 harg4 arg5 harg5 arg6 harg6 arg7 harg7 arg8 harg8 arg9 harg9 arg10 harg10 arg11 harg11 arg12 harg12 arg13 harg13 arg14 harg14 v3035 v3342 v3370 v3375 cst_1616
  let ⟨v3444, v3447, v3455, v3459, c0_i32_1648⟩ : Σ' (v3444 : FVec F S128x32 .f32) (v3447 : FVec F S128x128 .f32) (v3455 : IVec S1x256 32) (v3459 : IVec S128x256 1), BitVec 32 ← k0_part10 i arg1 harg1 arg2 harg2 arg3 harg3 arg4 harg4 arg5 harg5 arg6 harg6 arg7 harg7 arg8 harg8 arg9 harg9 arg10 harg10 arg11 harg11 arg12 harg12 arg13 harg13 arg14 harg14 v3035 v3393 v3396 v3414 v3416 v3417
  let ⟨v3495, v3498, v3501⟩ : Σ' (v3495 : FVec F S128x32 .f32) (v3498 : FVec F S128x128 .f32), FVec F S128x1 .f32 ← k0_part11 i arg1 harg1 arg2 harg2 arg3 harg3 arg4 harg4 arg5 harg5 arg6 harg6 arg7 harg7 arg8 harg8 arg9 harg9 arg10 harg10 arg11 harg11 arg12 harg12 arg13 harg13 arg14 harg14 v3035 v3444 v3447 v3455 v3459 c0_i32_1648
  let ⟨v3523, v3543⟩ : Σ' (v3523 : FVec F S128x1 .f32), IVec S128x32 1 ← k0_part12 i arg1 harg1 arg2 harg2 arg3 harg3 arg4 harg4 arg5 harg5 arg6 harg6 arg7 harg7 arg8 harg8 arg9 harg9 arg10 harg10 arg11 harg11 arg12 harg12 arg13 harg13 arg14 harg14 v3035 v3498 v3501
  let ⟨v3546, v3574, v3586, v3587⟩ : Σ' (v3546 : FVec F S128x32 .f32) (v3574 : FVec F S128x1 .f32) (v3586 : FVec F S128x128 .bf16), FVec F S128x1 .bf16 ← k0_part13 i arg1 harg1 arg2 harg2 arg3 harg3 arg4 harg4 arg5 harg5 arg6 harg6 arg7 harg7 arg8 harg8 arg9 harg9 arg10 harg10 arg11 harg11 arg12 harg12 arg13 harg13 arg14 harg14 v3495 v3523 v3543
  let ⟨v3597, v3625, v3630, cst_1709⟩ : Σ' (v3597 : FVec F S128x32 .f32) (v3625 : FVec F S128x1 .f32) (v3630 : FVec F S128x128 .f32), F .f32 ← k0_part14 i arg1 harg1 arg2 harg2 arg3 harg3 arg4 harg4 arg5 harg5 arg6 harg6 arg7 harg7 arg8 harg8 arg9 harg9 arg10 harg10 arg11 harg11 arg12 harg12 arg13 harg13 arg14 harg14 v3035 v3546 v3574 v3586 v3587
  let ⟨v3648, v3651, v3669, v3671, v3672⟩ : Σ' (v3648 : FVec F S128x32 .f32) (v3651 : FVec F S128x128 .f32) (v3669 : IVec S128x1 32) (v3671 : IVec S128x1 1), IVec S128x1 32 ← k0_part15 i arg1 harg1 arg2 harg2 arg3 harg3 arg4 harg4 arg5 harg5 arg6 harg6 arg7 harg7 arg8 harg8 arg9 harg9 arg10 harg10 arg11 harg11 arg12 harg12 arg13 harg13 arg14 harg14 v3035 v3597 v3625 v3630 cst_1709
  let ⟨v3699, v3702, v3710, v3714, c0_i32_1739⟩ : Σ' (v3699 : FVec F S128x32 .f32) (v3702 : FVec F S128x128 .f32) (v3710 : IVec S1x256 32) (v3714 : IVec S128x256 1), BitVec 32 ← k0_part16 i arg1 harg1 arg2 harg2 arg3 harg3 arg4 harg4 arg5 harg5 arg6 harg6 arg7 harg7 arg8 harg8 arg9 harg9 arg10 harg10 arg11 harg11 arg12 harg12 arg13 harg13 arg14 harg14 v3035 v3648 v3651 v3669 v3671 v3672
  let ⟨v3750, v3753, v3756⟩ : Σ' (v3750 : FVec F S128x32 .f32) (v3753 : FVec F S128x128 .f32), FVec F S128x1 .f32 ← k0_part17 i arg1 harg1 arg2 harg2 arg3 harg3 arg4 harg4 arg5 harg5 arg6 harg6 arg7 harg7 arg8 harg8 arg9 harg9 arg10 harg10 arg11 harg11 arg12 harg12 arg13 harg13 arg14 harg14 v3035 v3699 v3702 v3710 v3714 c0_i32_1739
  let ⟨v3778, v3798⟩ : Σ' (v3778 : FVec F S128x1 .f32), IVec S128x32 1 ← k0_part18 i arg1 harg1 arg2 harg2 arg3 harg3 arg4 harg4 arg5 harg5 arg6 harg6 arg7 harg7 arg8 harg8 arg9 harg9 arg10 harg10 arg11 harg11 arg12 harg12 arg13 harg13 arg14 harg14 v3035 v3753 v3756
  let ⟨v3801, v3829, v3841, v3842⟩ : Σ' (v3801 : FVec F S128x32 .f32) (v3829 : FVec F S128x1 .f32) (v3841 : FVec F S128x128 .bf16), FVec F S128x1 .bf16 ← k0_part19 i arg1 harg1 arg2 harg2 arg3 harg3 arg4 harg4 arg5 harg5 arg6 harg6 arg7 harg7 arg8 harg8 arg9 harg9 arg10 harg10 arg11 harg11 arg12 harg12 arg13 harg13 arg14 harg14 v3750 v3778 v3798
  let ⟨v3852, v3880, v3885, cst_1799⟩ : Σ' (v3852 : FVec F S128x32 .f32) (v3880 : FVec F S128x1 .f32) (v3885 : FVec F S128x128 .f32), F .f32 ← k0_part20 i arg1 harg1 arg2 harg2 arg3 harg3 arg4 harg4 arg5 harg5 arg6 harg6 arg7 harg7 arg8 harg8 arg9 harg9 arg10 harg10 arg11 harg11 arg12 harg12 arg13 harg13 arg14 harg14 v3035 v3801 v3829 v3841 v3842
  let ⟨v3903, v3906, v3924, v3926, v3927⟩ : Σ' (v3903 : FVec F S128x32 .f32) (v3906 : FVec F S128x128 .f32) (v3924 : IVec S128x1 32) (v3926 : IVec S128x1 1), IVec S128x1 32 ← k0_part21 i arg1 harg1 arg2 harg2 arg3 harg3 arg4 harg4 arg5 harg5 arg6 harg6 arg7 harg7 arg8 harg8 arg9 harg9 arg10 harg10 arg11 harg11 arg12 harg12 arg13 harg13 arg14 harg14 v3035 v3852 v3880 v3885 cst_1799
  let ⟨v3954, v3957, v3965, v3969, c0_i32_1829⟩ : Σ' (v3954 : FVec F S128x32 .f32) (v3957 : FVec F S128x128 .f32) (v3965 : IVec S1x256 32) (v3969 : IVec S128x256 1), BitVec 32 ← k0_part22 i arg1 harg1 arg2 harg2 arg3 harg3 arg4 harg4 arg5 harg5 arg6 harg6 arg7 harg7 arg8 harg8 arg9 harg9 arg10 harg10 arg11 harg11 arg12 harg12 arg13 harg13 arg14 harg14 v3035 v3903 v3906 v3924 v3926 v3927
  let ⟨v4005, v4008, v4011⟩ : Σ' (v4005 : FVec F S128x32 .f32) (v4008 : FVec F S128x128 .f32), FVec F S128x1 .f32 ← k0_part23 i arg1 harg1 arg2 harg2 arg3 harg3 arg4 harg4 arg5 harg5 arg6 harg6 arg7 harg7 arg8 harg8 arg9 harg9 arg10 harg10 arg11 harg11 arg12 harg12 arg13 harg13 arg14 harg14 v3035 v3954 v3957 v3965 v3969 c0_i32_1829
  let ⟨v4033, v4053⟩ : Σ' (v4033 : FVec F S128x1 .f32), IVec S128x32 1 ← k0_part24 i arg1 harg1 arg2 harg2 arg3 harg3 arg4 harg4 arg5 harg5 arg6 harg6 arg7 harg7 arg8 harg8 arg9 harg9 arg10 harg10 arg11 harg11 arg12 harg12 arg13 harg13 arg14 harg14 v3035 v4008 v4011
  let ⟨v4056, v4084, v4096, v4097⟩ : Σ' (v4056 : FVec F S128x32 .f32) (v4084 : FVec F S128x1 .f32) (v4096 : FVec F S128x128 .bf16), FVec F S128x1 .bf16 ← k0_part25 i arg1 harg1 arg2 harg2 arg3 harg3 arg4 harg4 arg5 harg5 arg6 harg6 arg7 harg7 arg8 harg8 arg9 harg9 arg10 harg10 arg11 harg11 arg12 harg12 arg13 harg13 arg14 harg14 v4005 v4033 v4053
  let ⟨v4107, v4135, v4140, cst_1889⟩ : Σ' (v4107 : FVec F S128x32 .f32) (v4135 : FVec F S128x1 .f32) (v4140 : FVec F S128x128 .f32), F .f32 ← k0_part26 i arg1 harg1 arg2 harg2 arg3 harg3 arg4 harg4 arg5 harg5 arg6 harg6 arg7 harg7 arg8 harg8 arg9 harg9 arg10 harg10 arg11 harg11 arg12 harg12 arg13 harg13 arg14 harg14 v3035 v4056 v4084 v4096 v4097
  let ⟨v4158, v4161, v4179, v4181, v4182⟩ : Σ' (v4158 : FVec F S128x32 .f32) (v4161 : FVec F S128x128 .f32) (v4179 : IVec S128x1 32) (v4181 : IVec S128x1 1), IVec S128x1 32 ← k0_part27 i arg1 harg1 arg2 harg2 arg3 harg3 arg4 harg4 arg5 harg5 arg6 harg6 arg7 harg7 arg8 harg8 arg9 harg9 arg10 harg10 arg11 harg11 arg12 harg12 arg13 harg13 arg14 harg14 v3035 v4107 v4135 v4140 cst_1889
  let ⟨v4209, v4212, v4220, v4224, c0_i32_1919⟩ : Σ' (v4209 : FVec F S128x32 .f32) (v4212 : FVec F S128x128 .f32) (v4220 : IVec S1x256 32) (v4224 : IVec S128x256 1), BitVec 32 ← k0_part28 i arg1 harg1 arg2 harg2 arg3 harg3 arg4 harg4 arg5 harg5 arg6 harg6 arg7 harg7 arg8 harg8 arg9 harg9 arg10 harg10 arg11 harg11 arg12 harg12 arg13 harg13 arg14 harg14 v3035 v4158 v4161 v4179 v4181 v4182
  let ⟨v4260, v4263, v4266⟩ : Σ' (v4260 : FVec F S128x32 .f32) (v4263 : FVec F S128x128 .f32), FVec F S128x1 .f32 ← k0_part29 i arg1 harg1 arg2 harg2 arg3 harg3 arg4 harg4 arg5 harg5 arg6 harg6 arg7 harg7 arg8 harg8 arg9 harg9 arg10 harg10 arg11 harg11 arg12 harg12 arg13 harg13 arg14 harg14 v3035 v4209 v4212 v4220 v4224 c0_i32_1919
  let ⟨v4288, v4308⟩ : Σ' (v4288 : FVec F S128x1 .f32), IVec S128x32 1 ← k0_part30 i arg1 harg1 arg2 harg2 arg3 harg3 arg4 harg4 arg5 harg5 arg6 harg6 arg7 harg7 arg8 harg8 arg9 harg9 arg10 harg10 arg11 harg11 arg12 harg12 arg13 harg13 arg14 harg14 v3035 v4263 v4266
  let ⟨v4311, v4339, v4351, v4352⟩ : Σ' (v4311 : FVec F S128x32 .f32) (v4339 : FVec F S128x1 .f32) (v4351 : FVec F S128x128 .bf16), FVec F S128x1 .bf16 ← k0_part31 i arg1 harg1 arg2 harg2 arg3 harg3 arg4 harg4 arg5 harg5 arg6 harg6 arg7 harg7 arg8 harg8 arg9 harg9 arg10 harg10 arg11 harg11 arg12 harg12 arg13 harg13 arg14 harg14 v4260 v4288 v4308
  let ⟨v4362, v4390, v4395, cst_1979⟩ : Σ' (v4362 : FVec F S128x32 .f32) (v4390 : FVec F S128x1 .f32) (v4395 : FVec F S128x128 .f32), F .f32 ← k0_part32 i arg1 harg1 arg2 harg2 arg3 harg3 arg4 harg4 arg5 harg5 arg6 harg6 arg7 harg7 arg8 harg8 arg9 harg9 arg10 harg10 arg11 harg11 arg12 harg12 arg13 harg13 arg14 harg14 v3035 v4311 v4339 v4351 v4352
  let ⟨v4413, v4416, v4434, v4436, v4437⟩ : Σ' (v4413 : FVec F S128x32 .f32) (v4416 : FVec F S128x128 .f32) (v4434 : IVec S128x1 32) (v4436 : IVec S128x1 1), IVec S128x1 32 ← k0_part33 i arg1 harg1 arg2 harg2 arg3 harg3 arg4 harg4 arg5 harg5 arg6 harg6 arg7 harg7 arg8 harg8 arg9 harg9 arg10 harg10 arg11 harg11 arg12 harg12 arg13 harg13 arg14 harg14 v3035 v4362 v4390 v4395 cst_1979
  let ⟨v4464, v4467, v4475, v4479, c0_i32_2009⟩ : Σ' (v4464 : FVec F S128x32 .f32) (v4467 : FVec F S128x128 .f32) (v4475 : IVec S1x256 32) (v4479 : IVec S128x256 1), BitVec 32 ← k0_part34 i arg1 harg1 arg2 harg2 arg3 harg3 arg4 harg4 arg5 harg5 arg6 harg6 arg7 harg7 arg8 harg8 arg9 harg9 arg10 harg10 arg11 harg11 arg12 harg12 arg13 harg13 arg14 harg14 v3035 v4413 v4416 v4434 v4436 v4437
  let ⟨v4515, v4518, v4521⟩ : Σ' (v4515 : FVec F S128x32 .f32) (v4518 : FVec F S128x128 .f32), FVec F S128x1 .f32 ← k0_part35 i arg1 harg1 arg2 harg2 arg3 harg3 arg4 harg4 arg5 harg5 arg6 harg6 arg7 harg7 arg8 harg8 arg9 harg9 arg10 harg10 arg11 harg11 arg12 harg12 arg13 harg13 arg14 harg14 v3035 v4464 v4467 v4475 v4479 c0_i32_2009
  let ⟨v4543, v4563⟩ : Σ' (v4543 : FVec F S128x1 .f32), IVec S128x32 1 ← k0_part36 i arg1 harg1 arg2 harg2 arg3 harg3 arg4 harg4 arg5 harg5 arg6 harg6 arg7 harg7 arg8 harg8 arg9 harg9 arg10 harg10 arg11 harg11 arg12 harg12 arg13 harg13 arg14 harg14 v3035 v4518 v4521
  let ⟨v4566, v4594, v4606, v4607⟩ : Σ' (v4566 : FVec F S128x32 .f32) (v4594 : FVec F S128x1 .f32) (v4606 : FVec F S128x128 .bf16), FVec F S128x1 .bf16 ← k0_part37 i arg1 harg1 arg2 harg2 arg3 harg3 arg4 harg4 arg5 harg5 arg6 harg6 arg7 harg7 arg8 harg8 arg9 harg9 arg10 harg10 arg11 harg11 arg12 harg12 arg13 harg13 arg14 harg14 v4515 v4543 v4563
  let ⟨v4617, v4645, v4650, cst_2069⟩ : Σ' (v4617 : FVec F S128x32 .f32) (v4645 : FVec F S128x1 .f32) (v4650 : FVec F S128x128 .f32), F .f32 ← k0_part38 i arg1 harg1 arg2 harg2 arg3 harg3 arg4 harg4 arg5 harg5 arg6 harg6 arg7 harg7 arg8 harg8 arg9 harg9 arg10 harg10 arg11 harg11 arg12 harg12 arg13 harg13 arg14 harg14 v3035 v4566 v4594 v4606 v4607
  let ⟨v4688, v4689⟩ : Σ' (v4688 : FVec F S8x128 .f32), IVec S8x128 32 ← k0_part39 i arg1 harg1 arg2 harg2 arg3 harg3 arg4 harg4 arg5 harg5 arg6 harg6 arg7 harg7 arg8 harg8 arg9 harg9 arg10 harg10 arg11 harg11 arg12 harg12 arg13 harg13 arg14 harg14 v3035 v4617 v4645 v4650 cst_2069
  let ⟨v4724, v4727⟩ : Σ' (v4724 : FVec F S128x128 .f32), FVec F S8x1x128 .f32 ← k0_part40 i arg1 harg1 arg2 harg2 arg3 harg3 arg4 harg4 arg5 harg5 arg6 harg6 arg7 harg7 arg8 harg8 arg9 harg9 arg10 harg10 arg11 harg11 arg12 harg12 arg13 harg13 arg14 harg14 v4688 v4689
  let v4734 : Vec F S128x128 .bf16 ← Prog.lift (.load arg14 (Rect.unit (s := S128x128) ![0, 0] S128x128.size inb_S128x128_S128x128_0_0).toLoadRect (View.loadsAt_vmem h_S128x128))
  Prog.lift (.store arg14 (Rect.unit (s := S128x128) ![0, 0] S128x128.size inb_S128x128_S128x128_0_0) (k0_pay267 v4724 v4727) Finset.univ (View.stores_vmem h_S128x128 (harg14.storeExact_slice rfl _ packedbf16_S128x128_S128x128_0_0) (fun _ => rfl)) (.inl rfl))
  pure ⟨⟩

/-- The first stretch of the part of the body every point runs. -/
def main41 (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole) :
    Prog (TpuEff nD τ sig (Elt F) Λ₀ .tc) (Σ' (arg0 : BitVec 32) (v6 : FVec F S128x256 .f32) (v27 : FVec F S128x256 .bf16) (v29 : FVec F S128x128 .bf16), FVec F S1x1 .bf16) := do
  let arg0 : BitVec 32 := BitVec.ofNat 32 (i 0).val
  let v3 : Vec F S128x128 .bf16 ← Prog.lift (.load arg14 (Rect.unit (s := S128x128) ![0, 0] S128x128.size inb_S128x128_S128x128_0_0).toLoadRect (View.loadsAt_vmem h_S128x128))
  let v4 : Vec F S128x256 .bf16 ← Prog.lift (.load arg8 (Rect.unit (s := S128x1024) ![0, 0] S128x256.size inb_S128x1024_S128x256_0_0).toLoadRect (View.loadsAt_vmem h_S128x256))
  let v7 : Vec F S128x128 .fp8e4m3 ← Prog.lift (.load arg7 (Rect.unit (s := S4096x1024) ![0, 0] S128x128.size inb_S4096x1024_S128x128_0_0).toLoadRect (View.loadsAt_vmem h_S128x128))
  let v12 : Elt F .f32 ← smemLoad arg1 (Rect.unit (s := S32x112) (k0_off1 i 0#32) S1x1.size (k0_off1_inb i 0)) numel1_S1x1 rfl
  let v17 : Vec F S128x128 .fp8e4m3 ← Prog.lift (.load arg7 (Rect.unit (s := S4096x1024) ![0, 128] S128x128.size inb_S4096x1024_S128x128_0_128).toLoadRect (View.loadsAt_vmem h_S128x128))
  let v22 : Elt F .f32 ← smemLoad arg1 (Rect.unit (s := S32x112) (k0_off1 i 1#32) S1x1.size (k0_off1_inb i 1)) numel1_S1x1 rfl
  let v28 : Vec F S128x128 .fp8e4m3 ← Prog.lift (.load arg7 (Rect.unit (s := S4096x1024) ![128, 0] S128x128.size inb_S4096x1024_S128x128_128_0).toLoadRect (View.loadsAt_vmem h_S128x128))
  let v33 : Elt F .f32 ← smemLoad arg1 (Rect.unit (s := S32x112) (k0_off2 i 0#32) S1x1.size (k0_off2_inb i 0)) numel1_S1x1 rfl
  pure ⟨arg0, k0_pay268 v3 v4, k0_pay269 v7 v12 v17 v22, k0_pay270 v28, k0_pay271 v33⟩

/-- The first half of the part of the body every point runs. -/
def main117 (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole) :
    Prog (TpuEff nD τ sig (Elt F) Λ₀ .tc) (Σ' (arg0 : BitVec 32) (v2327 : FVec F S128x256 .f32), FVec F S256x256 .bf16) := do
  let ⟨arg0, v6, v27, v29, v35⟩ : Σ' (arg0 : BitVec 32) (v6 : FVec F S128x256 .f32) (v27 : FVec F S128x256 .bf16) (v29 : FVec F S128x128 .bf16), FVec F S1x1 .bf16 ← main41 i arg1 harg1 arg2 harg2 arg3 harg3 arg4 harg4 arg5 harg5 arg6 harg6 arg7 harg7 arg8 harg8 arg9 harg9 arg10 harg10 arg11 harg11 arg12 harg12 arg13 harg13 arg14 harg14
  let ⟨v53, v74⟩ : Σ' (v53 : FVec F S128x256 .f32), FVec F S128x256 .bf16 ← k0_part42 i arg1 harg1 arg2 harg2 arg3 harg3 arg4 harg4 arg5 harg5 arg6 harg6 arg7 harg7 arg8 harg8 arg9 harg9 arg10 harg10 arg11 harg11 arg12 harg12 arg13 harg13 arg14 harg14 arg0 v6 v27 v29 v35
  let ⟨v100, v110, v112, v113, c1_i32_50⟩ : Σ' (v100 : FVec F S128x256 .f32) (v110 : FVec F S128x128 .bf16) (v112 : FVec F S128x128 .bf16) (v113 : BitVec 32), BitVec 32 ← k0_part43 i arg1 harg1 arg2 harg2 arg3 harg3 arg4 harg4 arg5 harg5 arg6 harg6 arg7 harg7 arg8 harg8 arg9 harg9 arg10 harg10 arg11 harg11 arg12 harg12 arg13 harg13 arg14 harg14 arg0 v53 v74
  let ⟨v147, v149, v153⟩ : Σ' (v147 : FVec F S128x256 .f32) (v149 : FVec F S128x128 .bf16), Elt F .f32 ← k0_part44 i arg1 harg1 arg2 harg2 arg3 harg3 arg4 harg4 arg5 harg5 arg6 harg6 arg7 harg7 arg8 harg8 arg9 harg9 arg10 harg10 arg11 harg11 arg12 harg12 arg13 harg13 arg14 harg14 arg0 v100 v110 v112 v113 c1_i32_50
  let v194 : FVec F S128x256 .f32 ← k0_part45 i arg1 harg1 arg2 harg2 arg3 harg3 arg4 harg4 arg5 harg5 arg6 harg6 arg7 harg7 arg8 harg8 arg9 harg9 arg10 harg10 arg11 harg11 arg12 harg12 arg13 harg13 arg14 harg14 arg0 v147 v149 v153
  let ⟨v215, v225, v227, v234⟩ : Σ' (v215 : FVec F S128x256 .bf16) (v225 : FVec F S128x128 .bf16) (v227 : FVec F S128x128 .bf16), FVec F S128x128 .bf16 ← k0_part46 i arg1 harg1 arg2 harg2 arg3 harg3 arg4 harg4 arg5 harg5 arg6 harg6 arg7 harg7 arg8 harg8 arg9 harg9 arg10 harg10 arg11 harg11 arg12 harg12 arg13 harg13 arg14 harg14 arg0
  let ⟨v241, v262, v272, v273⟩ : Σ' (v241 : FVec F S128x256 .f32) (v262 : FVec F S128x256 .bf16) (v272 : FVec F S128x128 .bf16), Vec F S128x128 .fp8e4m3 ← k0_part47 i arg1 harg1 arg2 harg2 arg3 harg3 arg4 harg4 arg5 harg5 arg6 harg6 arg7 harg7 arg8 harg8 arg9 harg9 arg10 harg10 arg11 harg11 arg12 harg12 arg13 harg13 arg14 harg14 arg0 v194 v215 v225 v227 v234
  let ⟨v288, v309, v311, v312, c0_i32_134⟩ : Σ' (v288 : FVec F S128x256 .f32) (v309 : FVec F S128x256 .bf16) (v311 : FVec F S128x128 .bf16) (v312 : BitVec 32), BitVec 32 ← k0_part48 i arg1 harg1 arg2 harg2 arg3 harg3 arg4 harg4 arg5 harg5 arg6 harg6 arg7 harg7 arg8 harg8 arg9 harg9 arg10 harg10 arg11 harg11 arg12 harg12 arg13 harg13 arg14 harg14 arg0 v241 v262 v272 v273
  let ⟨v335, v345, v347, v352⟩ : Σ' (v335 : FVec F S128x256 .f32) (v345 : FVec F S128x128 .bf16) (v347 : FVec F S128x128 .bf16), FVec F S1x1 .f32 ← k0_part49 i arg1 harg1 arg2 harg2 arg3 harg3 arg4 harg4 arg5 harg5 arg6 harg6 arg7 harg7 arg8 harg8 arg9 harg9 arg10 harg10 arg11 harg11 arg12 harg12 arg13 harg13 arg14 harg14 arg0 v288 v309 v311 v312 c0_i32_134
  let ⟨v382, v392⟩ : Σ' (v382 : FVec F S128x256 .f32), FVec F S128x128 .bf16 ← k0_part50 i arg1 harg1 arg2 harg2 arg3 harg3 arg4 harg4 arg5 harg5 arg6 harg6 arg7 harg7 arg8 harg8 arg9 harg9 arg10 harg10 arg11 harg11 arg12 harg12 arg13 harg13 arg14 harg14 arg0 v335 v345 v347 v352
  let ⟨v429, v431, c8_i32_185⟩ : Σ' (v429 : FVec F S128x256 .f32) (v431 : FVec F S128x128 .bf16), BitVec 32 ← k0_part51 i arg1 harg1 arg2 harg2 arg3 harg3 arg4 harg4 arg5 harg5 arg6 harg6 arg7 harg7 arg8 harg8 arg9 harg9 arg10 harg10 arg11 harg11 arg12 harg12 arg13 harg13 arg14 harg14 arg0 v382 v392
  let v472 : FVec F S256x256 .bf16 ← k0_part52 i arg1 harg1 arg2 harg2 arg3 harg3 arg4 harg4 arg5 harg5 arg6 harg6 arg7 harg7 arg8 harg8 arg9 harg9 arg10 harg10 arg11 harg11 arg12 harg12 arg13 harg13 arg14 harg14 arg0 v431 c8_i32_185
  let ⟨v476, v497, v507, v509, v511⟩ : Σ' (v476 : FVec F S128x256 .f32) (v497 : FVec F S128x256 .bf16) (v507 : FVec F S128x128 .bf16) (v509 : FVec F S128x128 .bf16), BitVec 32 ← k0_part53 i arg1 harg1 arg2 harg2 arg3 harg3 arg4 harg4 arg5 harg5 arg6 harg6 arg7 harg7 arg8 harg8 arg9 harg9 arg10 harg10 arg11 harg11 arg12 harg12 arg13 harg13 arg14 harg14 arg0 v429 v472
  let ⟨v523, v544, v546, v551⟩ : Σ' (v523 : FVec F S128x256 .f32) (v544 : FVec F S128x256 .bf16) (v546 : FVec F S128x128 .bf16), FVec F S1x1 .f32 ← k0_part54 i arg1 harg1 arg2 harg2 arg3 harg3 arg4 harg4 arg5 harg5 arg6 harg6 arg7 harg7 arg8 harg8 arg9 harg9 arg10 harg10 arg11 harg11 arg12 harg12 arg13 harg13 arg14 harg14 arg0 v476 v497 v507 v509 v511
  let ⟨v570, v591⟩ : Σ' (v570 : FVec F S128x256 .f32), FVec F S128x256 .bf16 ← k0_part55 i arg1 harg1 arg2 harg2 arg3 harg3 arg4 harg4 arg5 harg5 arg6 harg6 arg7 harg7 arg8 harg8 arg9 harg9 arg10 harg10 arg11 harg11 arg12 harg12 arg13 harg13 arg14 harg14 arg0 v523 v544 v546 v551
  let ⟨v617, v627, v629, v630⟩ : Σ' (v617 : FVec F S128x256 .f32) (v627 : FVec F S128x128 .bf16) (v629 : FVec F S128x128 .bf16), BitVec 32 ← k0_part56 i arg1 harg1 arg2 harg2 arg3 harg3 arg4 harg4 arg5 harg5 arg6 harg6 arg7 harg7 arg8 harg8 arg9 harg9 arg10 harg10 arg11 harg11 arg12 harg12 arg13 harg13 arg14 harg14 arg0 v570 v591
  let ⟨v664, v666⟩ : Σ' (v664 : FVec F S128x256 .f32), FVec F S128x128 .bf16 ← k0_part57 i arg1 harg1 arg2 harg2 arg3 harg3 arg4 harg4 arg5 harg5 arg6 harg6 arg7 harg7 arg8 harg8 arg9 harg9 arg10 harg10 arg11 harg11 arg12 harg12 arg13 harg13 arg14 harg14 arg0 v617 v627 v629 v630
  let v710 : FVec F S128x256 .f32 ← k0_part58 i arg1 harg1 arg2 harg2 arg3 harg3 arg4 harg4 arg5 harg5 arg6 harg6 arg7 harg7 arg8 harg8 arg9 harg9 arg10 harg10 arg11 harg11 arg12 harg12 arg13 harg13 arg14 harg14 arg0 v666
  let ⟨v711, v732, v742, v744, v750⟩ : Σ' (v711 : FVec F S128x256 .f32) (v732 : FVec F S128x256 .bf16) (v742 : FVec F S128x128 .bf16) (v744 : FVec F S128x128 .bf16), FVec F S1x1 .bf16 ← k0_part59 i arg1 harg1 arg2 harg2 arg3 harg3 arg4 harg4 arg5 harg5 arg6 harg6 arg7 harg7 arg8 harg8 arg9 harg9 arg10 harg10 arg11 harg11 arg12 harg12 arg13 harg13 arg14 harg14 arg0 v664 v710
  let ⟨v764, v785, v786⟩ : Σ' (v764 : FVec F S128x256 .f32) (v785 : FVec F S128x256 .bf16), Vec F S128x128 .fp8e4m3 ← k0_part60 i arg1 harg1 arg2 harg2 arg3 harg3 arg4 harg4 arg5 harg5 arg6 harg6 arg7 harg7 arg8 harg8 arg9 harg9 arg10 harg10 arg11 harg11 arg12 harg12 arg13 harg13 arg14 harg14 arg0 v711 v732 v742 v744 v750
  let ⟨v811, v821, v823, v825⟩ : Σ' (v811 : FVec F S128x256 .f32) (v821 : FVec F S128x128 .bf16) (v823 : FVec F S128x128 .bf16), BitVec 32 ← k0_part61 i arg1 harg1 arg2 harg2 arg3 harg3 arg4 harg4 arg5 harg5 arg6 harg6 arg7 harg7 arg8 harg8 arg9 harg9 arg10 harg10 arg11 harg11 arg12 harg12 arg13 harg13 arg14 harg14 arg0 v764 v785 v786
  let ⟨v858, v860, v865⟩ : Σ' (v858 : FVec F S128x256 .f32) (v860 : FVec F S128x128 .bf16), FVec F S1x1 .f32 ← k0_part62 i arg1 harg1 arg2 harg2 arg3 harg3 arg4 harg4 arg5 harg5 arg6 harg6 arg7 harg7 arg8 harg8 arg9 harg9 arg10 harg10 arg11 harg11 arg12 harg12 arg13 harg13 arg14 harg14 arg0 v811 v821 v823 v825
  let v905 : FVec F S128x256 .f32 ← k0_part63 i arg1 harg1 arg2 harg2 arg3 harg3 arg4 harg4 arg5 harg5 arg6 harg6 arg7 harg7 arg8 harg8 arg9 harg9 arg10 harg10 arg11 harg11 arg12 harg12 arg13 harg13 arg14 harg14 arg0 v858 v860 v865
  let ⟨v926, v936, v946⟩ : Σ' (v926 : FVec F S128x256 .bf16) (v936 : FVec F S128x128 .bf16), FVec F S128x128 .bf16 ← k0_part64 i arg1 harg1 arg2 harg2 arg3 harg3 arg4 harg4 arg5 harg5 arg6 harg6 arg7 harg7 arg8 harg8 arg9 harg9 arg10 harg10 arg11 harg11 arg12 harg12 arg13 harg13 arg14 harg14 arg0
  let ⟨v952, v973, v983, v985⟩ : Σ' (v952 : FVec F S128x256 .f32) (v973 : FVec F S128x256 .bf16) (v983 : FVec F S128x128 .bf16), FVec F S128x128 .bf16 ← k0_part65 i arg1 harg1 arg2 harg2 arg3 harg3 arg4 harg4 arg5 harg5 arg6 harg6 arg7 harg7 arg8 harg8 arg9 harg9 arg10 harg10 arg11 harg11 arg12 harg12 arg13 harg13 arg14 harg14 arg0 v905 v926 v936 v946
  let ⟨v999, v1020, v1022, v1024⟩ : Σ' (v999 : FVec F S128x256 .f32) (v1020 : FVec F S128x256 .bf16) (v1022 : FVec F S128x128 .bf16), BitVec 32 ← k0_part66 i arg1 harg1 arg2 harg2 arg3 harg3 arg4 harg4 arg5 harg5 arg6 harg6 arg7 harg7 arg8 harg8 arg9 harg9 arg10 harg10 arg11 harg11 arg12 harg12 arg13 harg13 arg14 harg14 arg0 v952 v973 v983 v985
  let ⟨v1046, v1056, v1058, v1064⟩ : Σ' (v1046 : FVec F S128x256 .f32) (v1056 : FVec F S128x128 .bf16) (v1058 : FVec F S128x128 .bf16), FVec F S1x1 .bf16 ← k0_part67 i arg1 harg1 arg2 harg2 arg3 harg3 arg4 harg4 arg5 harg5 arg6 harg6 arg7 harg7 arg8 harg8 arg9 harg9 arg10 harg10 arg11 harg11 arg12 harg12 arg13 harg13 arg14 harg14 arg0 v999 v1020 v1022 v1024
  let ⟨v1093, v1103⟩ : Σ' (v1093 : FVec F S128x256 .f32), FVec F S128x128 .bf16 ← k0_part68 i arg1 harg1 arg2 harg2 arg3 harg3 arg4 harg4 arg5 harg5 arg6 harg6 arg7 harg7 arg8 harg8 arg9 harg9 arg10 harg10 arg11 harg11 arg12 harg12 arg13 harg13 arg14 harg14 arg0 v1046 v1056 v1058 v1064
  let ⟨v1140, v1142, v1143⟩ : Σ' (v1140 : FVec F S128x256 .f32) (v1142 : FVec F S128x128 .bf16), BitVec 32 ← k0_part69 i arg1 harg1 arg2 harg2 arg3 harg3 arg4 harg4 arg5 harg5 arg6 harg6 arg7 harg7 arg8 harg8 arg9 harg9 arg10 harg10 arg11 harg11 arg12 harg12 arg13 harg13 arg14 harg14 arg0 v1093 v1103
  let v1183 : FVec F S256x256 .bf16 ← k0_part70 i arg1 harg1 arg2 harg2 arg3 harg3 arg4 harg4 arg5 harg5 arg6 harg6 arg7 harg7 arg8 harg8 arg9 harg9 arg10 harg10 arg11 harg11 arg12 harg12 arg13 harg13 arg14 harg14 arg0 v1142 v1143
  let ⟨v1187, v1208, v1218, v1220, v1222⟩ : Σ' (v1187 : FVec F S128x256 .f32) (v1208 : FVec F S128x256 .bf16) (v1218 : FVec F S128x128 .bf16) (v1220 : FVec F S128x128 .bf16), BitVec 32 ← k0_part71 i arg1 harg1 arg2 harg2 arg3 harg3 arg4 harg4 arg5 harg5 arg6 harg6 arg7 harg7 arg8 harg8 arg9 harg9 arg10 harg10 arg11 harg11 arg12 harg12 arg13 harg13 arg14 harg14 arg0 v1140 v1183
  let ⟨v1234, v1255, v1257, v1263⟩ : Σ' (v1234 : FVec F S128x256 .f32) (v1255 : FVec F S128x256 .bf16) (v1257 : FVec F S128x128 .bf16), FVec F S1x1 .bf16 ← k0_part72 i arg1 harg1 arg2 harg2 arg3 harg3 arg4 harg4 arg5 harg5 arg6 harg6 arg7 harg7 arg8 harg8 arg9 harg9 arg10 harg10 arg11 harg11 arg12 harg12 arg13 harg13 arg14 harg14 arg0 v1187 v1208 v1218 v1220 v1222
  let ⟨v1281, v1302⟩ : Σ' (v1281 : FVec F S128x256 .f32), FVec F S128x256 .bf16 ← k0_part73 i arg1 harg1 arg2 harg2 arg3 harg3 arg4 harg4 arg5 harg5 arg6 harg6 arg7 harg7 arg8 harg8 arg9 harg9 arg10 harg10 arg11 harg11 arg12 harg12 arg13 harg13 arg14 harg14 arg0 v1234 v1255 v1257 v1263
  let ⟨v1328, v1338, v1340, v1341, c3_i32_625⟩ : Σ' (v1328 : FVec F S128x256 .f32) (v1338 : FVec F S128x128 .bf16) (v1340 : FVec F S128x128 .bf16) (v1341 : BitVec 32), BitVec 32 ← k0_part74 i arg1 harg1 arg2 harg2 arg3 harg3 arg4 harg4 arg5 harg5 arg6 harg6 arg7 harg7 arg8 harg8 arg9 harg9 arg10 harg10 arg11 harg11 arg12 harg12 arg13 harg13 arg14 harg14 arg0 v1281 v1302
  let ⟨v1375, v1377, v1381⟩ : Σ' (v1375 : FVec F S128x256 .f32) (v1377 : FVec F S128x128 .bf16), Elt F .f32 ← k0_part75 i arg1 harg1 arg2 harg2 arg3 harg3 arg4 harg4 arg5 harg5 arg6 harg6 arg7 harg7 arg8 harg8 arg9 harg9 arg10 harg10 arg11 harg11 arg12 harg12 arg13 harg13 arg14 harg14 arg0 v1328 v1338 v1340 v1341 c3_i32_625
  let v1422 : FVec F S128x256 .f32 ← k0_part76 i arg1 harg1 arg2 harg2 arg3 harg3 arg4 harg4 arg5 harg5 arg6 harg6 arg7 harg7 arg8 harg8 arg9 harg9 arg10 harg10 arg11 harg11 arg12 harg12 arg13 harg13 arg14 harg14 arg0 v1375 v1377 v1381
  let ⟨v1443, v1453, v1455, v1462⟩ : Σ' (v1443 : FVec F S128x256 .bf16) (v1453 : FVec F S128x128 .bf16) (v1455 : FVec F S128x128 .bf16), FVec F S128x128 .bf16 ← k0_part77 i arg1 harg1 arg2 harg2 arg3 harg3 arg4 harg4 arg5 harg5 arg6 harg6 arg7 harg7 arg8 harg8 arg9 harg9 arg10 harg10 arg11 harg11 arg12 harg12 arg13 harg13 arg14 harg14 arg0
  let ⟨v1469, v1490, v1500, v1501⟩ : Σ' (v1469 : FVec F S128x256 .f32) (v1490 : FVec F S128x256 .bf16) (v1500 : FVec F S128x128 .bf16), Vec F S128x128 .fp8e4m3 ← k0_part78 i arg1 harg1 arg2 harg2 arg3 harg3 arg4 harg4 arg5 harg5 arg6 harg6 arg7 harg7 arg8 harg8 arg9 harg9 arg10 harg10 arg11 harg11 arg12 harg12 arg13 harg13 arg14 harg14 arg0 v1422 v1443 v1453 v1455 v1462
  let ⟨v1522, v1532, v1534, v1536⟩ : Σ' (v1522 : FVec F S128x256 .f32) (v1532 : FVec F S128x128 .bf16) (v1534 : FVec F S128x128 .bf16), BitVec 32 ← k0_part79 i arg1 harg1 arg2 harg2 arg3 harg3 arg4 harg4 arg5 harg5 arg6 harg6 arg7 harg7 arg8 harg8 arg9 harg9 arg10 harg10 arg11 harg11 arg12 harg12 arg13 harg13 arg14 harg14 arg0 v1469 v1490 v1500 v1501
  let ⟨v1569, v1571, v1577⟩ : Σ' (v1569 : FVec F S128x256 .f32) (v1571 : FVec F S128x128 .bf16), FVec F S1x1 .bf16 ← k0_part80 i arg1 harg1 arg2 harg2 arg3 harg3 arg4 harg4 arg5 harg5 arg6 harg6 arg7 harg7 arg8 harg8 arg9 harg9 arg10 harg10 arg11 harg11 arg12 harg12 arg13 harg13 arg14 harg14 arg0 v1522 v1532 v1534 v1536
  let v1616 : FVec F S128x256 .f32 ← k0_part81 i arg1 harg1 arg2 harg2 arg3 harg3 arg4 harg4 arg5 harg5 arg6 harg6 arg7 harg7 arg8 harg8 arg9 harg9 arg10 harg10 arg11 harg11 arg12 harg12 arg13 harg13 arg14 harg14 arg0 v1569 v1571 v1577
  let ⟨v1637, v1658⟩ : Σ' (v1637 : FVec F S128x256 .bf16), FVec F S128x256 .bf16 ← k0_part82 i arg1 harg1 arg2 harg2 arg3 harg3 arg4 harg4 arg5 harg5 arg6 harg6 arg7 harg7 arg8 harg8 arg9 harg9 arg10 harg10 arg11 harg11 arg12 harg12 arg13 harg13 arg14 harg14 arg0
  let ⟨v1663, v1684, v1694, v1696, c8_i32_807⟩ : Σ' (v1663 : FVec F S128x256 .f32) (v1684 : FVec F S128x256 .bf16) (v1694 : FVec F S128x128 .bf16) (v1696 : FVec F S128x128 .bf16), BitVec 32 ← k0_part83 i arg1 harg1 arg2 harg2 arg3 harg3 arg4 harg4 arg5 harg5 arg6 harg6 arg7 harg7 arg8 harg8 arg9 harg9 arg10 harg10 arg11 harg11 arg12 harg12 arg13 harg13 arg14 harg14 arg0 v1616 v1637 v1658
  let ⟨v1710, v1731, v1733, v1735⟩ : Σ' (v1710 : FVec F S128x256 .f32) (v1731 : FVec F S128x256 .bf16) (v1733 : FVec F S128x128 .bf16), BitVec 32 ← k0_part84 i arg1 harg1 arg2 harg2 arg3 harg3 arg4 harg4 arg5 harg5 arg6 harg6 arg7 harg7 arg8 harg8 arg9 harg9 arg10 harg10 arg11 harg11 arg12 harg12 arg13 harg13 arg14 harg14 arg0 v1663 v1684 v1694 v1696 c8_i32_807
  let ⟨v1757, v1767, v1769, v1776⟩ : Σ' (v1757 : FVec F S128x256 .f32) (v1767 : FVec F S128x128 .bf16) (v1769 : FVec F S128x128 .bf16), FVec F S128x128 .bf16 ← k0_part85 i arg1 harg1 arg2 harg2 arg3 harg3 arg4 harg4 arg5 harg5 arg6 harg6 arg7 harg7 arg8 harg8 arg9 harg9 arg10 harg10 arg11 harg11 arg12 harg12 arg13 harg13 arg14 harg14 arg0 v1710 v1731 v1733 v1735
  let ⟨v1804, v1814, v1815⟩ : Σ' (v1804 : FVec F S128x256 .f32) (v1814 : FVec F S128x128 .bf16), Vec F S128x128 .fp8e4m3 ← k0_part86 i arg1 harg1 arg2 harg2 arg3 harg3 arg4 harg4 arg5 harg5 arg6 harg6 arg7 harg7 arg8 harg8 arg9 harg9 arg10 harg10 arg11 harg11 arg12 harg12 arg13 harg13 arg14 harg14 arg0 v1757 v1767 v1769 v1776
  let ⟨v1851, v1853, v1854, c4_i32_889⟩ : Σ' (v1851 : FVec F S128x256 .f32) (v1853 : FVec F S128x128 .bf16) (v1854 : BitVec 32), BitVec 32 ← k0_part87 i arg1 harg1 arg2 harg2 arg3 harg3 arg4 harg4 arg5 harg5 arg6 harg6 arg7 harg7 arg8 harg8 arg9 harg9 arg10 harg10 arg11 harg11 arg12 harg12 arg13 harg13 arg14 harg14 arg0 v1804 v1814 v1815
  let ⟨v1894, v1895⟩ : Σ' (v1894 : FVec F S256x256 .bf16), Vec F S1x128x256 .bf16 ← k0_part88 i arg1 harg1 arg2 harg2 arg3 harg3 arg4 harg4 arg5 harg5 arg6 harg6 arg7 harg7 arg8 harg8 arg9 harg9 arg10 harg10 arg11 harg11 arg12 harg12 arg13 harg13 arg14 harg14 arg0 v1853 v1854 c4_i32_889
  let ⟨v1898, v1919, v1929, v1931⟩ : Σ' (v1898 : FVec F S128x256 .f32) (v1919 : FVec F S128x256 .bf16) (v1929 : FVec F S128x128 .bf16), FVec F S128x128 .bf16 ← k0_part89 i arg1 harg1 arg2 harg2 arg3 harg3 arg4 harg4 arg5 harg5 arg6 harg6 arg7 harg7 arg8 harg8 arg9 harg9 arg10 harg10 arg11 harg11 arg12 harg12 arg13 harg13 arg14 harg14 arg0 v1851 v1894 v1895
  let ⟨v1945, v1966, v1968, v1975⟩ : Σ' (v1945 : FVec F S128x256 .f32) (v1966 : FVec F S128x256 .bf16) (v1968 : FVec F S128x128 .bf16), FVec F S128x128 .bf16 ← k0_part90 i arg1 harg1 arg2 harg2 arg3 harg3 arg4 harg4 arg5 harg5 arg6 harg6 arg7 harg7 arg8 harg8 arg9 harg9 arg10 harg10 arg11 harg11 arg12 harg12 arg13 harg13 arg14 harg14 arg0 v1898 v1919 v1929 v1931
  let ⟨v1992, v2013, v2014⟩ : Σ' (v1992 : FVec F S128x256 .f32) (v2013 : FVec F S128x256 .bf16), Vec F S128x128 .fp8e4m3 ← k0_part91 i arg1 harg1 arg2 harg2 arg3 harg3 arg4 harg4 arg5 harg5 arg6 harg6 arg7 harg7 arg8 harg8 arg9 harg9 arg10 harg10 arg11 harg11 arg12 harg12 arg13 harg13 arg14 harg14 arg0 v1945 v1966 v1968 v1975
  let ⟨v2039, v2049, v2051, v2053⟩ : Σ' (v2039 : FVec F S128x256 .f32) (v2049 : FVec F S128x128 .bf16) (v2051 : FVec F S128x128 .bf16), BitVec 32 ← k0_part92 i arg1 harg1 arg2 harg2 arg3 harg3 arg4 harg4 arg5 harg5 arg6 harg6 arg7 harg7 arg8 harg8 arg9 harg9 arg10 harg10 arg11 harg11 arg12 harg12 arg13 harg13 arg14 harg14 arg0 v1992 v2013 v2014
  let ⟨v2086, v2088, v2093⟩ : Σ' (v2086 : FVec F S128x256 .f32) (v2088 : FVec F S128x128 .bf16), FVec F S1x1 .f32 ← k0_part93 i arg1 harg1 arg2 harg2 arg3 harg3 arg4 harg4 arg5 harg5 arg6 harg6 arg7 harg7 arg8 harg8 arg9 harg9 arg10 harg10 arg11 harg11 arg12 harg12 arg13 harg13 arg14 harg14 arg0 v2039 v2049 v2051 v2053
  let v2133 : FVec F S128x256 .f32 ← k0_part94 i arg1 harg1 arg2 harg2 arg3 harg3 arg4 harg4 arg5 harg5 arg6 harg6 arg7 harg7 arg8 harg8 arg9 harg9 arg10 harg10 arg11 harg11 arg12 harg12 arg13 harg13 arg14 harg14 arg0 v2086 v2088 v2093
  let ⟨v2154, v2164, v2174⟩ : Σ' (v2154 : FVec F S128x256 .bf16) (v2164 : FVec F S128x128 .bf16), FVec F S128x128 .bf16 ← k0_part95 i arg1 harg1 arg2 harg2 arg3 harg3 arg4 harg4 arg5 harg5 arg6 harg6 arg7 harg7 arg8 harg8 arg9 harg9 arg10 harg10 arg11 harg11 arg12 harg12 arg13 harg13 arg14 harg14 arg0
  let ⟨v2180, v2201, v2211, v2213⟩ : Σ' (v2180 : FVec F S128x256 .f32) (v2201 : FVec F S128x256 .bf16) (v2211 : FVec F S128x128 .bf16), FVec F S128x128 .bf16 ← k0_part96 i arg1 harg1 arg2 harg2 arg3 harg3 arg4 harg4 arg5 harg5 arg6 harg6 arg7 harg7 arg8 harg8 arg9 harg9 arg10 harg10 arg11 harg11 arg12 harg12 arg13 harg13 arg14 harg14 arg0 v2133 v2154 v2164 v2174
  let ⟨v2227, v2248, v2250, v2252⟩ : Σ' (v2227 : FVec F S128x256 .f32) (v2248 : FVec F S128x256 .bf16) (v2250 : FVec F S128x128 .bf16), BitVec 32 ← k0_part97 i arg1 harg1 arg2 harg2 arg3 harg3 arg4 harg4 arg5 harg5 arg6 harg6 arg7 harg7 arg8 harg8 arg9 harg9 arg10 harg10 arg11 harg11 arg12 harg12 arg13 harg13 arg14 harg14 arg0 v2180 v2201 v2211 v2213
  let ⟨v2280, v2282, v2289⟩ : Σ' (v2280 : FVec F S128x256 .f32) (v2282 : FVec F S128x128 .bf16), FVec F S128x128 .bf16 ← k0_part98 i arg1 harg1 arg2 harg2 arg3 harg3 arg4 harg4 arg5 harg5 arg6 harg6 arg7 harg7 arg8 harg8 arg9 harg9 arg10 harg10 arg11 harg11 arg12 harg12 arg13 harg13 arg14 harg14 arg0 v2227 v2248 v2250 v2252
  let ⟨v2327, v2328⟩ : Σ' (v2327 : FVec F S128x256 .f32), Vec F S128x128 .fp8e4m3 ← k0_part99 i arg1 harg1 arg2 harg2 arg3 harg3 arg4 harg4 arg5 harg5 arg6 harg6 arg7 harg7 arg8 harg8 arg9 harg9 arg10 harg10 arg11 harg11 arg12 harg12 arg13 harg13 arg14 harg14 arg0 v2280 v2282 v2289
  let v2370 : FVec F S256x256 .bf16 ← k0_part100 i arg1 harg1 arg2 harg2 arg3 harg3 arg4 harg4 arg5 harg5 arg6 harg6 arg7 harg7 arg8 harg8 arg9 harg9 arg10 harg10 arg11 harg11 arg12 harg12 arg13 harg13 arg14 harg14 arg0 v2328
  pure ⟨arg0, v2327, v2370⟩

/-- The part of the body every point runs: four column tiles of the product. -/
def mainPart (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole) :
    Prog (TpuEff nD τ sig (Elt F) Λ₀ .tc) PUnit := do
  let ⟨arg0, v2327, v2370⟩ : Σ' (arg0 : BitVec 32) (v2327 : FVec F S128x256 .f32), FVec F S256x256 .bf16 ← main117 i arg1 harg1 arg2 harg2 arg3 harg3 arg4 harg4 arg5 harg5 arg6 harg6 arg7 harg7 arg8 harg8 arg9 harg9 arg10 harg10 arg11 harg11 arg12 harg12 arg13 harg13 arg14 harg14
  let v3033 : FVec F S128x256 .bf16 ← k0_part118 i arg1 harg1 arg2 harg2 arg3 harg3 arg4 harg4 arg5 harg5 arg6 harg6 arg7 harg7 arg8 harg8 arg9 harg9 arg10 harg10 arg11 harg11 arg12 harg12 arg13 harg13 arg14 harg14 arg0 v2327 v2370
  let v3034 : Vec F S128x256 .bf16 ← Prog.lift (.load arg9 (Rect.unit (s := S128x1024) ![0, 768] S128x256.size inb_S128x1024_S128x256_0_768).toLoadRect (View.loadsAt_vmem h_S128x256))
  Prog.lift (.store arg9 (Rect.unit (s := S128x1024) ![0, 768] S128x256.size inb_S128x1024_S128x256_0_768) v3033 Finset.univ (View.stores_vmem h_S128x256 (harg9.storeExact_slice rfl _ packedbf16_S128x1024_S128x256_0_768) (fun _ => rfl)) (.inl rfl))
  pure ⟨⟩

set_option maxHeartbeats 2000000 in
/-- At the first point the body is the prologue, then the main part. -/
theorem body_first (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole) (h : k0_cond1 i = 1#1) :
    cc0_mixlora (F := F) i arg1 harg1 arg2 harg2 arg3 harg3 arg4 harg4 arg5 harg5 arg6 harg6 arg7 harg7 arg8 harg8 arg9 harg9 arg10 harg10 arg11 harg11 arg12 harg12 arg13 harg13 arg14 harg14 = (prologue i arg1 harg1 arg2 harg2 arg3 harg3 arg4 harg4 arg5 harg5 arg6 harg6 arg7 harg7 arg8 harg8 arg9 harg9 arg10 harg10 arg11 harg11 arg12 harg12 arg13 harg13 arg14 harg14 >>= fun _ => mainPart i arg1 harg1 arg2 harg2 arg3 harg3 arg4 harg4 arg5 harg5 arg6 harg6 arg7 harg7 arg8 harg8 arg9 harg9 arg10 harg10 arg11 harg11 arg12 harg12 arg13 harg13 arg14 harg14) := by
  simp only [cc0_mixlora_eq_skeleton]; unfold cc0_mixlora_skel
  simp only [k0_part117_eq_skeleton]; unfold k0_part117_skel
  simp only [k0_part41_eq_skeleton]; unfold k0_part41_skel
  unfold mainPart main117 main41 prologue
  simp only [dif_pos h, bind_assoc, pure_bind]

set_option maxHeartbeats 2000000 in
/-- At every later point the body is the main part. -/
theorem body_later (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole) (h : ¬ k0_cond1 i = 1#1) :
    cc0_mixlora (F := F) i arg1 harg1 arg2 harg2 arg3 harg3 arg4 harg4 arg5 harg5 arg6 harg6 arg7 harg7 arg8 harg8 arg9 harg9 arg10 harg10 arg11 harg11 arg12 harg12 arg13 harg13 arg14 harg14 = mainPart i arg1 harg1 arg2 harg2 arg3 harg3 arg4 harg4 arg5 harg5 arg6 harg6 arg7 harg7 arg8 harg8 arg9 harg9 arg10 harg10 arg11 harg11 arg12 harg12 arg13 harg13 arg14 harg14 := by
  simp only [cc0_mixlora_eq_skeleton]; unfold cc0_mixlora_skel
  simp only [k0_part117_eq_skeleton]; unfold k0_part117_skel
  simp only [k0_part41_eq_skeleton]; unfold k0_part41_skel
  unfold mainPart main117 main41
  simp only [dif_neg h, pure_bind]

end Cert.KernelIdeal.Hand

end
-- ==== Proof.RunMain.lean ====
module

public import proofs.«01_k».proof.Proof.Body

@[expose] public section

set_option synthInstance.maxSize 4096
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 7000000 in
/-- What the main part leaves in the output block, as pieces (last first), with the proof that it does. -/
noncomputable def runMain (c : Dev nD) (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole)
    (x1 : Vec F S32x112 .f32) (x7 : Vec F S4096x1024 .fp8e4m3) (x8 : Vec F S128x1024 .bf16) (x13 : Vec F S16x128x256 .bf16) (x14 : Vec F S128x128 .bf16) :
    { L9 : List (View.Piece (Elt F) S128x1024 .bf16) //
      ∀ (E : Set ℕ) (K : PUnit → sProp 𝕄),
        iprop(owns (c : Thread nD τ) arg1 fullShare x1 ∗ owns (c : Thread nD τ) arg7 fullShare x7 ∗ owns (c : Thread nD τ) arg8 fullShare x8 ∗ owns (c : Thread nD τ) arg13 fullShare x13 ∗ owns (c : Thread nD τ) arg14 fullShare x14 ∗ (∃ d, owns (c : Thread nD τ) arg9 fullShare d)
            ∗ (iprop(owns (c : Thread nD τ) arg1 fullShare x1 ∗ owns (c : Thread nD τ) arg7 fullShare x7 ∗ owns (c : Thread nD τ) arg8 fullShare x8 ∗ owns (c : Thread nD τ) arg13 fullShare x13 ∗ owns (c : Thread nD τ) arg14 fullShare x14 ∗ (∃ f, arg9.view.loc (c : Thread nD τ) ↦[arg9.view.set]{fullShare} arg9.view.writes (Elt F) f L9)) -∗ K ⟨⟩))
          ⊢ wp frame (wpE (defs₀ (F := F)) Variants.none c none) E (mainPart i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    unfold mainPart main117 main41
    simp only [k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part118_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton]
    unfold owns
    iintro ⟨⟨%f1, %hf1, H1⟩, ⟨%f7, %hf7, H7⟩, ⟨%f8, %hf8, H8⟩, ⟨%f13, %hf13, H13⟩, ⟨%f14, %hf14, H14⟩, ⟨%d9, %f9, -, H9⟩, Hk⟩
    obtain rfl := harg1.eq_unread hf1; obtain rfl := harg7.eq_unread hf7; obtain rfl := harg8.eq_unread hf8; obtain rfl := harg13.eq_unread hf13; obtain rfl := harg14.eq_unread hf14
    sl_exec
    sl_step
    iapply Hk
    isplitl [H1]
    · iexists _; isplitr; · ipureintro; exact harg1.read_unread _
      iexact H1
    isplitl [H7]
    · iexists _; isplitr; · ipureintro; exact harg7.read_unread _
      iexact H7
    isplitl [H8]
    · iexists _; isplitr; · ipureintro; exact harg8.read_unread _
      iexact H8
    isplitl [H13]
    · iexists _; isplitr; · ipureintro; exact harg13.read_unread _
      iexact H13
    isplitl [H14]
    · iexists _; isplitr; · ipureintro; exact harg14.read_unread _
      iexact H14
    iexists _; iexact H9

end Cert.KernelIdeal.Hand

end
-- ==== Proof.RunPre.lean ====
module

public import proofs.«01_k».proof.Proof.Body

@[expose] public section

set_option synthInstance.maxSize 4096
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 7000000 in
/-- What the prologue leaves in each buffer it stores into, as pieces (last first), with the proof that it does. -/
noncomputable def runPre (c : Dev nD) (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole)
    (x2 : Vec F S128x4096 .bf16) (x3 : Vec F S8x4096 .bf16) (x4 : Vec F S8x1 .f32) (x5 : Vec F S2x128 .i32) (x6 : Vec F S128x4096 .bf16) :
    Σ' (L10 : List (View.Piece (Elt F) S2x128 .f32)), Σ' (L11 : List (View.Piece (Elt F) S128x4096 .fp8e4m3)), Σ' (L12 : List (View.Piece (Elt F) S32x128 .f32)), Σ' (L13 : List (View.Piece (Elt F) S16x128x256 .bf16)), { L14 : List (View.Piece (Elt F) S128x128 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14)) -∗ K ⟨⟩))
          ⊢ wp frame (wpE (defs₀ (F := F)) Variants.none c none) E (prologue i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    unfold prologue
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f2, %hf2, H2⟩, ⟨%f3, %hf3, H3⟩, ⟨%f4, %hf4, H4⟩, ⟨%f5, %hf5, H5⟩, ⟨%f6, %hf6, H6⟩, ⟨%d10, %f10, -, H10⟩, ⟨%d11, %f11, -, H11⟩, ⟨%d12, %f12, -, H12⟩, ⟨%d13, %f13, -, H13⟩, ⟨%d14, %f14, -, H14⟩, Hk⟩
    obtain rfl := harg2.eq_unread hf2; obtain rfl := harg3.eq_unread hf3; obtain rfl := harg4.eq_unread hf4; obtain rfl := harg5.eq_unread hf5; obtain rfl := harg6.eq_unread hf6
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H10]; · iexists _; iexact H10
    isplitl [H11]; · iexists _; iexact H11
    isplitl [H12]; · iexists _; iexact H12
    isplitl [H13]; · iexists _; iexact H13
    iexists _; iexact H14

end Cert.KernelIdeal.Hand

end
-- ==== Proof.Spec.lean ====
module

public import proofs.«01_k».proof.Proof.RunMain
public import proofs.«01_k».proof.Proof.RunPre

@[expose] public section

set_option synthInstance.maxSize 4096
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What the body computes, block by block -/

/-- Columns `128 k …` of the tokens. -/
abbrev rectC (k : ℕ) : Rect S128x4096 := Rect.unit (s := S128x4096) ![0, 128 * (k % 32)] S128x128.size
  (fun a => match a with
    | ⟨0, _⟩ => by show 0 + 128 ≤ 128; omega
    | ⟨1, _⟩ => by show 128 * (k % 32) + 128 ≤ 4096; omega)

/-- The half `k % 2` of chunk `k / 2` of the requantised tokens. -/
abbrev rectX (k : ℕ) : Rect S16x128x256 := Rect.unit (s := S16x128x256) ![k / 2 % 16, 0, 128 * (k % 2)] S1x128x128.size
  (fun a => match a with
    | ⟨0, _⟩ => by show k / 2 % 16 + 1 ≤ 16; omega
    | ⟨1, _⟩ => by show 0 + 128 ≤ 128; omega
    | ⟨2, _⟩ => by show 128 * (k % 2) + 128 ≤ 256; omega)

/-- Chunk `k` of the requantised tokens. -/
abbrev rectL (k : ℕ) : Rect S16x128x256 := Rect.unit (s := S16x128x256) ![k % 16, 0, 0] S1x128x256.size
  (fun a => match a with
    | ⟨0, _⟩ => by show k % 16 + 1 ≤ 16; omega
    | ⟨1, _⟩ => by show 0 + 128 ≤ 128; omega
    | ⟨2, _⟩ => by show 0 + 256 ≤ 256; omega)

/-- Block `(k, n)` of the weight codes. -/
abbrev rectW (k n : ℕ) : Rect S4096x1024 := Rect.unit (s := S4096x1024) ![128 * (k % 32), 128 * (n % 8)] S128x128.size
  (fun a => match a with
    | ⟨0, _⟩ => by show 128 * (k % 32) + 128 ≤ 4096; omega
    | ⟨1, _⟩ => by show 128 * (n % 8) + 128 ≤ 1024; omega)

/-- Column tile `t` of the output block. -/
abbrev rectO (t : ℕ) : Rect S128x1024 := Rect.unit (s := S128x1024) ![0, 256 * (t % 4)] S128x256.size
  (fun a => match a with
    | ⟨0, _⟩ => by show 0 + 128 ≤ 128; omega
    | ⟨1, _⟩ => by show 256 * (t % 4) + 256 ≤ 1024; omega)

/-- Row `r` of the two gate rows. -/
abbrev rectG (r : ℕ) : Rect S2x128 := Rect.unit (s := S2x128) ![r % 2, 0] S1x128.size
  (fun a => match a with
    | ⟨0, _⟩ => by show r % 2 + 1 ≤ 2; omega
    | ⟨1, _⟩ => by show 0 + 128 ≤ 128; omega)

/-- The whole of a matrix, as a rectangle. -/
abbrev rectA : Rect S128x128 := Rect.unit (s := S128x128) ![0, 0] S128x128.size inb_S128x128_S128x128_0_0

/-- The codes of one block of the tokens, -/
abbrev codesB (v : Vec F S128x128 .bf16) : FVec F S128x128 .fp8e4m3 := k0_pay5 v
/-- its scale, token by token, -/
abbrev scaleB (v : Vec F S128x128 .bf16) : FVec F S128x1 .f32 := k0_pay4 v
/-- and the codes under the scale. -/
abbrev xwB (v : Vec F S128x128 .bf16) : FVec F S1x128x128 .bf16 := k0_pay8 (k0_pay6 v) (k0_pay7 v)

/-- The first `k` columns of the scales laid side by side, zero beyond. -/
def selF (f : ℕ → Vec F S128x128 .bf16) : ℕ → FVec F S128x32 .f32
  | 0 => k0_pay1
  | k + 1 => select (cmpi .eq (iota .tc S128x32 32 [1] iota_S128x32_d1_w32) (broadcast S128x32 (BitVec.ofNat 32 k)))
      (broadcastTo S128x32 (shapeCast S128x1 (scaleB (f k)) shapeCasts_S128x1_S128x1) broadcasts_S128x1_S128x32) (selF f k)

/-- The scales, a row per block. -/
def xsV (X : Vec F S128x4096 .bf16) : FVec F S32x128 .f32 :=
  transpose S32x128 [1, 0] (selF (fun k => View.ld X (rectC k)) 32) transposes_S128x32_p1_0_S32x128

/-- The expert numbers down the rows. -/
abbrev ids : IVec S8x128 32 := iota .tc S8x128 32 [0] iota_S8x128_d0_w32

/-- The gates of chosen expert `r`. -/
def gateV (P : FVec F S8x128 .f32) (X5 : Vec F S2x128 .i32) (r : ℕ) : FVec F S1x128 .f32 :=
  divf (k0_pay260 P ids (View.ld X5 (rectG r))) (k0_pay262 P ids (View.ld X5 (rectG 0)) (View.ld X5 (rectG 1)))

/-- The gated low-rank activations. -/
def hbV (X2 : Vec F S128x4096 .bf16) (P : FVec F S8x128 .f32) (X5 : Vec F S2x128 .i32) (X6 : Vec F S128x4096 .bf16) : FVec F S128x128 .bf16 :=
  k0_pay267 (k0_pay265 X6 X2) (k0_pay266 P ids (View.ld X5 (rectG 0)) (View.ld X5 (rectG 1)))

/-- Row `k` of the weight scales at column `8 i + b`. -/
def soff (k : ℕ) (i : grid0.Coords) (b : BitVec 32) : Fin 2 → ℕ :=
  ![k, (Scalar.indexCast (Scalar.addi (Scalar.muli (BitVec.ofNat 32 (i 0).val) 8#32) b) : BitVec 32).toNat]

theorem soff_inb (k : ℕ) (i : grid0.Coords) (n : ℕ) (a : Fin 2) :
    soff (k % 32) i (BitVec.ofNat 32 (n % 8)) a + S1x1.size a ≤ S32x112.size a :=
  match a with
  | ⟨0, _⟩ => by show k % 32 + 1 ≤ 32; omega
  | ⟨1, _⟩ => k0_off1_inb i ⟨n % 8, Nat.mod_lt _ (by omega)⟩ 1

/-- The scale of weight block `(k, n)` of column block `i`. -/
def svalM (X1 : Vec F S32x112 .f32) (i : grid0.Coords) (k n : ℕ) : Elt F .f32 :=
  View.ld X1 (Rect.unit (s := S32x112) (soff (k % 32) i (BitVec.ofNat 32 (n % 8))) S1x1.size (soff_inb k i n))
    (Shape.Idx.first (numel1_S1x1.symm ▸ Nat.one_pos))

/-- Weight block `(k, n)` under its scale. -/
def wqM (X1 : Vec F S32x112 .f32) (X7 : Vec F S4096x1024 .fp8e4m3) (i : grid0.Coords) (k n : ℕ) : FVec F S128x128 .bf16 :=
  mulf (extf .bf16 (View.ld X7 (rectW k n)) bitsLt_fp8e4m3_bf16)
    (broadcastTo S128x128 (truncf .bf16 (broadcast S1x1 (svalM X1 i k n)) bitsLt_bf16_f32) broadcasts_S1x1_S128x128)

/-- Two of them side by side. -/
def wrowM (X1 : Vec F S32x112 .f32) (X7 : Vec F S4096x1024 .fp8e4m3) (i : grid0.Coords) (k t : ℕ) : FVec F S128x256 .bf16 :=
  concatenate S128x256 1 [⟨S128x128, wqM X1 X7 i k (2 * t)⟩, ⟨S128x128, wqM X1 X7 i k (2 * t + 1)⟩] concatenates_S128x128_S128x128_S128x256_d1

/-- Four of them in a square. -/
def wblkM (X1 : Vec F S32x112 .f32) (X7 : Vec F S4096x1024 .fp8e4m3) (i : grid0.Coords) (c t : ℕ) : FVec F S256x256 .bf16 :=
  concatenate S256x256 0 [⟨S128x256, wrowM X1 X7 i (2 * c) t⟩, ⟨S128x256, wrowM X1 X7 i (2 * c + 1) t⟩] concatenates_S128x256_S128x256_S256x256_d0

/-- Tile `t` of the output after `c` chunks of the contraction, the low-rank part first. -/
def accM (X1 : Vec F S32x112 .f32) (X7 : Vec F S4096x1024 .fp8e4m3) (X8 : Vec F S128x1024 .bf16) (X13 : Vec F S16x128x256 .bf16)
    (X14 : Vec F S128x128 .bf16) (i : grid0.Coords) (t : ℕ) : ℕ → FVec F S128x256 .f32
  | 0 => k0_pay268 X14 (View.ld X8 (rectO t))
  | c + 1 => addf (accM X1 X7 X8 X13 X14 i t c)
      (matmul dot_S128x256_S256x256_S128x256_1_0_0_1_n_n none (shapeCast S128x256 (View.ld X13 (rectL c)) shapeCasts_S1x128x256_S128x256)
        (wblkM X1 X7 i c t) (constant S128x256 .f32 0x00000000#32))

/-- Tile `t` of the output. -/
def tileM (X1 : Vec F S32x112 .f32) (X7 : Vec F S4096x1024 .fp8e4m3) (X8 : Vec F S128x1024 .bf16) (X13 : Vec F S16x128x256 .bf16)
    (X14 : Vec F S128x128 .bf16) (i : grid0.Coords) (t : ℕ) : FVec F S128x256 .bf16 :=
  truncf .bf16 (accM X1 X7 X8 X13 X14 i t 16) bitsLt_bf16_f32

end Cert.KernelIdeal.Hand

end
-- ==== Proof.PiecesPre.lean ====
module

public import proofs.«01_k».proof.Proof.Spec

@[expose] public section

set_option synthInstance.maxSize 4096
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
theorem pieces_gates (c : Dev nD) (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole)
    (x2 : Vec F S128x4096 .bf16) (x3 : Vec F S8x4096 .bf16) (x4 : Vec F S8x1 .f32) (x5 : Vec F S2x128 .i32) (x6 : Vec F S128x4096 .bf16) :
    (runPre c i arg1 harg1 arg2 harg2 arg3 harg3 arg4 harg4 arg5 harg5 arg6 harg6 arg7 harg7 arg8 harg8 arg9 harg9 arg10 harg10 arg11 harg11 arg12 harg12 arg13 harg13 arg14 harg14 x2 x3 x4 x5 x6).1 = [⟨rectG 1, gateV (k0_pay257 (View.ld (arg3.view.read (Elt F) (harg3.unread x3)) (Rect.unit (s := S8x4096) ![0, 0] S8x4096.size inb_S8x4096_S8x4096_0_0)) (View.ld (arg2.view.read (Elt F) (harg2.unread x2)) (Rect.unit (s := S128x4096) ![0, 0] S128x4096.size inb_S128x4096_S128x4096_0_0)) (View.ld (arg4.view.read (Elt F) (harg4.unread x4)) (Rect.unit (s := S8x1) ![0, 0] S8x1.size inb_S8x1_S8x1_0_0))) (arg5.view.read (Elt F) (harg5.unread x5)) 1⟩, ⟨rectG 0, gateV (k0_pay257 (View.ld (arg3.view.read (Elt F) (harg3.unread x3)) (Rect.unit (s := S8x4096) ![0, 0] S8x4096.size inb_S8x4096_S8x4096_0_0)) (View.ld (arg2.view.read (Elt F) (harg2.unread x2)) (Rect.unit (s := S128x4096) ![0, 0] S128x4096.size inb_S128x4096_S128x4096_0_0)) (View.ld (arg4.view.read (Elt F) (harg4.unread x4)) (Rect.unit (s := S8x1) ![0, 0] S8x1.size inb_S8x1_S8x1_0_0))) (arg5.view.read (Elt F) (harg5.unread x5)) 0⟩] := by
  unfold runPre; rfl

set_option maxHeartbeats 4000000 in
theorem pieces_codes (c : Dev nD) (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole)
    (x2 : Vec F S128x4096 .bf16) (x3 : Vec F S8x4096 .bf16) (x4 : Vec F S8x1 .f32) (x5 : Vec F S2x128 .i32) (x6 : Vec F S128x4096 .bf16) :
    (runPre c i arg1 harg1 arg2 harg2 arg3 harg3 arg4 harg4 arg5 harg5 arg6 harg6 arg7 harg7 arg8 harg8 arg9 harg9 arg10 harg10 arg11 harg11 arg12 harg12 arg13 harg13 arg14 harg14 x2 x3 x4 x5 x6).2.1 = [⟨rectC 31, codesB (View.ld (arg2.view.read (Elt F) (harg2.unread x2)) (rectC 31))⟩,
      ⟨rectC 30, codesB (View.ld (arg2.view.read (Elt F) (harg2.unread x2)) (rectC 30))⟩,
      ⟨rectC 29, codesB (View.ld (arg2.view.read (Elt F) (harg2.unread x2)) (rectC 29))⟩,
      ⟨rectC 28, codesB (View.ld (arg2.view.read (Elt F) (harg2.unread x2)) (rectC 28))⟩,
      ⟨rectC 27, codesB (View.ld (arg2.view.read (Elt F) (harg2.unread x2)) (rectC 27))⟩,
      ⟨rectC 26, codesB (View.ld (arg2.view.read (Elt F) (harg2.unread x2)) (rectC 26))⟩,
      ⟨rectC 25, codesB (View.ld (arg2.view.read (Elt F) (harg2.unread x2)) (rectC 25))⟩,
      ⟨rectC 24, codesB (View.ld (arg2.view.read (Elt F) (harg2.unread x2)) (rectC 24))⟩,
      ⟨rectC 23, codesB (View.ld (arg2.view.read (Elt F) (harg2.unread x2)) (rectC 23))⟩,
      ⟨rectC 22, codesB (View.ld (arg2.view.read (Elt F) (harg2.unread x2)) (rectC 22))⟩,
      ⟨rectC 21, codesB (View.ld (arg2.view.read (Elt F) (harg2.unread x2)) (rectC 21))⟩,
      ⟨rectC 20, codesB (View.ld (arg2.view.read (Elt F) (harg2.unread x2)) (rectC 20))⟩,
      ⟨rectC 19, codesB (View.ld (arg2.view.read (Elt F) (harg2.unread x2)) (rectC 19))⟩,
      ⟨rectC 18, codesB (View.ld (arg2.view.read (Elt F) (harg2.unread x2)) (rectC 18))⟩,
      ⟨rectC 17, codesB (View.ld (arg2.view.read (Elt F) (harg2.unread x2)) (rectC 17))⟩,
      ⟨rectC 16, codesB (View.ld (arg2.view.read (Elt F) (harg2.unread x2)) (rectC 16))⟩,
      ⟨rectC 15, codesB (View.ld (arg2.view.read (Elt F) (harg2.unread x2)) (rectC 15))⟩,
      ⟨rectC 14, codesB (View.ld (arg2.view.read (Elt F) (harg2.unread x2)) (rectC 14))⟩,
      ⟨rectC 13, codesB (View.ld (arg2.view.read (Elt F) (harg2.unread x2)) (rectC 13))⟩,
      ⟨rectC 12, codesB (View.ld (arg2.view.read (Elt F) (harg2.unread x2)) (rectC 12))⟩,
      ⟨rectC 11, codesB (View.ld (arg2.view.read (Elt F) (harg2.unread x2)) (rectC 11))⟩,
      ⟨rectC 10, codesB (View.ld (arg2.view.read (Elt F) (harg2.unread x2)) (rectC 10))⟩,
      ⟨rectC 9, codesB (View.ld (arg2.view.read (Elt F) (harg2.unread x2)) (rectC 9))⟩,
      ⟨rectC 8, codesB (View.ld (arg2.view.read (Elt F) (harg2.unread x2)) (rectC 8))⟩,
      ⟨rectC 7, codesB (View.ld (arg2.view.read (Elt F) (harg2.unread x2)) (rectC 7))⟩,
      ⟨rectC 6, codesB (View.ld (arg2.view.read (Elt F) (harg2.unread x2)) (rectC 6))⟩,
      ⟨rectC 5, codesB (View.ld (arg2.view.read (Elt F) (harg2.unread x2)) (rectC 5))⟩,
      ⟨rectC 4, codesB (View.ld (arg2.view.read (Elt F) (harg2.unread x2)) (rectC 4))⟩,
      ⟨rectC 3, codesB (View.ld (arg2.view.read (Elt F) (harg2.unread x2)) (rectC 3))⟩,
      ⟨rectC 2, codesB (View.ld (arg2.view.read (Elt F) (harg2.unread x2)) (rectC 2))⟩,
      ⟨rectC 1, codesB (View.ld (arg2.view.read (Elt F) (harg2.unread x2)) (rectC 1))⟩,
      ⟨rectC 0, codesB (View.ld (arg2.view.read (Elt F) (harg2.unread x2)) (rectC 0))⟩] := by
  unfold runPre; rfl

set_option maxHeartbeats 4000000 in
theorem pieces_xs (c : Dev nD) (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole)
    (x2 : Vec F S128x4096 .bf16) (x3 : Vec F S8x4096 .bf16) (x4 : Vec F S8x1 .f32) (x5 : Vec F S2x128 .i32) (x6 : Vec F S128x4096 .bf16) :
    (runPre c i arg1 harg1 arg2 harg2 arg3 harg3 arg4 harg4 arg5 harg5 arg6 harg6 arg7 harg7 arg8 harg8 arg9 harg9 arg10 harg10 arg11 harg11 arg12 harg12 arg13 harg13 arg14 harg14 x2 x3 x4 x5 x6).2.2.1 = [⟨Rect.unit (s := S32x128) ![0, 0] S32x128.size inb_S32x128_S32x128_0_0, xsV (arg2.view.read (Elt F) (harg2.unread x2))⟩] := by
  unfold runPre; rfl

set_option maxHeartbeats 4000000 in
theorem pieces_xw (c : Dev nD) (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole)
    (x2 : Vec F S128x4096 .bf16) (x3 : Vec F S8x4096 .bf16) (x4 : Vec F S8x1 .f32) (x5 : Vec F S2x128 .i32) (x6 : Vec F S128x4096 .bf16) :
    (runPre c i arg1 harg1 arg2 harg2 arg3 harg3 arg4 harg4 arg5 harg5 arg6 harg6 arg7 harg7 arg8 harg8 arg9 harg9 arg10 harg10 arg11 harg11 arg12 harg12 arg13 harg13 arg14 harg14 x2 x3 x4 x5 x6).2.2.2.1 = [⟨rectX 31, xwB (View.ld (arg2.view.read (Elt F) (harg2.unread x2)) (rectC 31))⟩,
      ⟨rectX 30, xwB (View.ld (arg2.view.read (Elt F) (harg2.unread x2)) (rectC 30))⟩,
      ⟨rectX 29, xwB (View.ld (arg2.view.read (Elt F) (harg2.unread x2)) (rectC 29))⟩,
      ⟨rectX 28, xwB (View.ld (arg2.view.read (Elt F) (harg2.unread x2)) (rectC 28))⟩,
      ⟨rectX 27, xwB (View.ld (arg2.view.read (Elt F) (harg2.unread x2)) (rectC 27))⟩,
      ⟨rectX 26, xwB (View.ld (arg2.view.read (Elt F) (harg2.unread x2)) (rectC 26))⟩,
      ⟨rectX 25, xwB (View.ld (arg2.view.read (Elt F) (harg2.unread x2)) (rectC 25))⟩,
      ⟨rectX 24, xwB (View.ld (arg2.view.read (Elt F) (harg2.unread x2)) (rectC 24))⟩,
      ⟨rectX 23, xwB (View.ld (arg2.view.read (Elt F) (harg2.unread x2)) (rectC 23))⟩,
      ⟨rectX 22, xwB (View.ld (arg2.view.read (Elt F) (harg2.unread x2)) (rectC 22))⟩,
      ⟨rectX 21, xwB (View.ld (arg2.view.read (Elt F) (harg2.unread x2)) (rectC 21))⟩,
      ⟨rectX 20, xwB (View.ld (arg2.view.read (Elt F) (harg2.unread x2)) (rectC 20))⟩,
      ⟨rectX 19, xwB (View.ld (arg2.view.read (Elt F) (harg2.unread x2)) (rectC 19))⟩,
      ⟨rectX 18, xwB (View.ld (arg2.view.read (Elt F) (harg2.unread x2)) (rectC 18))⟩,
      ⟨rectX 17, xwB (View.ld (arg2.view.read (Elt F) (harg2.unread x2)) (rectC 17))⟩,
      ⟨rectX 16, xwB (View.ld (arg2.view.read (Elt F) (harg2.unread x2)) (rectC 16))⟩,
      ⟨rectX 15, xwB (View.ld (arg2.view.read (Elt F) (harg2.unread x2)) (rectC 15))⟩,
      ⟨rectX 14, xwB (View.ld (arg2.view.read (Elt F) (harg2.unread x2)) (rectC 14))⟩,
      ⟨rectX 13, xwB (View.ld (arg2.view.read (Elt F) (harg2.unread x2)) (rectC 13))⟩,
      ⟨rectX 12, xwB (View.ld (arg2.view.read (Elt F) (harg2.unread x2)) (rectC 12))⟩,
      ⟨rectX 11, xwB (View.ld (arg2.view.read (Elt F) (harg2.unread x2)) (rectC 11))⟩,
      ⟨rectX 10, xwB (View.ld (arg2.view.read (Elt F) (harg2.unread x2)) (rectC 10))⟩,
      ⟨rectX 9, xwB (View.ld (arg2.view.read (Elt F) (harg2.unread x2)) (rectC 9))⟩,
      ⟨rectX 8, xwB (View.ld (arg2.view.read (Elt F) (harg2.unread x2)) (rectC 8))⟩,
      ⟨rectX 7, xwB (View.ld (arg2.view.read (Elt F) (harg2.unread x2)) (rectC 7))⟩,
      ⟨rectX 6, xwB (View.ld (arg2.view.read (Elt F) (harg2.unread x2)) (rectC 6))⟩,
      ⟨rectX 5, xwB (View.ld (arg2.view.read (Elt F) (harg2.unread x2)) (rectC 5))⟩,
      ⟨rectX 4, xwB (View.ld (arg2.view.read (Elt F) (harg2.unread x2)) (rectC 4))⟩,
      ⟨rectX 3, xwB (View.ld (arg2.view.read (Elt F) (harg2.unread x2)) (rectC 3))⟩,
      ⟨rectX 2, xwB (View.ld (arg2.view.read (Elt F) (harg2.unread x2)) (rectC 2))⟩,
      ⟨rectX 1, xwB (View.ld (arg2.view.read (Elt F) (harg2.unread x2)) (rectC 1))⟩,
      ⟨rectX 0, xwB (View.ld (arg2.view.read (Elt F) (harg2.unread x2)) (rectC 0))⟩] := by
  unfold runPre; rfl

set_option maxHeartbeats 4000000 in
theorem pieces_hb (c : Dev nD) (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole)
    (x2 : Vec F S128x4096 .bf16) (x3 : Vec F S8x4096 .bf16) (x4 : Vec F S8x1 .f32) (x5 : Vec F S2x128 .i32) (x6 : Vec F S128x4096 .bf16) :
    (runPre c i arg1 harg1 arg2 harg2 arg3 harg3 arg4 harg4 arg5 harg5 arg6 harg6 arg7 harg7 arg8 harg8 arg9 harg9 arg10 harg10 arg11 harg11 arg12 harg12 arg13 harg13 arg14 harg14 x2 x3 x4 x5 x6).2.2.2.2.1 = [⟨rectA, hbV (View.ld (arg2.view.read (Elt F) (harg2.unread x2)) (Rect.unit (s := S128x4096) ![0, 0] S128x4096.size inb_S128x4096_S128x4096_0_0)) (k0_pay257 (View.ld (arg3.view.read (Elt F) (harg3.unread x3)) (Rect.unit (s := S8x4096) ![0, 0] S8x4096.size inb_S8x4096_S8x4096_0_0)) (View.ld (arg2.view.read (Elt F) (harg2.unread x2)) (Rect.unit (s := S128x4096) ![0, 0] S128x4096.size inb_S128x4096_S128x4096_0_0)) (View.ld (arg4.view.read (Elt F) (harg4.unread x4)) (Rect.unit (s := S8x1) ![0, 0] S8x1.size inb_S8x1_S8x1_0_0))) (arg5.view.read (Elt F) (harg5.unread x5)) (View.ld (arg6.view.read (Elt F) (harg6.unread x6)) (Rect.unit (s := S128x4096) ![0, 0] S128x4096.size inb_S128x4096_S128x4096_0_0))⟩] := by
  unfold runPre; rfl

end Cert.KernelIdeal.Hand

end
-- ==== Proof.PiecesMain.lean ====
module

public import proofs.«01_k».proof.Proof.Spec

@[expose] public section

set_option synthInstance.maxSize 4096
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
theorem pieces_out (c : Dev nD) (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole)
    (x1 : Vec F S32x112 .f32) (x7 : Vec F S4096x1024 .fp8e4m3) (x8 : Vec F S128x1024 .bf16) (x13 : Vec F S16x128x256 .bf16) (x14 : Vec F S128x128 .bf16) :
    (runMain c i arg1 harg1 arg2 harg2 arg3 harg3 arg4 harg4 arg5 harg5 arg6 harg6 arg7 harg7 arg8 harg8 arg9 harg9 arg10 harg10 arg11 harg11 arg12 harg12 arg13 harg13 arg14 harg14 x1 x7 x8 x13 x14).1 = [⟨rectO 3, tileM (arg1.view.read (Elt F) (harg1.unread x1)) (arg7.view.read (Elt F) (harg7.unread x7)) (arg8.view.read (Elt F) (harg8.unread x8)) (arg13.view.read (Elt F) (harg13.unread x13)) (View.ld (arg14.view.read (Elt F) (harg14.unread x14)) rectA) i 3⟩,
      ⟨rectO 2, tileM (arg1.view.read (Elt F) (harg1.unread x1)) (arg7.view.read (Elt F) (harg7.unread x7)) (arg8.view.read (Elt F) (harg8.unread x8)) (arg13.view.read (Elt F) (harg13.unread x13)) (View.ld (arg14.view.read (Elt F) (harg14.unread x14)) rectA) i 2⟩,
      ⟨rectO 1, tileM (arg1.view.read (Elt F) (harg1.unread x1)) (arg7.view.read (Elt F) (harg7.unread x7)) (arg8.view.read (Elt F) (harg8.unread x8)) (arg13.view.read (Elt F) (harg13.unread x13)) (View.ld (arg14.view.read (Elt F) (harg14.unread x14)) rectA) i 1⟩,
      ⟨rectO 0, tileM (arg1.view.read (Elt F) (harg1.unread x1)) (arg7.view.read (Elt F) (harg7.unread x7)) (arg8.view.read (Elt F) (harg8.unread x8)) (arg13.view.read (Elt F) (harg13.unread x13)) (View.ld (arg14.view.read (Elt F) (harg14.unread x14)) rectA) i 0⟩] := by
  unfold runMain; rfl

end Cert.KernelIdeal.Hand

end
-- ==== Proof.Values.lean ====
module

public import Idealize.ShloMosaic.Lib.Pointwise
public import Idealize.ShloMosaic.Lib.Pipeline.Value
public import proofs.«01_k».proof.Proof.PiecesPre
public import proofs.«01_k».proof.Proof.PiecesMain
public import proofs.«01_k».proof.Proof.Spec

@[expose] public section

set_option synthInstance.maxSize 4096
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What the body leaves in each buffer, as one array -/

/-- A buffer written block by block reads as the array whose blocks they are. -/
theorem read_range {s : Shape} {e : EltTy} {κ : Kind} {sp : Space} (v : View sig κ sp s e) (f : v.ty.Contents (Elt F)) (n : ℕ)
    (r : ℕ → Rect s) (w : ∀ k, (r k).shape.Idx → Elt F e) (G : s.Idx → Elt F e)
    (hG : ∀ k < n, ∀ x, w k x = G ((r k).emb x)) (hc : ∀ y, ∃ k < n, y ∈ (r k).set) :
    v.read (Elt F) (v.writes (Elt F) f ((List.range n).reverse.map fun k => ⟨r k, w k⟩)) = G := by
  have hcov : ∀ y, ∃ p ∈ ((List.range n).reverse.map fun k => (⟨r k, w k⟩ : View.Piece (Elt F) s e)), y ∈ p.1.set := by
    intro y
    obtain ⟨k, hk, hy⟩ := hc y
    exact ⟨⟨r k, w k⟩, List.mem_map.mpr ⟨k, by simpa using hk, rfl⟩, hy⟩
  rw [View.read_writes_eq_canon _ _ _ hcov]
  funext y
  refine View.canon_apply_of_pieces G _ ?_ y (hcov y)
  intro p hp
  simp only [List.mem_map, List.mem_reverse, List.mem_range] at hp
  obtain ⟨k, hk, rfl⟩ := hp
  exact hG k hk

/-- The gates, row by row. -/
def gatesC (P : FVec F S8x128 .f32) (X5 : Vec F S2x128 .i32) : Vec F S2x128 .f32 :=
  fun y => gateV P X5 (y 0).val (ix2 ⟨0, by omega⟩ (y 1))

/-- The codes of the tokens. -/
def codesC (X : Vec F S128x4096 .bf16) : Vec F S128x4096 .fp8e4m3 :=
  fun y => codesB (View.ld X (rectC ((y 1).val / 128))) (ix2 (y 0) ⟨(y 1).val % 128, Nat.mod_lt _ (by omega)⟩)

/-- The codes under their scales, chunk by chunk. -/
def xwC (X : Vec F S128x4096 .bf16) : Vec F S16x128x256 .bf16 :=
  fun y => xwB (View.ld X (rectC (2 * (y 0).val + (y 2).val / 128))) (ix3 ⟨0, by omega⟩ (y 1) ⟨(y 2).val % 128, Nat.mod_lt _ (by omega)⟩)

/-- The output block of point `i`. -/
def outC (X1 : Vec F S32x112 .f32) (X7 : Vec F S4096x1024 .fp8e4m3) (X8 : Vec F S128x1024 .bf16) (X13 : Vec F S16x128x256 .bf16)
    (X14 : Vec F S128x128 .bf16) (i : grid0.Coords) : Vec F S128x1024 .bf16 :=
  fun y => tileM X1 X7 X8 X13 X14 i ((y 1).val / 256) (ix2 (y 0) ⟨(y 1).val % 256, Nat.mod_lt _ (by omega)⟩)

/-- The router's probabilities. -/
abbrev probsV (X2 : Vec F S128x4096 .bf16) (X3 : Vec F S8x4096 .bf16) (X4 : Vec F S8x1 .f32) : FVec F S8x128 .f32 := k0_pay257 X3 X2 X4

theorem ld_tok (X : Vec F S128x4096 .bf16) : View.ld X (Rect.unit (s := S128x4096) ![0, 0] S128x4096.size inb_S128x4096_S128x4096_0_0) = X :=
  View.ld_unit_zero (by funext a; fin_cases a <;> rfl) _ X
theorem ld_rout (X : Vec F S8x4096 .bf16) : View.ld X (Rect.unit (s := S8x4096) ![0, 0] S8x4096.size inb_S8x4096_S8x4096_0_0) = X :=
  View.ld_unit_zero (by funext a; fin_cases a <;> rfl) _ X
theorem ld_bias (X : Vec F S8x1 .f32) : View.ld X (Rect.unit (s := S8x1) ![0, 0] S8x1.size inb_S8x1_S8x1_0_0) = X :=
  View.ld_unit_zero (by funext a; fin_cases a <;> rfl) _ X
theorem ld_act (X : Vec F S128x128 .bf16) : View.ld X rectA = X :=
  View.ld_unit_zero (by funext a; fin_cases a <;> rfl) _ X

theorem mem_rectC (k : ℕ) (y : S128x4096.Idx) : y ∈ (rectC k).set ↔ 128 * (k % 32) ≤ (y 1).val ∧ (y 1).val < 128 * (k % 32) + 128 := by
  have h0 : (y 0).val < 128 := (y 0).isLt
  rw [Rect.mem_set_unit]
  constructor
  · intro h; exact h 1
  · intro h a; match a with
      | ⟨0, _⟩ => exact ⟨Nat.zero_le _, by show (y 0).val < 0 + 128; omega⟩
      | ⟨1, _⟩ => exact h

theorem mem_rectO (k : ℕ) (y : S128x1024.Idx) : y ∈ (rectO k).set ↔ 256 * (k % 4) ≤ (y 1).val ∧ (y 1).val < 256 * (k % 4) + 256 := by
  have h0 : (y 0).val < 128 := (y 0).isLt
  rw [Rect.mem_set_unit]
  constructor
  · intro h; exact h 1
  · intro h a; match a with
      | ⟨0, _⟩ => exact ⟨Nat.zero_le _, by show (y 0).val < 0 + 128; omega⟩
      | ⟨1, _⟩ => exact h

theorem mem_rectG (k : ℕ) (y : S2x128.Idx) : y ∈ (rectG k).set ↔ k % 2 = (y 0).val := by
  have h0 : (y 1).val < 128 := (y 1).isLt
  rw [Rect.mem_set_unit]
  constructor
  · intro h
    have h1 : k % 2 ≤ (y 0).val := (h 0).1
    have h2 : (y 0).val < k % 2 + 1 := (h 0).2
    omega
  · intro h a; match a with
      | ⟨0, _⟩ => exact ⟨by show k % 2 ≤ (y 0).val; omega, by show (y 0).val < k % 2 + 1; omega⟩
      | ⟨1, _⟩ => exact ⟨Nat.zero_le _, by show (y 1).val < 0 + 128; omega⟩

theorem mem_rectX (k : ℕ) (y : S16x128x256.Idx) :
    y ∈ (rectX k).set ↔ k / 2 % 16 = (y 0).val ∧ 128 * (k % 2) ≤ (y 2).val ∧ (y 2).val < 128 * (k % 2) + 128 := by
  have h0 : (y 1).val < 128 := (y 1).isLt
  rw [Rect.mem_set_unit]
  constructor
  · intro h
    have h1 : k / 2 % 16 ≤ (y 0).val := (h 0).1
    have h2 : (y 0).val < k / 2 % 16 + 1 := (h 0).2
    exact ⟨by omega, h 2⟩
  · intro h a; match a with
      | ⟨0, _⟩ => exact ⟨by show k / 2 % 16 ≤ (y 0).val; omega, by show (y 0).val < k / 2 % 16 + 1; omega⟩
      | ⟨1, _⟩ => exact ⟨Nat.zero_le _, by show (y 1).val < 0 + 128; omega⟩
      | ⟨2, _⟩ => exact h.2

/-- A block number past the last names the block it wraps to. -/
theorem rectC_eq {j k : ℕ} (h : j = k) : rectC j = rectC k := by subst h; rfl

theorem read_gates (c : Dev nD) (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole)
    (x2 : Vec F S128x4096 .bf16) (x3 : Vec F S8x4096 .bf16) (x4 : Vec F S8x1 .f32) (x5 : Vec F S2x128 .i32) (x6 : Vec F S128x4096 .bf16) (f) :
    arg10.view.read (Elt F) (arg10.view.writes (Elt F) f (runPre c i arg1 harg1 arg2 harg2 arg3 harg3 arg4 harg4 arg5 harg5 arg6 harg6 arg7 harg7 arg8 harg8 arg9 harg9 arg10 harg10 arg11 harg11 arg12 harg12 arg13 harg13 arg14 harg14 x2 x3 x4 x5 x6).1) = gatesC (probsV x2 x3 x4) x5 := by
  rw [pieces_gates]
  rw [harg2.read_unread, harg3.read_unread, harg4.read_unread, harg5.read_unread, ld_rout, ld_tok, ld_bias]
  refine read_range arg10.view f 2 rectG (fun k => gateV (probsV x2 x3 x4) x5 k) _ ?_ ?_
  · intro k hk x
    have h0 : (x 0).val < 1 := (x 0).isLt
    have e : ((rectG k).emb x 0).val = k := by show k % 2 + 1 * (x 0).val = k; omega
    unfold gatesC
    rw [e]
    refine congrArg _ ?_
    funext a; apply Fin.ext
    match a with
      | ⟨0, _⟩ => show (x 0).val = 0; omega
      | ⟨1, _⟩ => show (x 1).val = 0 + 1 * (x 1).val; omega
  · intro y
    have h0 : (y 0).val < 2 := (y 0).isLt
    exact ⟨(y 0).val, h0, (mem_rectG _ y).mpr (by omega)⟩

theorem read_codes (c : Dev nD) (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole)
    (x2 : Vec F S128x4096 .bf16) (x3 : Vec F S8x4096 .bf16) (x4 : Vec F S8x1 .f32) (x5 : Vec F S2x128 .i32) (x6 : Vec F S128x4096 .bf16) (f) :
    arg11.view.read (Elt F) (arg11.view.writes (Elt F) f (runPre c i arg1 harg1 arg2 harg2 arg3 harg3 arg4 harg4 arg5 harg5 arg6 harg6 arg7 harg7 arg8 harg8 arg9 harg9 arg10 harg10 arg11 harg11 arg12 harg12 arg13 harg13 arg14 harg14 x2 x3 x4 x5 x6).2.1) = codesC x2 := by
  rw [pieces_codes]
  simp only [harg2.read_unread]
  refine read_range arg11.view f 32 rectC (fun k => codesB (View.ld x2 (rectC k))) _ ?_ ?_
  · intro k hk x
    have h0 : (x 1).val < 128 := (x 1).isLt
    have e : ((rectC k).emb x 1).val = 128 * k + (x 1).val := by show 128 * (k % 32) + 1 * (x 1).val = _; omega
    have e1 : ((rectC k).emb x 1).val / 128 = k := by omega
    unfold codesC
    rw [e1]
    refine congrArg _ ?_
    funext a; apply Fin.ext
    match a with
      | ⟨0, _⟩ => show (x 0).val = 0 + 1 * (x 0).val; omega
      | ⟨1, _⟩ => show (x 1).val = ((rectC k).emb x 1).val % 128; omega
  · intro y
    have h0 : (y 1).val < 4096 := (y 1).isLt
    exact ⟨(y 1).val / 128, by omega, (mem_rectC _ y).mpr (by omega)⟩

theorem read_xw (c : Dev nD) (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole)
    (x2 : Vec F S128x4096 .bf16) (x3 : Vec F S8x4096 .bf16) (x4 : Vec F S8x1 .f32) (x5 : Vec F S2x128 .i32) (x6 : Vec F S128x4096 .bf16) (f) :
    arg13.view.read (Elt F) (arg13.view.writes (Elt F) f (runPre c i arg1 harg1 arg2 harg2 arg3 harg3 arg4 harg4 arg5 harg5 arg6 harg6 arg7 harg7 arg8 harg8 arg9 harg9 arg10 harg10 arg11 harg11 arg12 harg12 arg13 harg13 arg14 harg14 x2 x3 x4 x5 x6).2.2.2.1) = xwC x2 := by
  rw [pieces_xw]
  simp only [harg2.read_unread]
  refine read_range arg13.view f 32 rectX (fun k => xwB (View.ld x2 (rectC k))) _ ?_ ?_
  · intro k hk x
    have h0 : (x 0).val < 1 := (x 0).isLt
    have h2 : (x 2).val < 128 := (x 2).isLt
    have e0 : ((rectX k).emb x 0).val = k / 2 := by show k / 2 % 16 + 1 * (x 0).val = _; omega
    have e : ((rectX k).emb x 2).val = 128 * (k % 2) + (x 2).val := by show 128 * (k % 2) + 1 * (x 2).val = _; omega
    have e1 : 2 * ((rectX k).emb x 0).val + ((rectX k).emb x 2).val / 128 = k := by omega
    unfold xwC
    rw [e1]
    refine congrArg _ ?_
    funext a; apply Fin.ext
    match a with
      | ⟨0, _⟩ => show (x 0).val = 0; omega
      | ⟨1, _⟩ => show (x 1).val = 0 + 1 * (x 1).val; omega
      | ⟨2, _⟩ => show (x 2).val = ((rectX k).emb x 2).val % 128; omega
  · intro y
    have h0 : (y 0).val < 16 := (y 0).isLt
    have h2 : (y 2).val < 256 := (y 2).isLt
    exact ⟨2 * (y 0).val + (y 2).val / 128, by omega, (mem_rectX _ y).mpr (by omega)⟩

theorem read_xs (c : Dev nD) (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole)
    (x2 : Vec F S128x4096 .bf16) (x3 : Vec F S8x4096 .bf16) (x4 : Vec F S8x1 .f32) (x5 : Vec F S2x128 .i32) (x6 : Vec F S128x4096 .bf16) (f) :
    arg12.view.read (Elt F) (arg12.view.writes (Elt F) f (runPre c i arg1 harg1 arg2 harg2 arg3 harg3 arg4 harg4 arg5 harg5 arg6 harg6 arg7 harg7 arg8 harg8 arg9 harg9 arg10 harg10 arg11 harg11 arg12 harg12 arg13 harg13 arg14 harg14 x2 x3 x4 x5 x6).2.2.1) = xsV x2 := by
  rw [pieces_xs]
  simp only [harg2.read_unread]
  rw [View.read_writes_eq_canon _ _ _ (View.cover_of_tiledL _ S32x128.size (by rfl))]
  exact View.canon_cons_unit_zero (by funext a; fin_cases a <;> rfl) _ _ _

theorem read_hb (c : Dev nD) (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole)
    (x2 : Vec F S128x4096 .bf16) (x3 : Vec F S8x4096 .bf16) (x4 : Vec F S8x1 .f32) (x5 : Vec F S2x128 .i32) (x6 : Vec F S128x4096 .bf16) (f) :
    arg14.view.read (Elt F) (arg14.view.writes (Elt F) f (runPre c i arg1 harg1 arg2 harg2 arg3 harg3 arg4 harg4 arg5 harg5 arg6 harg6 arg7 harg7 arg8 harg8 arg9 harg9 arg10 harg10 arg11 harg11 arg12 harg12 arg13 harg13 arg14 harg14 x2 x3 x4 x5 x6).2.2.2.2.1) = hbV x2 (probsV x2 x3 x4) x5 x6 := by
  rw [pieces_hb]
  rw [harg2.read_unread, harg3.read_unread, harg4.read_unread, harg5.read_unread, harg6.read_unread, ld_rout, ld_tok, ld_tok, ld_bias]
  rw [View.read_writes_eq_canon _ _ _ (View.cover_of_tiledL _ S128x128.size (by rfl))]
  exact View.canon_cons_unit_zero (S := S128x128) (off := ![0, 0]) (by funext a; fin_cases a <;> rfl) inb_S128x128_S128x128_0_0 _ _

theorem read_out (c : Dev nD) (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole)
    (x1 : Vec F S32x112 .f32) (x7 : Vec F S4096x1024 .fp8e4m3) (x8 : Vec F S128x1024 .bf16) (x13 : Vec F S16x128x256 .bf16) (x14 : Vec F S128x128 .bf16) (f) :
    arg9.view.read (Elt F) (arg9.view.writes (Elt F) f (runMain c i arg1 harg1 arg2 harg2 arg3 harg3 arg4 harg4 arg5 harg5 arg6 harg6 arg7 harg7 arg8 harg8 arg9 harg9 arg10 harg10 arg11 harg11 arg12 harg12 arg13 harg13 arg14 harg14 x1 x7 x8 x13 x14).1) = outC x1 x7 x8 x13 x14 i := by
  rw [pieces_out]
  simp only [harg1.read_unread, harg7.read_unread, harg8.read_unread, harg13.read_unread, harg14.read_unread, ld_act]
  refine read_range arg9.view f 4 rectO (fun k => tileM x1 x7 x8 x13 x14 i k) _ ?_ ?_
  · intro k hk x
    have h0 : (x 1).val < 256 := (x 1).isLt
    have e : ((rectO k).emb x 1).val = 256 * k + (x 1).val := by show 256 * (k % 4) + 1 * (x 1).val = _; omega
    have e1 : ((rectO k).emb x 1).val / 256 = k := by omega
    unfold outC
    rw [e1]
    refine congrArg _ ?_
    funext a; apply Fin.ext
    match a with
      | ⟨0, _⟩ => show (x 0).val = 0 + 1 * (x 0).val; omega
      | ⟨1, _⟩ => show (x 1).val = ((rectO k).emb x 1).val % 256; omega
  · intro y
    have h0 : (y 1).val < 1024 := (y 1).isLt
    exact ⟨(y 1).val / 256, by omega, (mem_rectO _ y).mpr (by omega)⟩

end Cert.KernelIdeal.Hand

end
-- ==== Proof.Triples.lean ====
module

public import proofs.«01_k».proof.Proof.Values

@[expose] public section

set_option synthInstance.maxSize 4096
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What the prologue does to the buffers it takes. -/
theorem pre_triple (c : Dev nD) (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole)
    (x2 : Vec F S128x4096 .bf16) (x3 : Vec F S8x4096 .bf16) (x4 : Vec F S8x1 .f32) (x5 : Vec F S2x128 .i32) (x6 : Vec F S128x4096 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg10 fullShare (gatesC (probsV x2 x3 x4) x5) ∗ owns (c : Thread nD τ) arg11 fullShare (codesC x2) ∗ owns (c : Thread nD τ) arg12 fullShare (xsV x2) ∗ owns (c : Thread nD τ) arg13 fullShare (xwC x2) ∗ owns (c : Thread nD τ) arg14 fullShare (hbV x2 (probsV x2 x3 x4) x5 x6)) -∗ K ⟨⟩))
      ⊢ wp frame (wpE (defs₀ (F := F)) Variants.none c none) E (prologue i arg1 harg1 arg2 harg2 arg3 harg3 arg4 harg4 arg5 harg5 arg6 harg6 arg7 harg7 arg8 harg8 arg9 harg9 arg10 harg10 arg11 harg11 arg12 harg12 arg13 harg13 arg14 harg14) K := by
  iintro ⟨H2, H3, H4, H5, H6, H10, H11, H12, H13, H14, Hk⟩
  iapply (runPre c i arg1 harg1 arg2 harg2 arg3 harg3 arg4 harg4 arg5 harg5 arg6 harg6 arg7 harg7 arg8 harg8 arg9 harg9 arg10 harg10 arg11 harg11 arg12 harg12 arg13 harg13 arg14 harg14 x2 x3 x4 x5 x6).2.2.2.2.2 E K
  isplitl [H2]; · iexact H2
  isplitl [H3]; · iexact H3
  isplitl [H4]; · iexact H4
  isplitl [H5]; · iexact H5
  isplitl [H6]; · iexact H6
  isplitl [H10]; · iexact H10
  isplitl [H11]; · iexact H11
  isplitl [H12]; · iexact H12
  isplitl [H13]; · iexact H13
  isplitl [H14]; · iexact H14
  iintro ⟨H2, H3, H4, H5, H6, ⟨%e10, H10⟩, ⟨%e11, H11⟩, ⟨%e12, H12⟩, ⟨%e13, H13⟩, ⟨%e14, H14⟩⟩
  iapply Hk
  isplitl [H2]; · iexact H2
  isplitl [H3]; · iexact H3
  isplitl [H4]; · iexact H4
  isplitl [H5]; · iexact H5
  isplitl [H6]; · iexact H6
  isplitl [H10]
  · unfold owns; iexists _; isplitr
    swap; · iexact H10
    ipureintro; exact read_gates c i arg1 harg1 arg2 harg2 arg3 harg3 arg4 harg4 arg5 harg5 arg6 harg6 arg7 harg7 arg8 harg8 arg9 harg9 arg10 harg10 arg11 harg11 arg12 harg12 arg13 harg13 arg14 harg14 x2 x3 x4 x5 x6 _
  isplitl [H11]
  · unfold owns; iexists _; isplitr
    swap; · iexact H11
    ipureintro; exact read_codes c i arg1 harg1 arg2 harg2 arg3 harg3 arg4 harg4 arg5 harg5 arg6 harg6 arg7 harg7 arg8 harg8 arg9 harg9 arg10 harg10 arg11 harg11 arg12 harg12 arg13 harg13 arg14 harg14 x2 x3 x4 x5 x6 _
  isplitl [H12]
  · unfold owns; iexists _; isplitr
    swap; · iexact H12
    ipureintro; exact read_xs c i arg1 harg1 arg2 harg2 arg3 harg3 arg4 harg4 arg5 harg5 arg6 harg6 arg7 harg7 arg8 harg8 arg9 harg9 arg10 harg10 arg11 harg11 arg12 harg12 arg13 harg13 arg14 harg14 x2 x3 x4 x5 x6 _
  isplitl [H13]
  · unfold owns; iexists _; isplitr
    swap; · iexact H13
    ipureintro; exact read_xw c i arg1 harg1 arg2 harg2 arg3 harg3 arg4 harg4 arg5 harg5 arg6 harg6 arg7 harg7 arg8 harg8 arg9 harg9 arg10 harg10 arg11 harg11 arg12 harg12 arg13 harg13 arg14 harg14 x2 x3 x4 x5 x6 _
  unfold owns; iexists _; isplitr
  swap; · iexact H14
  ipureintro; exact read_hb c i arg1 harg1 arg2 harg2 arg3 harg3 arg4 harg4 arg5 harg5 arg6 harg6 arg7 harg7 arg8 harg8 arg9 harg9 arg10 harg10 arg11 harg11 arg12 harg12 arg13 harg13 arg14 harg14 x2 x3 x4 x5 x6 _

/-- What the main part does to the buffers it takes. -/
theorem main_triple (c : Dev nD) (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole)
    (x1 : Vec F S32x112 .f32) (x7 : Vec F S4096x1024 .fp8e4m3) (x8 : Vec F S128x1024 .bf16) (x13 : Vec F S16x128x256 .bf16) (x14 : Vec F S128x128 .bf16) (E : Set ℕ) (K : PUnit → sProp 𝕄) :
    iprop(owns (c : Thread nD τ) arg1 fullShare x1 ∗ owns (c : Thread nD τ) arg7 fullShare x7 ∗ owns (c : Thread nD τ) arg8 fullShare x8 ∗ owns (c : Thread nD τ) arg13 fullShare x13 ∗ owns (c : Thread nD τ) arg14 fullShare x14 ∗ (∃ d, owns (c : Thread nD τ) arg9 fullShare d)
        ∗ (iprop(owns (c : Thread nD τ) arg1 fullShare x1 ∗ owns (c : Thread nD τ) arg7 fullShare x7 ∗ owns (c : Thread nD τ) arg8 fullShare x8 ∗ owns (c : Thread nD τ) arg13 fullShare x13 ∗ owns (c : Thread nD τ) arg14 fullShare x14 ∗ owns (c : Thread nD τ) arg9 fullShare (outC x1 x7 x8 x13 x14 i)) -∗ K ⟨⟩))
      ⊢ wp frame (wpE (defs₀ (F := F)) Variants.none c none) E (mainPart i arg1 harg1 arg2 harg2 arg3 harg3 arg4 harg4 arg5 harg5 arg6 harg6 arg7 harg7 arg8 harg8 arg9 harg9 arg10 harg10 arg11 harg11 arg12 harg12 arg13 harg13 arg14 harg14) K := by
  iintro ⟨H1, H7, H8, H13, H14, H9, Hk⟩
  iapply (runMain c i arg1 harg1 arg2 harg2 arg3 harg3 arg4 harg4 arg5 harg5 arg6 harg6 arg7 harg7 arg8 harg8 arg9 harg9 arg10 harg10 arg11 harg11 arg12 harg12 arg13 harg13 arg14 harg14 x1 x7 x8 x13 x14).2 E K
  isplitl [H1]; · iexact H1
  isplitl [H7]; · iexact H7
  isplitl [H8]; · iexact H8
  isplitl [H13]; · iexact H13
  isplitl [H14]; · iexact H14
  isplitl [H9]; · iexact H9
  iintro ⟨H1, H7, H8, H13, H14, ⟨%e9, H9⟩⟩
  iapply Hk
  isplitl [H1]; · iexact H1
  isplitl [H7]; · iexact H7
  isplitl [H8]; · iexact H8
  isplitl [H13]; · iexact H13
  isplitl [H14]; · iexact H14
  unfold owns; iexists _; isplitr
  swap; · iexact H9
  ipureintro; exact read_out c i arg1 harg1 arg2 harg2 arg3 harg3 arg4 harg4 arg5 harg5 arg6 harg6 arg7 harg7 arg8 harg8 arg9 harg9 arg10 harg10 arg11 harg11 arg12 harg12 arg13 harg13 arg14 harg14 x1 x7 x8 x13 x14 _

end Cert.KernelIdeal.Hand

end
-- ==== Proof.Frame.lean ====
module

public import Idealize.ShloMosaic.Lib.Claim
public import proofs.«01_k».proof.Proof.Gen.KernelIdeal.Frame
public import proofs.«01_k».proof.Proof.Triples

@[expose] public section

set_option synthInstance.maxSize 4096
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (l : Loc nD τ sig) → Buf (Elt F) l) (ρ : Dev nD → PrngReg)

/-! ## What every buffer holds, point by point -/

/-- The router's probabilities, from the blocks at the first point. -/
def PR (c : Dev nD) : FVec F S8x128 .f32 := probsV (iblk m c 1 t0_0) (iblk m c 2 t0_0) (iblk m c 3 t0_0)
/-- The codes under their scales, carried from the first point on. -/
def XW (c : Dev nD) : Vec F S16x128x256 .bf16 := xwC (iblk m c 1 t0_0)
/-- The gated low-rank activations, carried from the first point on. -/
def HB (c : Dev nD) : Vec F S128x128 .bf16 := hbV (iblk m c 1 t0_0) (PR m c) (iblk m c 4 t0_0) (iblk m c 5 t0_0)
/-- The gates. -/
def GT (c : Dev nD) : Vec F S2x128 .f32 := gatesC (PR m c) (iblk m c 4 t0_0)
/-- The codes. -/
def CD (c : Dev nD) : Vec F S128x4096 .fp8e4m3 := codesC (iblk m c 1 t0_0)
/-- The scales. -/
def XS (c : Dev nD) : Vec F S32x128 .f32 := xsV (iblk m c 1 t0_0)
/-- The output block of point `t`. -/
def OUT (c : Dev nD) (t : Fin cfg0.N) : Vec F S128x1024 .bf16 :=
  outC (iblk m c 0 t) (iblk m c 6 t) (iblk m c 7 t) (XW m c) (HB m c) (grid0.coords t)

/-- The region's invariant: before the first point every scratch at anything, afterwards the two carried ones at what the
    first point left in them. -/
def PhiS (c : Dev nD) : (n : ℕ) → n ≤ cfg0.N → sProp 𝕄
  | 0, _ => Pipeline.ΦA spec0 c
  | _ + 1, _ => iprop(iprop(owns (c : Thread nD τ) scM0_0 fullShare (XW m c) ∗ owns (c : Thread nD τ) scM0_1 fullShare (HB m c)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scM0_0 fullShare (XW m c) ∗ owns (c : Thread nD τ) scM0_1 fullShare (HB m c)) ∗ (∃ r, prngReg c r)) := by
  cases n with
  | zero => exact absurd rfl hz
  | succ n => rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => OUT m c t
    | ⟨9, _⟩ => GT m c
    | ⟨10, _⟩ => CD m c
    | ⟨11, _⟩ => XS m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = OUT m c t := by dsimp only [dats]
theorem after0_9 (c : Dev nD) (t : Fin cfg0.N) : (dats m 0 c).after 9 t = GT m c := by dsimp only [dats]
theorem after0_10 (c : Dev nD) (t : Fin cfg0.N) : (dats m 0 c).after 10 t = CD m c := by dsimp only [dats]
theorem after0_11 (c : Dev nD) (t : Fin cfg0.N) : (dats m 0 c).after 11 t = XS m c := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- At a later point output 9's buffer still holds what the first point left. -/
theorem before0_9_B (c : Dev nD) (t : Fin cfg0.N) (h : ¬cond0_0 (grid0.coords t)) (d) : (dats m 0 c).before 9 t d = GT m c := by
  rw [Dat.before_out_traj _ 9 rfl (fun _ _ => rfl) (fun t _ _ _ => by rw [after0_9, after0_9]) t.val t rfl d,
    if_neg (by rw [notFresh0_9_B t h]; exact Bool.false_ne_true)]
  dsimp only [dats]

/-- So a later point leaves it as it found it. -/
theorem leaves0_9_B (c : Dev nD) (t : Fin cfg0.N) (h : ¬cond0_0 (grid0.coords t)) (d) :
    owns (c : Thread nD τ) (ms0_9 t) fullShare ((dats m 0 c).before 9 t d) ⊢ (dats m 0 c).leavesExact 9 t := by
  cases hf : (cfg0.win 9).flush t with
  | false =>
    rw [Dat.leavesExact_idle _ 9 t (idleAt0_9_B t h) hf]
    iintro H
    iexists d
    iexact H
  | true =>
    rw [before0_9_B m c t h d]
    unfold Dat.leavesExact
    rw [idleAt0_9_B t h, hf]
    dsimp only
    rw [after0_9]
    try exact Idealize.SL.BI.Entails.refl _

/-- At a later point output 10's buffer still holds what the first point left. -/
theorem before0_10_B (c : Dev nD) (t : Fin cfg0.N) (h : ¬cond0_0 (grid0.coords t)) (d) : (dats m 0 c).before 10 t d = CD m c := by
  rw [Dat.before_out_traj _ 10 rfl (fun _ _ => rfl) (fun t _ _ _ => by rw [after0_10, after0_10]) t.val t rfl d,
    if_neg (by rw [notFresh0_10_B t h]; exact Bool.false_ne_true)]
  dsimp only [dats]

/-- So a later point leaves it as it found it. -/
theorem leaves0_10_B (c : Dev nD) (t : Fin cfg0.N) (h : ¬cond0_0 (grid0.coords t)) (d) :
    owns (c : Thread nD τ) (ms0_10 t) fullShare ((dats m 0 c).before 10 t d) ⊢ (dats m 0 c).leavesExact 10 t := by
  cases hf : (cfg0.win 10).flush t with
  | false =>
    rw [Dat.leavesExact_idle _ 10 t (idleAt0_10_B t h) hf]
    iintro H
    iexists d
    iexact H
  | true =>
    rw [before0_10_B m c t h d]
    unfold Dat.leavesExact
    rw [idleAt0_10_B t h, hf]
    dsimp only
    rw [after0_10]
    try exact Idealize.SL.BI.Entails.refl _

/-- At a later point output 11's buffer still holds what the first point left. -/
theorem before0_11_B (c : Dev nD) (t : Fin cfg0.N) (h : ¬cond0_0 (grid0.coords t)) (d) : (dats m 0 c).before 11 t d = XS m c := by
  rw [Dat.before_out_traj _ 11 rfl (fun _ _ => rfl) (fun t _ _ _ => by rw [after0_11, after0_11]) t.val t rfl d,
    if_neg (by rw [notFresh0_11_B t h]; exact Bool.false_ne_true)]
  dsimp only [dats]

/-- So a later point leaves it as it found it. -/
theorem leaves0_11_B (c : Dev nD) (t : Fin cfg0.N) (h : ¬cond0_0 (grid0.coords t)) (d) :
    owns (c : Thread nD τ) (ms0_11 t) fullShare ((dats m 0 c).before 11 t d) ⊢ (dats m 0 c).leavesExact 11 t := by
  cases hf : (cfg0.win 11).flush t with
  | false =>
    rw [Dat.leavesExact_idle _ 11 t (idleAt0_11_B t h) hf]
    iintro H
    iexists d
    iexact H
  | true =>
    rw [before0_11_B m c t h d]
    unfold Dat.leavesExact
    rw [idleAt0_11_B t h, hf]
    dsimp only
    rw [after0_11]
    try exact Idealize.SL.BI.Entails.refl _

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_pos m c (t.val + 1) t.isLt (by omega)]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  by_cases hc : cond0_0 (grid0.coords t)
  · have hz : t.val = 0 := by
      have hN : t.val < 14 := lt_of_lt_of_eq t.isLt (show cfg0.N = 14 from N_0)
      have := (hcond0_0 t).mp hc
      omega
    obtain rfl : t = t0_0 := Fin.ext hz
    rw [PhiS_castSucc, PhiS_zero m c _ _ hz, PhiA0_eq]
    rw [show (dats m 0 c).leavesExact 9 t0_0 = owns (c : Thread nD τ) (ms0_9 t0_0) fullShare ((dats m 0 c).after 9 t0_0) from by
      unfold Dat.leavesExact; rw [liveAt0_9_A t0_0 hc], after0_9]
    rw [show (dats m 0 c).leavesExact 10 t0_0 = owns (c : Thread nD τ) (ms0_10 t0_0) fullShare ((dats m 0 c).after 10 t0_0) from by
      unfold Dat.leavesExact; rw [liveAt0_10_A t0_0 hc], after0_10]
    rw [show (dats m 0 c).leavesExact 11 t0_0 = owns (c : Thread nD τ) (ms0_11 t0_0) fullShare ((dats m 0 c).after 11 t0_0) from by
      unfold Dat.leavesExact; rw [liveAt0_11_A t0_0 hc], after0_11]
    rw [body_first (grid0.coords t0_0) _ _ _ _ _ _ _ _ _ _ _ _ _ _ _ _ _ _ _ _ _ _ _ _ _ _ _ _ hc, wp_bind]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (pre_triple c (grid0.coords t0_0) _ _ _ _ _ _ _ _ _ _ _ _ _ _ _ _ _ _ _ _ _ _ _ _ _ _ _ _ (iblk m c 1 t0_0) (iblk m c 2 t0_0) (iblk m c 3 t0_0) (iblk m c 4 t0_0) (iblk m c 5 t0_0) _ _)
    isplitl [H1]; · iexact H1
    isplitl [H2]; · iexact H2
    isplitl [H3]; · iexact H3
    isplitl [H4]; · iexact H4
    isplitl [H5]; · iexact H5
    isplitl [H9]; · iexists _; iexact H9
    isplitl [H10]; · iexists _; iexact H10
    isplitl [H11]; · iexists _; iexact H11
    isplitl [HS0]; · iexact HS0
    isplitl [HS1]; · iexact HS1
    iintro ⟨H1, H2, H3, H4, H5, H9, H10, H11, HS0, HS1⟩
    iapply (main_triple c (grid0.coords t0_0) _ _ _ _ _ _ _ _ _ _ _ _ _ _ _ _ _ _ _ _ _ _ _ _ _ _ _ _ (iblk m c 0 t0_0) (iblk m c 6 t0_0) (iblk m c 7 t0_0) (XW m c) (HB m c) _ _)
    isplitl [H0]; · iexact H0
    isplitl [H6]; · iexact H6
    isplitl [H7]; · iexact H7
    isplitl [HS0]; · iexact HS0
    isplitl [HS1]; · iexact HS1
    isplitl [H8]; · iexists _; iexact H8
    iintro ⟨H0, H6, H7, HS0, HS1, H8⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · have hz : t.val ≠ 0 := fun h => hc ((hcond0_0 t).mpr (by omega))
    rw [PhiS_castSucc, PhiS_pos m c _ _ hz]
    rw [body_later (grid0.coords t) _ _ _ _ _ _ _ _ _ _ _ _ _ _ _ _ _ _ _ _ _ _ _ _ _ _ _ _ hc]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (main_triple c (grid0.coords t) _ _ _ _ _ _ _ _ _ _ _ _ _ _ _ _ _ _ _ _ _ _ _ _ _ _ _ _ (iblk m c 0 t) (iblk m c 6 t) (iblk m c 7 t) (XW m c) (HB m c) _ _)
    isplitl [H0]; · iexact H0
    isplitl [H6]; · iexact H6
    isplitl [H7]; · iexact H7
    isplitl [HS0]; · iexact HS0
    isplitl [HS1]; · iexact HS1
    isplitl [H8]; · iexists _; iexact H8
    iintro ⟨H0, H6, H7, HS0, HS1, H8⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (leaves0_9_B m c t hc d9); iexact H9
    isplitl [H10]; · iapply (leaves0_10_B m c t hc d10); iexact H10
    iapply (leaves0_11_B m c t hc d11); iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 14 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame: every run ends, with the arguments as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Hand

end
-- ==== Proof.K.Runs.lean ====
module

public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import proofs.«01_k».proof.Proof.Gen.Kernel.Frame

@[expose] public section

set_option synthInstance.maxSize 4096
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, k0_cond1, e0]
    word_cmp
   : ∀ t : Fin grid0.N, cond0_0 (grid0.coords t) ↔ t.val % 14 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an output stored at every point, under no condition). -/
theorem liveAt0_8 : ∀ t : Fin cfg0.N, cfg0.idle 8 (grid0.coords t) = false := fun _ => rfl
/-- Whether output 9's buffer is FRESH at each position `1 ‥ N` — holds nothing the body stored since the region's entry or the
    last write-back (written back at the point before, or idle there and fresh before it) —, as a bitmask, bit `n` for position `n + 1`; position 0 is fresh. `freshTab0_9_step` checks it against the configuration's own
    step point by point and Lib/Pipeline/TableIdle.lean `Cfg.fresh_tab` makes it `Cfg.fresh` (`fresh0_9_eq`). -/
def freshTab0_9 : ℕ → Bool
  | 0 => true
  | n + 1 => (0x2000 : ℕ).testBit n
theorem freshTab0_9_step : ∀ t : Fin cfg0.N,
    freshTab0_9 (t.val + 1) = ((cfg0.win 9).flush t || (cfg0.idle 9 (cfg0.grid.coords t) && freshTab0_9 t.val)) := by decide +kernel
theorem fresh0_9_eq (t : Fin cfg0.N) : cfg0.fresh 9 t.val = freshTab0_9 t.val :=
  Pipeline.Cfg.fresh_tab cfg0 9 freshTab0_9 rfl freshTab0_9_step t.val (Nat.le_of_lt t.isLt)
/-- At the first point output 9 is live: the prologue stores into it. -/
theorem liveAt0_9_A : ∀ t : Fin cfg0.N, cond0_0 (grid0.coords t) → cfg0.idle 9 (grid0.coords t) = false := by decide +kernel
/-- At every later point output 9 is idle. -/
theorem idleAt0_9_B : ∀ t : Fin cfg0.N, ¬cond0_0 (grid0.coords t) → cfg0.idle 9 (grid0.coords t) = true := by decide +kernel
/-- At every later point output 9's buffer holds what the first point stored. -/
theorem notFresh0_9_B : ∀ t : Fin cfg0.N, ¬cond0_0 (grid0.coords t) → cfg0.fresh 9 t.val = false := by
  intro t; rw [fresh0_9_eq t]; revert t; decide +kernel
/-- Whether output 10's buffer is FRESH at each position `1 ‥ N` — holds nothing the body stored since the region's entry or the
    last write-back (written back at the point before, or idle there and fresh before it) —, as a bitmask, bit `n` for position `n + 1`; position 0 is fresh. `freshTab0_10_step` checks it against the configuration's own
    step point by point and Lib/Pipeline/TableIdle.lean `Cfg.fresh_tab` makes it `Cfg.fresh` (`fresh0_10_eq`). -/
def freshTab0_10 : ℕ → Bool
  | 0 => true
  | n + 1 => (0x2000 : ℕ).testBit n
theorem freshTab0_10_step : ∀ t : Fin cfg0.N,
    freshTab0_10 (t.val + 1) = ((cfg0.win 10).flush t || (cfg0.idle 10 (cfg0.grid.coords t) && freshTab0_10 t.val)) := by decide +kernel
theorem fresh0_10_eq (t : Fin cfg0.N) : cfg0.fresh 10 t.val = freshTab0_10 t.val :=
  Pipeline.Cfg.fresh_tab cfg0 10 freshTab0_10 rfl freshTab0_10_step t.val (Nat.le_of_lt t.isLt)
/-- At the first point output 10 is live: the prologue stores into it. -/
theorem liveAt0_10_A : ∀ t : Fin cfg0.N, cond0_0 (grid0.coords t) → cfg0.idle 10 (grid0.coords t) = false := by decide +kernel
/-- At every later point output 10 is idle. -/
theorem idleAt0_10_B : ∀ t : Fin cfg0.N, ¬cond0_0 (grid0.coords t) → cfg0.idle 10 (grid0.coords t) = true := by decide +kernel
/-- At every later point output 10's buffer holds what the first point stored. -/
theorem notFresh0_10_B : ∀ t : Fin cfg0.N, ¬cond0_0 (grid0.coords t) → cfg0.fresh 10 t.val = false := by
  intro t; rw [fresh0_10_eq t]; revert t; decide +kernel
/-- Whether output 11's buffer is FRESH at each position `1 ‥ N` — holds nothing the body stored since the region's entry or the
    last write-back (written back at the point before, or idle there and fresh before it) —, as a bitmask, bit `n` for position `n + 1`; position 0 is fresh. `freshTab0_11_step` checks it against the configuration's own
    step point by point and Lib/Pipeline/TableIdle.lean `Cfg.fresh_tab` makes it `Cfg.fresh` (`fresh0_11_eq`). -/
def freshTab0_11 : ℕ → Bool
  | 0 => true
  | n + 1 => (0x2000 : ℕ).testBit n
theorem freshTab0_11_step : ∀ t : Fin cfg0.N,
    freshTab0_11 (t.val + 1) = ((cfg0.win 11).flush t || (cfg0.idle 11 (cfg0.grid.coords t) && freshTab0_11 t.val)) := by decide +kernel
theorem fresh0_11_eq (t : Fin cfg0.N) : cfg0.fresh 11 t.val = freshTab0_11 t.val :=
  Pipeline.Cfg.fresh_tab cfg0 11 freshTab0_11 rfl freshTab0_11_step t.val (Nat.le_of_lt t.isLt)
/-- At the first point output 11 is live: the prologue stores into it. -/
theorem liveAt0_11_A : ∀ t : Fin cfg0.N, cond0_0 (grid0.coords t) → cfg0.idle 11 (grid0.coords t) = false := by decide +kernel
/-- At every later point output 11 is idle. -/
theorem idleAt0_11_B : ∀ t : Fin cfg0.N, ¬cond0_0 (grid0.coords t) → cfg0.idle 11 (grid0.coords t) = true := by decide +kernel
/-- At every later point output 11's buffer holds what the first point stored. -/
theorem notFresh0_11_B : ∀ t : Fin cfg0.N, ¬cond0_0 (grid0.coords t) → cfg0.fresh 11 t.val = false := by
  intro t; rw [fresh0_11_eq t]; revert t; decide +kernel

/-! ## The staging and scratch memrefs -/

/-- One staging buffer of output window 8, through which its contents are stated (`View.read_writes_of_cover`: the
    choice does not matter). -/
abbrev VO0_8 : View sig .tc .vmem S128x1024 .bf16 := (Memref.whole cc0_stg8_0 : Memref sig .tc .vmem S128x1024 .bf16).view
/-- One staging buffer of output window 9, through which its contents are stated (`View.read_writes_of_cover`: the
    choice does not matter). -/
abbrev VO0_9 : View sig .tc .vmem S2x128 .f32 := (Memref.whole cc0_stg9_0 : Memref sig .tc .vmem S2x128 .f32).view
/-- One staging buffer of output window 10, through which its contents are stated (`View.read_writes_of_cover`: the
    choice does not matter). -/
abbrev VO0_10 : View sig .tc .vmem S128x4096 .fp8e4m3 := (Memref.whole cc0_stg10_0 : Memref sig .tc .vmem S128x4096 .fp8e4m3).view
/-- One staging buffer of output window 11, through which its contents are stated (`View.read_writes_of_cover`: the
    choice does not matter). -/
abbrev VO0_11 : View sig .tc .vmem S32x128 .f32 := (Memref.whole cc0_stg11_0 : Memref sig .tc .vmem S32x128 .f32).view
/-- Each window's current staging memref at point `t`, spelled as the pipeline passes it (`bodyAt0`), and its wholeness. -/
abbrev ms0_0 (t : Fin cfg0.N) : Memref sig .tc .smem S32x112 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x128 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x4096 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4096x1024 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x4096 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S32x128 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S16x128x256 .bf16 := Memref.whole cc0_scratch0
abbrev scM0_1 : Memref sig .tc .vmem S128x128 .bf16 := Memref.whole cc0_scratch1
/-- The scratch `arg13` the kernel carries between points, as a view: what it holds is stated through it. -/
abbrev VS0_0 : View sig .tc .vmem S16x128x256 .bf16 := scM0_0.view
/-- The scratch `arg14` the kernel carries between points, as a view: what it holds is stated through it. -/
abbrev VS0_1 : View sig .tc .vmem S128x128 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.K.Body.lean ====
module

public import proofs.«01_k».proof.Proof.Gen.Kernel.Skeleton
public import proofs.«01_k».proof.Proof.K.Runs

@[expose] public section

set_option synthInstance.maxSize 4096
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What the body does at the first point only: quantise the tokens, dense the gates, build the
    gated low-rank activations. -/
def prologue (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole) :
    Prog (TpuEff nD τ sig (Elt F) Λ₀ .tc) PUnit := do
  let ⟨v3035, v3036, v3064, v3076, v3077⟩ : Σ' (v3035 : IVec S128x32 32) (v3036 : FVec F S128x32 .f32) (v3064 : FVec F S128x1 .f32) (v3076 : FVec F S128x128 .bf16), FVec F S128x1 .bf16 ← k0_part1 i arg1 harg1 arg2 harg2 arg3 harg3 arg4 harg4 arg5 harg5 arg6 harg6 arg7 harg7 arg8 harg8 arg9 harg9 arg10 harg10 arg11 harg11 arg12 harg12 arg13 harg13 arg14 harg14
  let ⟨v3087, v3115, v3120, cst_1521⟩ : Σ' (v3087 : FVec F S128x32 .f32) (v3115 : FVec F S128x1 .f32) (v3120 : FVec F S128x128 .f32), F .f32 ← k0_part2 i arg1 harg1 arg2 harg2 arg3 harg3 arg4 harg4 arg5 harg5 arg6 harg6 arg7 harg7 arg8 harg8 arg9 harg9 arg10 harg10 arg11 harg11 arg12 harg12 arg13 harg13 arg14 harg14 v3035 v3036 v3064 v3076 v3077
  let ⟨v3138, v3141, v3159, v3161, v3162⟩ : Σ' (v3138 : FVec F S128x32 .f32) (v3141 : FVec F S128x128 .f32) (v3159 : IVec S128x1 32) (v3161 : IVec S128x1 1), IVec S128x1 32 ← k0_part3 i arg1 harg1 arg2 harg2 arg3 harg3 arg4 harg4 arg5 harg5 arg6 harg6 arg7 harg7 arg8 harg8 arg9 harg9 arg10 harg10 arg11 harg11 arg12 harg12 arg13 harg13 arg14 harg14 v3035 v3087 v3115 v3120 cst_1521
  let ⟨v3189, v3192, v3200, v3204, c0_i32_1553⟩ : Σ' (v3189 : FVec F S128x32 .f32) (v3192 : FVec F S128x128 .f32) (v3200 : IVec S1x256 32) (v3204 : IVec S128x256 1), BitVec 32 ← k0_part4 i arg1 harg1 arg2 harg2 arg3 harg3 arg4 harg4 arg5 harg5 arg6 harg6 arg7 harg7 arg8 harg8 arg9 harg9 arg10 harg10 arg11 harg11 arg12 harg12 arg13 harg13 arg14 harg14 v3035 v3138 v3141 v3159 v3161 v3162
  let ⟨v3240, v3243, v3246⟩ : Σ' (v3240 : FVec F S128x32 .f32) (v3243 : FVec F S128x128 .f32), FVec F S128x1 .f32 ← k0_part5 i arg1 harg1 arg2 harg2 arg3 harg3 arg4 harg4 arg5 harg5 arg6 harg6 arg7 harg7 arg8 harg8 arg9 harg9 arg10 harg10 arg11 harg11 arg12 harg12 arg13 harg13 arg14 harg14 v3035 v3189 v3192 v3200 v3204 c0_i32_1553
  let ⟨v3268, v3288⟩ : Σ' (v3268 : FVec F S128x1 .f32), IVec S128x32 1 ← k0_part6 i arg1 harg1 arg2 harg2 arg3 harg3 arg4 harg4 arg5 harg5 arg6 harg6 arg7 harg7 arg8 harg8 arg9 harg9 arg10 harg10 arg11 harg11 arg12 harg12 arg13 harg13 arg14 harg14 v3035 v3243 v3246
  let ⟨v3291, v3319, v3331, v3332⟩ : Σ' (v3291 : FVec F S128x32 .f32) (v3319 : FVec F S128x1 .f32) (v3331 : FVec F S128x128 .bf16), FVec F S128x1 .bf16 ← k0_part7 i arg1 harg1 arg2 harg2 arg3 harg3 arg4 harg4 arg5 harg5 arg6 harg6 arg7 harg7 arg8 harg8 arg9 harg9 arg10 harg10 arg11 harg11 arg12 harg12 arg13 harg13 arg14 harg14 v3240 v3268 v3288
  let ⟨v3342, v3370, v3375, cst_1616⟩ : Σ' (v3342 : FVec F S128x32 .f32) (v3370 : FVec F S128x1 .f32) (v3375 : FVec F S128x128 .f32), F .f32 ← k0_part8 i arg1 harg1 arg2 harg2 arg3 harg3 arg4 harg4 arg5 harg5 arg6 harg6 arg7 harg7 arg8 harg8 arg9 harg9 arg10 harg10 arg11 harg11 arg12 harg12 arg13 harg13 arg14 harg14 v3035 v3291 v3319 v3331 v3332
  let ⟨v3393, v3396, v3414, v3416, v3417⟩ : Σ' (v3393 : FVec F S128x32 .f32) (v3396 : FVec F S128x128 .f32) (v3414 : IVec S128x1 32) (v3416 : IVec S128x1 1), IVec S128x1 32 ← k0_part9 i arg1 harg1 arg2 harg2 arg3 harg3 arg4 harg4 arg5 harg5 arg6 harg6 arg7 harg7 arg8 harg8 arg9 harg9 arg10 harg10 arg11 harg11 arg12 harg12 arg13 harg13 arg14 harg14 v3035 v3342 v3370 v3375 cst_1616
  let ⟨v3444, v3447, v3455, v3459, c0_i32_1648⟩ : Σ' (v3444 : FVec F S128x32 .f32) (v3447 : FVec F S128x128 .f32) (v3455 : IVec S1x256 32) (v3459 : IVec S128x256 1), BitVec 32 ← k0_part10 i arg1 harg1 arg2 harg2 arg3 harg3 arg4 harg4 arg5 harg5 arg6 harg6 arg7 harg7 arg8 harg8 arg9 harg9 arg10 harg10 arg11 harg11 arg12 harg12 arg13 harg13 arg14 harg14 v3035 v3393 v3396 v3414 v3416 v3417
  let ⟨v3495, v3498, v3501⟩ : Σ' (v3495 : FVec F S128x32 .f32) (v3498 : FVec F S128x128 .f32), FVec F S128x1 .f32 ← k0_part11 i arg1 harg1 arg2 harg2 arg3 harg3 arg4 harg4 arg5 harg5 arg6 harg6 arg7 harg7 arg8 harg8 arg9 harg9 arg10 harg10 arg11 harg11 arg12 harg12 arg13 harg13 arg14 harg14 v3035 v3444 v3447 v3455 v3459 c0_i32_1648
  let ⟨v3523, v3543⟩ : Σ' (v3523 : FVec F S128x1 .f32), IVec S128x32 1 ← k0_part12 i arg1 harg1 arg2 harg2 arg3 harg3 arg4 harg4 arg5 harg5 arg6 harg6 arg7 harg7 arg8 harg8 arg9 harg9 arg10 harg10 arg11 harg11 arg12 harg12 arg13 harg13 arg14 harg14 v3035 v3498 v3501
  let ⟨v3546, v3574, v3586, v3587⟩ : Σ' (v3546 : FVec F S128x32 .f32) (v3574 : FVec F S128x1 .f32) (v3586 : FVec F S128x128 .bf16), FVec F S128x1 .bf16 ← k0_part13 i arg1 harg1 arg2 harg2 arg3 harg3 arg4 harg4 arg5 harg5 arg6 harg6 arg7 harg7 arg8 harg8 arg9 harg9 arg10 harg10 arg11 harg11 arg12 harg12 arg13 harg13 arg14 harg14 v3495 v3523 v3543
  let ⟨v3597, v3625, v3630, cst_1709⟩ : Σ' (v3597 : FVec F S128x32 .f32) (v3625 : FVec F S128x1 .f32) (v3630 : FVec F S128x128 .f32), F .f32 ← k0_part14 i arg1 harg1 arg2 harg2 arg3 harg3 arg4 harg4 arg5 harg5 arg6 harg6 arg7 harg7 arg8 harg8 arg9 harg9 arg10 harg10 arg11 harg11 arg12 harg12 arg13 harg13 arg14 harg14 v3035 v3546 v3574 v3586 v3587
  let ⟨v3648, v3651, v3669, v3671, v3672⟩ : Σ' (v3648 : FVec F S128x32 .f32) (v3651 : FVec F S128x128 .f32) (v3669 : IVec S128x1 32) (v3671 : IVec S128x1 1), IVec S128x1 32 ← k0_part15 i arg1 harg1 arg2 harg2 arg3 harg3 arg4 harg4 arg5 harg5 arg6 harg6 arg7 harg7 arg8 harg8 arg9 harg9 arg10 harg10 arg11 harg11 arg12 harg12 arg13 harg13 arg14 harg14 v3035 v3597 v3625 v3630 cst_1709
  let ⟨v3699, v3702, v3710, v3714, c0_i32_1739⟩ : Σ' (v3699 : FVec F S128x32 .f32) (v3702 : FVec F S128x128 .f32) (v3710 : IVec S1x256 32) (v3714 : IVec S128x256 1), BitVec 32 ← k0_part16 i arg1 harg1 arg2 harg2 arg3 harg3 arg4 harg4 arg5 harg5 arg6 harg6 arg7 harg7 arg8 harg8 arg9 harg9 arg10 harg10 arg11 harg11 arg12 harg12 arg13 harg13 arg14 harg14 v3035 v3648 v3651 v3669 v3671 v3672
  let ⟨v3750, v3753, v3756⟩ : Σ' (v3750 : FVec F S128x32 .f32) (v3753 : FVec F S128x128 .f32), FVec F S128x1 .f32 ← k0_part17 i arg1 harg1 arg2 harg2 arg3 harg3 arg4 harg4 arg5 harg5 arg6 harg6 arg7 harg7 arg8 harg8 arg9 harg9 arg10 harg10 arg11 harg11 arg12 harg12 arg13 harg13 arg14 harg14 v3035 v3699 v3702 v3710 v3714 c0_i32_1739
  let ⟨v3778, v3798⟩ : Σ' (v3778 : FVec F S128x1 .f32), IVec S128x32 1 ← k0_part18 i arg1 harg1 arg2 harg2 arg3 harg3 arg4 harg4 arg5 harg5 arg6 harg6 arg7 harg7 arg8 harg8 arg9 harg9 arg10 harg10 arg11 harg11 arg12 harg12 arg13 harg13 arg14 harg14 v3035 v3753 v3756
  let ⟨v3801, v3829, v3841, v3842⟩ : Σ' (v3801 : FVec F S128x32 .f32) (v3829 : FVec F S128x1 .f32) (v3841 : FVec F S128x128 .bf16), FVec F S128x1 .bf16 ← k0_part19 i arg1 harg1 arg2 harg2 arg3 harg3 arg4 harg4 arg5 harg5 arg6 harg6 arg7 harg7 arg8 harg8 arg9 harg9 arg10 harg10 arg11 harg11 arg12 harg12 arg13 harg13 arg14 harg14 v3750 v3778 v3798
  let ⟨v3852, v3880, v3885, cst_1799⟩ : Σ' (v3852 : FVec F S128x32 .f32) (v3880 : FVec F S128x1 .f32) (v3885 : FVec F S128x128 .f32), F .f32 ← k0_part20 i arg1 harg1 arg2 harg2 arg3 harg3 arg4 harg4 arg5 harg5 arg6 harg6 arg7 harg7 arg8 harg8 arg9 harg9 arg10 harg10 arg11 harg11 arg12 harg12 arg13 harg13 arg14 harg14 v3035 v3801 v3829 v3841 v3842
  let ⟨v3903, v3906, v3924, v3926, v3927⟩ : Σ' (v3903 : FVec F S128x32 .f32) (v3906 : FVec F S128x128 .f32) (v3924 : IVec S128x1 32) (v3926 : IVec S128x1 1), IVec S128x1 32 ← k0_part21 i arg1 harg1 arg2 harg2 arg3 harg3 arg4 harg4 arg5 harg5 arg6 harg6 arg7 harg7 arg8 harg8 arg9 harg9 arg10 harg10 arg11 harg11 arg12 harg12 arg13 harg13 arg14 harg14 v3035 v3852 v3880 v3885 cst_1799
  let ⟨v3954, v3957, v3965, v3969, c0_i32_1829⟩ : Σ' (v3954 : FVec F S128x32 .f32) (v3957 : FVec F S128x128 .f32) (v3965 : IVec S1x256 32) (v3969 : IVec S128x256 1), BitVec 32 ← k0_part22 i arg1 harg1 arg2 harg2 arg3 harg3 arg4 harg4 arg5 harg5 arg6 harg6 arg7 harg7 arg8 harg8 arg9 harg9 arg10 harg10 arg11 harg11 arg12 harg12 arg13 harg13 arg14 harg14 v3035 v3903 v3906 v3924 v3926 v3927
  let ⟨v4005, v4008, v4011⟩ : Σ' (v4005 : FVec F S128x32 .f32) (v4008 : FVec F S128x128 .f32), FVec F S128x1 .f32 ← k0_part23 i arg1 harg1 arg2 harg2 arg3 harg3 arg4 harg4 arg5 harg5 arg6 harg6 arg7 harg7 arg8 harg8 arg9 harg9 arg10 harg10 arg11 harg11 arg12 harg12 arg13 harg13 arg14 harg14 v3035 v3954 v3957 v3965 v3969 c0_i32_1829
  let ⟨v4033, v4053⟩ : Σ' (v4033 : FVec F S128x1 .f32), IVec S128x32 1 ← k0_part24 i arg1 harg1 arg2 harg2 arg3 harg3 arg4 harg4 arg5 harg5 arg6 harg6 arg7 harg7 arg8 harg8 arg9 harg9 arg10 harg10 arg11 harg11 arg12 harg12 arg13 harg13 arg14 harg14 v3035 v4008 v4011
  let ⟨v4056, v4084, v4096, v4097⟩ : Σ' (v4056 : FVec F S128x32 .f32) (v4084 : FVec F S128x1 .f32) (v4096 : FVec F S128x128 .bf16), FVec F S128x1 .bf16 ← k0_part25 i arg1 harg1 arg2 harg2 arg3 harg3 arg4 harg4 arg5 harg5 arg6 harg6 arg7 harg7 arg8 harg8 arg9 harg9 arg10 harg10 arg11 harg11 arg12 harg12 arg13 harg13 arg14 harg14 v4005 v4033 v4053
  let ⟨v4107, v4135, v4140, cst_1889⟩ : Σ' (v4107 : FVec F S128x32 .f32) (v4135 : FVec F S128x1 .f32) (v4140 : FVec F S128x128 .f32), F .f32 ← k0_part26 i arg1 harg1 arg2 harg2 arg3 harg3 arg4 harg4 arg5 harg5 arg6 harg6 arg7 harg7 arg8 harg8 arg9 harg9 arg10 harg10 arg11 harg11 arg12 harg12 arg13 harg13 arg14 harg14 v3035 v4056 v4084 v4096 v4097
  let ⟨v4158, v4161, v4179, v4181, v4182⟩ : Σ' (v4158 : FVec F S128x32 .f32) (v4161 : FVec F S128x128 .f32) (v4179 : IVec S128x1 32) (v4181 : IVec S128x1 1), IVec S128x1 32 ← k0_part27 i arg1 harg1 arg2 harg2 arg3 harg3 arg4 harg4 arg5 harg5 arg6 harg6 arg7 harg7 arg8 harg8 arg9 harg9 arg10 harg10 arg11 harg11 arg12 harg12 arg13 harg13 arg14 harg14 v3035 v4107 v4135 v4140 cst_1889
  let ⟨v4209, v4212, v4220, v4224, c0_i32_1919⟩ : Σ' (v4209 : FVec F S128x32 .f32) (v4212 : FVec F S128x128 .f32) (v4220 : IVec S1x256 32) (v4224 : IVec S128x256 1), BitVec 32 ← k0_part28 i arg1 harg1 arg2 harg2 arg3 harg3 arg4 harg4 arg5 harg5 arg6 harg6 arg7 harg7 arg8 harg8 arg9 harg9 arg10 harg10 arg11 harg11 arg12 harg12 arg13 harg13 arg14 harg14 v3035 v4158 v4161 v4179 v4181 v4182
  let ⟨v4260, v4263, v4266⟩ : Σ' (v4260 : FVec F S128x32 .f32) (v4263 : FVec F S128x128 .f32), FVec F S128x1 .f32 ← k0_part29 i arg1 harg1 arg2 harg2 arg3 harg3 arg4 harg4 arg5 harg5 arg6 harg6 arg7 harg7 arg8 harg8 arg9 harg9 arg10 harg10 arg11 harg11 arg12 harg12 arg13 harg13 arg14 harg14 v3035 v4209 v4212 v4220 v4224 c0_i32_1919
  let ⟨v4288, v4308⟩ : Σ' (v4288 : FVec F S128x1 .f32), IVec S128x32 1 ← k0_part30 i arg1 harg1 arg2 harg2 arg3 harg3 arg4 harg4 arg5 harg5 arg6 harg6 arg7 harg7 arg8 harg8 arg9 harg9 arg10 harg10 arg11 harg11 arg12 harg12 arg13 harg13 arg14 harg14 v3035 v4263 v4266
  let ⟨v4311, v4339, v4351, v4352⟩ : Σ' (v4311 : FVec F S128x32 .f32) (v4339 : FVec F S128x1 .f32) (v4351 : FVec F S128x128 .bf16), FVec F S128x1 .bf16 ← k0_part31 i arg1 harg1 arg2 harg2 arg3 harg3 arg4 harg4 arg5 harg5 arg6 harg6 arg7 harg7 arg8 harg8 arg9 harg9 arg10 harg10 arg11 harg11 arg12 harg12 arg13 harg13 arg14 harg14 v4260 v4288 v4308
  let ⟨v4362, v4390, v4395, cst_1979⟩ : Σ' (v4362 : FVec F S128x32 .f32) (v4390 : FVec F S128x1 .f32) (v4395 : FVec F S128x128 .f32), F .f32 ← k0_part32 i arg1 harg1 arg2 harg2 arg3 harg3 arg4 harg4 arg5 harg5 arg6 harg6 arg7 harg7 arg8 harg8 arg9 harg9 arg10 harg10 arg11 harg11 arg12 harg12 arg13 harg13 arg14 harg14 v3035 v4311 v4339 v4351 v4352
  let ⟨v4413, v4416, v4434, v4436, v4437⟩ : Σ' (v4413 : FVec F S128x32 .f32) (v4416 : FVec F S128x128 .f32) (v4434 : IVec S128x1 32) (v4436 : IVec S128x1 1), IVec S128x1 32 ← k0_part33 i arg1 harg1 arg2 harg2 arg3 harg3 arg4 harg4 arg5 harg5 arg6 harg6 arg7 harg7 arg8 harg8 arg9 harg9 arg10 harg10 arg11 harg11 arg12 harg12 arg13 harg13 arg14 harg14 v3035 v4362 v4390 v4395 cst_1979
  let ⟨v4464, v4467, v4475, v4479, c0_i32_2009⟩ : Σ' (v4464 : FVec F S128x32 .f32) (v4467 : FVec F S128x128 .f32) (v4475 : IVec S1x256 32) (v4479 : IVec S128x256 1), BitVec 32 ← k0_part34 i arg1 harg1 arg2 harg2 arg3 harg3 arg4 harg4 arg5 harg5 arg6 harg6 arg7 harg7 arg8 harg8 arg9 harg9 arg10 harg10 arg11 harg11 arg12 harg12 arg13 harg13 arg14 harg14 v3035 v4413 v4416 v4434 v4436 v4437
  let ⟨v4515, v4518, v4521⟩ : Σ' (v4515 : FVec F S128x32 .f32) (v4518 : FVec F S128x128 .f32), FVec F S128x1 .f32 ← k0_part35 i arg1 harg1 arg2 harg2 arg3 harg3 arg4 harg4 arg5 harg5 arg6 harg6 arg7 harg7 arg8 harg8 arg9 harg9 arg10 harg10 arg11 harg11 arg12 harg12 arg13 harg13 arg14 harg14 v3035 v4464 v4467 v4475 v4479 c0_i32_2009
  let ⟨v4543, v4563⟩ : Σ' (v4543 : FVec F S128x1 .f32), IVec S128x32 1 ← k0_part36 i arg1 harg1 arg2 harg2 arg3 harg3 arg4 harg4 arg5 harg5 arg6 harg6 arg7 harg7 arg8 harg8 arg9 harg9 arg10 harg10 arg11 harg11 arg12 harg12 arg13 harg13 arg14 harg14 v3035 v4518 v4521
  let ⟨v4566, v4594, v4606, v4607⟩ : Σ' (v4566 : FVec F S128x32 .f32) (v4594 : FVec F S128x1 .f32) (v4606 : FVec F S128x128 .bf16), FVec F S128x1 .bf16 ← k0_part37 i arg1 harg1 arg2 harg2 arg3 harg3 arg4 harg4 arg5 harg5 arg6 harg6 arg7 harg7 arg8 harg8 arg9 harg9 arg10 harg10 arg11 harg11 arg12 harg12 arg13 harg13 arg14 harg14 v4515 v4543 v4563
  let ⟨v4617, v4645, v4650, cst_2069⟩ : Σ' (v4617 : FVec F S128x32 .f32) (v4645 : FVec F S128x1 .f32) (v4650 : FVec F S128x128 .f32), F .f32 ← k0_part38 i arg1 harg1 arg2 harg2 arg3 harg3 arg4 harg4 arg5 harg5 arg6 harg6 arg7 harg7 arg8 harg8 arg9 harg9 arg10 harg10 arg11 harg11 arg12 harg12 arg13 harg13 arg14 harg14 v3035 v4566 v4594 v4606 v4607
  let ⟨v4688, v4689⟩ : Σ' (v4688 : FVec F S8x128 .f32), IVec S8x128 32 ← k0_part39 i arg1 harg1 arg2 harg2 arg3 harg3 arg4 harg4 arg5 harg5 arg6 harg6 arg7 harg7 arg8 harg8 arg9 harg9 arg10 harg10 arg11 harg11 arg12 harg12 arg13 harg13 arg14 harg14 v3035 v4617 v4645 v4650 cst_2069
  let ⟨v4724, v4727⟩ : Σ' (v4724 : FVec F S128x128 .f32), FVec F S8x1x128 .f32 ← k0_part40 i arg1 harg1 arg2 harg2 arg3 harg3 arg4 harg4 arg5 harg5 arg6 harg6 arg7 harg7 arg8 harg8 arg9 harg9 arg10 harg10 arg11 harg11 arg12 harg12 arg13 harg13 arg14 harg14 v4688 v4689
  let v4734 : Vec F S128x128 .bf16 ← Prog.lift (.load arg14 (Rect.unit (s := S128x128) ![0, 0] S128x128.size inb_S128x128_S128x128_0_0).toLoadRect (View.loadsAt_vmem h_S128x128))
  Prog.lift (.store arg14 (Rect.unit (s := S128x128) ![0, 0] S128x128.size inb_S128x128_S128x128_0_0) (k0_pay267 v4724 v4727) Finset.univ (View.stores_vmem h_S128x128 (harg14.storeExact_slice rfl _ packedbf16_S128x128_S128x128_0_0) (fun _ => rfl)) (.inl rfl))
  pure ⟨⟩

/-- The first stretch of the part of the body every point runs. -/
def main41 (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole) :
    Prog (TpuEff nD τ sig (Elt F) Λ₀ .tc) (Σ' (arg0 : BitVec 32) (v6 : FVec F S128x256 .f32) (v27 : FVec F S128x256 .bf16) (v29 : FVec F S128x128 .bf16), FVec F S1x1 .bf16) := do
  let arg0 : BitVec 32 := BitVec.ofNat 32 (i 0).val
  let v3 : Vec F S128x128 .bf16 ← Prog.lift (.load arg14 (Rect.unit (s := S128x128) ![0, 0] S128x128.size inb_S128x128_S128x128_0_0).toLoadRect (View.loadsAt_vmem h_S128x128))
  let v4 : Vec F S128x256 .bf16 ← Prog.lift (.load arg8 (Rect.unit (s := S128x1024) ![0, 0] S128x256.size inb_S128x1024_S128x256_0_0).toLoadRect (View.loadsAt_vmem h_S128x256))
  let v7 : Vec F S128x128 .fp8e4m3 ← Prog.lift (.load arg7 (Rect.unit (s := S4096x1024) ![0, 0] S128x128.size inb_S4096x1024_S128x128_0_0).toLoadRect (View.loadsAt_vmem h_S128x128))
  let v12 : Elt F .f32 ← smemLoad arg1 (Rect.unit (s := S32x112) (k0_off1 i 0#32) S1x1.size (k0_off1_inb i 0)) numel1_S1x1 rfl
  let v17 : Vec F S128x128 .fp8e4m3 ← Prog.lift (.load arg7 (Rect.unit (s := S4096x1024) ![0, 128] S128x128.size inb_S4096x1024_S128x128_0_128).toLoadRect (View.loadsAt_vmem h_S128x128))
  let v22 : Elt F .f32 ← smemLoad arg1 (Rect.unit (s := S32x112) (k0_off1 i 1#32) S1x1.size (k0_off1_inb i 1)) numel1_S1x1 rfl
  let v28 : Vec F S128x128 .fp8e4m3 ← Prog.lift (.load arg7 (Rect.unit (s := S4096x1024) ![128, 0] S128x128.size inb_S4096x1024_S128x128_128_0).toLoadRect (View.loadsAt_vmem h_S128x128))
  let v33 : Elt F .f32 ← smemLoad arg1 (Rect.unit (s := S32x112) (k0_off2 i 0#32) S1x1.size (k0_off2_inb i 0)) numel1_S1x1 rfl
  pure ⟨arg0, k0_pay268 v3 v4, k0_pay269 v7 v12 v17 v22, k0_pay270 v28, k0_pay271 v33⟩

/-- The first half of the part of the body every point runs. -/
def main117 (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole) :
    Prog (TpuEff nD τ sig (Elt F) Λ₀ .tc) (Σ' (arg0 : BitVec 32) (v2327 : FVec F S128x256 .f32), FVec F S256x256 .bf16) := do
  let ⟨arg0, v6, v27, v29, v35⟩ : Σ' (arg0 : BitVec 32) (v6 : FVec F S128x256 .f32) (v27 : FVec F S128x256 .bf16) (v29 : FVec F S128x128 .bf16), FVec F S1x1 .bf16 ← main41 i arg1 harg1 arg2 harg2 arg3 harg3 arg4 harg4 arg5 harg5 arg6 harg6 arg7 harg7 arg8 harg8 arg9 harg9 arg10 harg10 arg11 harg11 arg12 harg12 arg13 harg13 arg14 harg14
  let ⟨v53, v74⟩ : Σ' (v53 : FVec F S128x256 .f32), FVec F S128x256 .bf16 ← k0_part42 i arg1 harg1 arg2 harg2 arg3 harg3 arg4 harg4 arg5 harg5 arg6 harg6 arg7 harg7 arg8 harg8 arg9 harg9 arg10 harg10 arg11 harg11 arg12 harg12 arg13 harg13 arg14 harg14 arg0 v6 v27 v29 v35
  let ⟨v100, v110, v112, v113, c1_i32_50⟩ : Σ' (v100 : FVec F S128x256 .f32) (v110 : FVec F S128x128 .bf16) (v112 : FVec F S128x128 .bf16) (v113 : BitVec 32), BitVec 32 ← k0_part43 i arg1 harg1 arg2 harg2 arg3 harg3 arg4 harg4 arg5 harg5 arg6 harg6 arg7 harg7 arg8 harg8 arg9 harg9 arg10 harg10 arg11 harg11 arg12 harg12 arg13 harg13 arg14 harg14 arg0 v53 v74
  let ⟨v147, v149, v153⟩ : Σ' (v147 : FVec F S128x256 .f32) (v149 : FVec F S128x128 .bf16), Elt F .f32 ← k0_part44 i arg1 harg1 arg2 harg2 arg3 harg3 arg4 harg4 arg5 harg5 arg6 harg6 arg7 harg7 arg8 harg8 arg9 harg9 arg10 harg10 arg11 harg11 arg12 harg12 arg13 harg13 arg14 harg14 arg0 v100 v110 v112 v113 c1_i32_50
  let v194 : FVec F S128x256 .f32 ← k0_part45 i arg1 harg1 arg2 harg2 arg3 harg3 arg4 harg4 arg5 harg5 arg6 harg6 arg7 harg7 arg8 harg8 arg9 harg9 arg10 harg10 arg11 harg11 arg12 harg12 arg13 harg13 arg14 harg14 arg0 v147 v149 v153
  let ⟨v215, v225, v227, v234⟩ : Σ' (v215 : FVec F S128x256 .bf16) (v225 : FVec F S128x128 .bf16) (v227 : FVec F S128x128 .bf16), FVec F S128x128 .bf16 ← k0_part46 i arg1 harg1 arg2 harg2 arg3 harg3 arg4 harg4 arg5 harg5 arg6 harg6 arg7 harg7 arg8 harg8 arg9 harg9 arg10 harg10 arg11 harg11 arg12 harg12 arg13 harg13 arg14 harg14 arg0
  let ⟨v241, v262, v272, v273⟩ : Σ' (v241 : FVec F S128x256 .f32) (v262 : FVec F S128x256 .bf16) (v272 : FVec F S128x128 .bf16), Vec F S128x128 .fp8e4m3 ← k0_part47 i arg1 harg1 arg2 harg2 arg3 harg3 arg4 harg4 arg5 harg5 arg6 harg6 arg7 harg7 arg8 harg8 arg9 harg9 arg10 harg10 arg11 harg11 arg12 harg12 arg13 harg13 arg14 harg14 arg0 v194 v215 v225 v227 v234
  let ⟨v288, v309, v311, v312, c0_i32_134⟩ : Σ' (v288 : FVec F S128x256 .f32) (v309 : FVec F S128x256 .bf16) (v311 : FVec F S128x128 .bf16) (v312 : BitVec 32), BitVec 32 ← k0_part48 i arg1 harg1 arg2 harg2 arg3 harg3 arg4 harg4 arg5 harg5 arg6 harg6 arg7 harg7 arg8 harg8 arg9 harg9 arg10 harg10 arg11 harg11 arg12 harg12 arg13 harg13 arg14 harg14 arg0 v241 v262 v272 v273
  let ⟨v335, v345, v347, v352⟩ : Σ' (v335 : FVec F S128x256 .f32) (v345 : FVec F S128x128 .bf16) (v347 : FVec F S128x128 .bf16), FVec F S1x1 .f32 ← k0_part49 i arg1 harg1 arg2 harg2 arg3 harg3 arg4 harg4 arg5 harg5 arg6 harg6 arg7 harg7 arg8 harg8 arg9 harg9 arg10 harg10 arg11 harg11 arg12 harg12 arg13 harg13 arg14 harg14 arg0 v288 v309 v311 v312 c0_i32_134
  let ⟨v382, v392⟩ : Σ' (v382 : FVec F S128x256 .f32), FVec F S128x128 .bf16 ← k0_part50 i arg1 harg1 arg2 harg2 arg3 harg3 arg4 harg4 arg5 harg5 arg6 harg6 arg7 harg7 arg8 harg8 arg9 harg9 arg10 harg10 arg11 harg11 arg12 harg12 arg13 harg13 arg14 harg14 arg0 v335 v345 v347 v352
  let ⟨v429, v431, c8_i32_185⟩ : Σ' (v429 : FVec F S128x256 .f32) (v431 : FVec F S128x128 .bf16), BitVec 32 ← k0_part51 i arg1 harg1 arg2 harg2 arg3 harg3 arg4 harg4 arg5 harg5 arg6 harg6 arg7 harg7 arg8 harg8 arg9 harg9 arg10 harg10 arg11 harg11 arg12 harg12 arg13 harg13 arg14 harg14 arg0 v382 v392
  let v472 : FVec F S256x256 .bf16 ← k0_part52 i arg1 harg1 arg2 harg2 arg3 harg3 arg4 harg4 arg5 harg5 arg6 harg6 arg7 harg7 arg8 harg8 arg9 harg9 arg10 harg10 arg11 harg11 arg12 harg12 arg13 harg13 arg14 harg14 arg0 v431 c8_i32_185
  let ⟨v476, v497, v507, v509, v511⟩ : Σ' (v476 : FVec F S128x256 .f32) (v497 : FVec F S128x256 .bf16) (v507 : FVec F S128x128 .bf16) (v509 : FVec F S128x128 .bf16), BitVec 32 ← k0_part53 i arg1 harg1 arg2 harg2 arg3 harg3 arg4 harg4 arg5 harg5 arg6 harg6 arg7 harg7 arg8 harg8 arg9 harg9 arg10 harg10 arg11 harg11 arg12 harg12 arg13 harg13 arg14 harg14 arg0 v429 v472
  let ⟨v523, v544, v546, v551⟩ : Σ' (v523 : FVec F S128x256 .f32) (v544 : FVec F S128x256 .bf16) (v546 : FVec F S128x128 .bf16), FVec F S1x1 .f32 ← k0_part54 i arg1 harg1 arg2 harg2 arg3 harg3 arg4 harg4 arg5 harg5 arg6 harg6 arg7 harg7 arg8 harg8 arg9 harg9 arg10 harg10 arg11 harg11 arg12 harg12 arg13 harg13 arg14 harg14 arg0 v476 v497 v507 v509 v511
  let ⟨v570, v591⟩ : Σ' (v570 : FVec F S128x256 .f32), FVec F S128x256 .bf16 ← k0_part55 i arg1 harg1 arg2 harg2 arg3 harg3 arg4 harg4 arg5 harg5 arg6 harg6 arg7 harg7 arg8 harg8 arg9 harg9 arg10 harg10 arg11 harg11 arg12 harg12 arg13 harg13 arg14 harg14 arg0 v523 v544 v546 v551
  let ⟨v617, v627, v629, v630⟩ : Σ' (v617 : FVec F S128x256 .f32) (v627 : FVec F S128x128 .bf16) (v629 : FVec F S128x128 .bf16), BitVec 32 ← k0_part56 i arg1 harg1 arg2 harg2 arg3 harg3 arg4 harg4 arg5 harg5 arg6 harg6 arg7 harg7 arg8 harg8 arg9 harg9 arg10 harg10 arg11 harg11 arg12 harg12 arg13 harg13 arg14 harg14 arg0 v570 v591
  let ⟨v664, v666⟩ : Σ' (v664 : FVec F S128x256 .f32), FVec F S128x128 .bf16 ← k0_part57 i arg1 harg1 arg2 harg2 arg3 harg3 arg4 harg4 arg5 harg5 arg6 harg6 arg7 harg7 arg8 harg8 arg9 harg9 arg10 harg10 arg11 harg11 arg12 harg12 arg13 harg13 arg14 harg14 arg0 v617 v627 v629 v630
  let v710 : FVec F S128x256 .f32 ← k0_part58 i arg1 harg1 arg2 harg2 arg3 harg3 arg4 harg4 arg5 harg5 arg6 harg6 arg7 harg7 arg8 harg8 arg9 harg9 arg10 harg10 arg11 harg11 arg12 harg12 arg13 harg13 arg14 harg14 arg0 v666
  let ⟨v711, v732, v742, v744, v750⟩ : Σ' (v711 : FVec F S128x256 .f32) (v732 : FVec F S128x256 .bf16) (v742 : FVec F S128x128 .bf16) (v744 : FVec F S128x128 .bf16), FVec F S1x1 .bf16 ← k0_part59 i arg1 harg1 arg2 harg2 arg3 harg3 arg4 harg4 arg5 harg5 arg6 harg6 arg7 harg7 arg8 harg8 arg9 harg9 arg10 harg10 arg11 harg11 arg12 harg12 arg13 harg13 arg14 harg14 arg0 v664 v710
  let ⟨v764, v785, v786⟩ : Σ' (v764 : FVec F S128x256 .f32) (v785 : FVec F S128x256 .bf16), Vec F S128x128 .fp8e4m3 ← k0_part60 i arg1 harg1 arg2 harg2 arg3 harg3 arg4 harg4 arg5 harg5 arg6 harg6 arg7 harg7 arg8 harg8 arg9 harg9 arg10 harg10 arg11 harg11 arg12 harg12 arg13 harg13 arg14 harg14 arg0 v711 v732 v742 v744 v750
  let ⟨v811, v821, v823, v825⟩ : Σ' (v811 : FVec F S128x256 .f32) (v821 : FVec F S128x128 .bf16) (v823 : FVec F S128x128 .bf16), BitVec 32 ← k0_part61 i arg1 harg1 arg2 harg2 arg3 harg3 arg4 harg4 arg5 harg5 arg6 harg6 arg7 harg7 arg8 harg8 arg9 harg9 arg10 harg10 arg11 harg11 arg12 harg12 arg13 harg13 arg14 harg14 arg0 v764 v785 v786
  let ⟨v858, v860, v865⟩ : Σ' (v858 : FVec F S128x256 .f32) (v860 : FVec F S128x128 .bf16), FVec F S1x1 .f32 ← k0_part62 i arg1 harg1 arg2 harg2 arg3 harg3 arg4 harg4 arg5 harg5 arg6 harg6 arg7 harg7 arg8 harg8 arg9 harg9 arg10 harg10 arg11 harg11 arg12 harg12 arg13 harg13 arg14 harg14 arg0 v811 v821 v823 v825
  let v905 : FVec F S128x256 .f32 ← k0_part63 i arg1 harg1 arg2 harg2 arg3 harg3 arg4 harg4 arg5 harg5 arg6 harg6 arg7 harg7 arg8 harg8 arg9 harg9 arg10 harg10 arg11 harg11 arg12 harg12 arg13 harg13 arg14 harg14 arg0 v858 v860 v865
  let ⟨v926, v936, v946⟩ : Σ' (v926 : FVec F S128x256 .bf16) (v936 : FVec F S128x128 .bf16), FVec F S128x128 .bf16 ← k0_part64 i arg1 harg1 arg2 harg2 arg3 harg3 arg4 harg4 arg5 harg5 arg6 harg6 arg7 harg7 arg8 harg8 arg9 harg9 arg10 harg10 arg11 harg11 arg12 harg12 arg13 harg13 arg14 harg14 arg0
  let ⟨v952, v973, v983, v985⟩ : Σ' (v952 : FVec F S128x256 .f32) (v973 : FVec F S128x256 .bf16) (v983 : FVec F S128x128 .bf16), FVec F S128x128 .bf16 ← k0_part65 i arg1 harg1 arg2 harg2 arg3 harg3 arg4 harg4 arg5 harg5 arg6 harg6 arg7 harg7 arg8 harg8 arg9 harg9 arg10 harg10 arg11 harg11 arg12 harg12 arg13 harg13 arg14 harg14 arg0 v905 v926 v936 v946
  let ⟨v999, v1020, v1022, v1024⟩ : Σ' (v999 : FVec F S128x256 .f32) (v1020 : FVec F S128x256 .bf16) (v1022 : FVec F S128x128 .bf16), BitVec 32 ← k0_part66 i arg1 harg1 arg2 harg2 arg3 harg3 arg4 harg4 arg5 harg5 arg6 harg6 arg7 harg7 arg8 harg8 arg9 harg9 arg10 harg10 arg11 harg11 arg12 harg12 arg13 harg13 arg14 harg14 arg0 v952 v973 v983 v985
  let ⟨v1046, v1056, v1058, v1064⟩ : Σ' (v1046 : FVec F S128x256 .f32) (v1056 : FVec F S128x128 .bf16) (v1058 : FVec F S128x128 .bf16), FVec F S1x1 .bf16 ← k0_part67 i arg1 harg1 arg2 harg2 arg3 harg3 arg4 harg4 arg5 harg5 arg6 harg6 arg7 harg7 arg8 harg8 arg9 harg9 arg10 harg10 arg11 harg11 arg12 harg12 arg13 harg13 arg14 harg14 arg0 v999 v1020 v1022 v1024
  let ⟨v1093, v1103⟩ : Σ' (v1093 : FVec F S128x256 .f32), FVec F S128x128 .bf16 ← k0_part68 i arg1 harg1 arg2 harg2 arg3 harg3 arg4 harg4 arg5 harg5 arg6 harg6 arg7 harg7 arg8 harg8 arg9 harg9 arg10 harg10 arg11 harg11 arg12 harg12 arg13 harg13 arg14 harg14 arg0 v1046 v1056 v1058 v1064
  let ⟨v1140, v1142, v1143⟩ : Σ' (v1140 : FVec F S128x256 .f32) (v1142 : FVec F S128x128 .bf16), BitVec 32 ← k0_part69 i arg1 harg1 arg2 harg2 arg3 harg3 arg4 harg4 arg5 harg5 arg6 harg6 arg7 harg7 arg8 harg8 arg9 harg9 arg10 harg10 arg11 harg11 arg12 harg12 arg13 harg13 arg14 harg14 arg0 v1093 v1103
  let v1183 : FVec F S256x256 .bf16 ← k0_part70 i arg1 harg1 arg2 harg2 arg3 harg3 arg4 harg4 arg5 harg5 arg6 harg6 arg7 harg7 arg8 harg8 arg9 harg9 arg10 harg10 arg11 harg11 arg12 harg12 arg13 harg13 arg14 harg14 arg0 v1142 v1143
  let ⟨v1187, v1208, v1218, v1220, v1222⟩ : Σ' (v1187 : FVec F S128x256 .f32) (v1208 : FVec F S128x256 .bf16) (v1218 : FVec F S128x128 .bf16) (v1220 : FVec F S128x128 .bf16), BitVec 32 ← k0_part71 i arg1 harg1 arg2 harg2 arg3 harg3 arg4 harg4 arg5 harg5 arg6 harg6 arg7 harg7 arg8 harg8 arg9 harg9 arg10 harg10 arg11 harg11 arg12 harg12 arg13 harg13 arg14 harg14 arg0 v1140 v1183
  let ⟨v1234, v1255, v1257, v1263⟩ : Σ' (v1234 : FVec F S128x256 .f32) (v1255 : FVec F S128x256 .bf16) (v1257 : FVec F S128x128 .bf16), FVec F S1x1 .bf16 ← k0_part72 i arg1 harg1 arg2 harg2 arg3 harg3 arg4 harg4 arg5 harg5 arg6 harg6 arg7 harg7 arg8 harg8 arg9 harg9 arg10 harg10 arg11 harg11 arg12 harg12 arg13 harg13 arg14 harg14 arg0 v1187 v1208 v1218 v1220 v1222
  let ⟨v1281, v1302⟩ : Σ' (v1281 : FVec F S128x256 .f32), FVec F S128x256 .bf16 ← k0_part73 i arg1 harg1 arg2 harg2 arg3 harg3 arg4 harg4 arg5 harg5 arg6 harg6 arg7 harg7 arg8 harg8 arg9 harg9 arg10 harg10 arg11 harg11 arg12 harg12 arg13 harg13 arg14 harg14 arg0 v1234 v1255 v1257 v1263
  let ⟨v1328, v1338, v1340, v1341, c3_i32_625⟩ : Σ' (v1328 : FVec F S128x256 .f32) (v1338 : FVec F S128x128 .bf16) (v1340 : FVec F S128x128 .bf16) (v1341 : BitVec 32), BitVec 32 ← k0_part74 i arg1 harg1 arg2 harg2 arg3 harg3 arg4 harg4 arg5 harg5 arg6 harg6 arg7 harg7 arg8 harg8 arg9 harg9 arg10 harg10 arg11 harg11 arg12 harg12 arg13 harg13 arg14 harg14 arg0 v1281 v1302
  let ⟨v1375, v1377, v1381⟩ : Σ' (v1375 : FVec F S128x256 .f32) (v1377 : FVec F S128x128 .bf16), Elt F .f32 ← k0_part75 i arg1 harg1 arg2 harg2 arg3 harg3 arg4 harg4 arg5 harg5 arg6 harg6 arg7 harg7 arg8 harg8 arg9 harg9 arg10 harg10 arg11 harg11 arg12 harg12 arg13 harg13 arg14 harg14 arg0 v1328 v1338 v1340 v1341 c3_i32_625
  let v1422 : FVec F S128x256 .f32 ← k0_part76 i arg1 harg1 arg2 harg2 arg3 harg3 arg4 harg4 arg5 harg5 arg6 harg6 arg7 harg7 arg8 harg8 arg9 harg9 arg10 harg10 arg11 harg11 arg12 harg12 arg13 harg13 arg14 harg14 arg0 v1375 v1377 v1381
  let ⟨v1443, v1453, v1455, v1462⟩ : Σ' (v1443 : FVec F S128x256 .bf16) (v1453 : FVec F S128x128 .bf16) (v1455 : FVec F S128x128 .bf16), FVec F S128x128 .bf16 ← k0_part77 i arg1 harg1 arg2 harg2 arg3 harg3 arg4 harg4 arg5 harg5 arg6 harg6 arg7 harg7 arg8 harg8 arg9 harg9 arg10 harg10 arg11 harg11 arg12 harg12 arg13 harg13 arg14 harg14 arg0
  let ⟨v1469, v1490, v1500, v1501⟩ : Σ' (v1469 : FVec F S128x256 .f32) (v1490 : FVec F S128x256 .bf16) (v1500 : FVec F S128x128 .bf16), Vec F S128x128 .fp8e4m3 ← k0_part78 i arg1 harg1 arg2 harg2 arg3 harg3 arg4 harg4 arg5 harg5 arg6 harg6 arg7 harg7 arg8 harg8 arg9 harg9 arg10 harg10 arg11 harg11 arg12 harg12 arg13 harg13 arg14 harg14 arg0 v1422 v1443 v1453 v1455 v1462
  let ⟨v1522, v1532, v1534, v1536⟩ : Σ' (v1522 : FVec F S128x256 .f32) (v1532 : FVec F S128x128 .bf16) (v1534 : FVec F S128x128 .bf16), BitVec 32 ← k0_part79 i arg1 harg1 arg2 harg2 arg3 harg3 arg4 harg4 arg5 harg5 arg6 harg6 arg7 harg7 arg8 harg8 arg9 harg9 arg10 harg10 arg11 harg11 arg12 harg12 arg13 harg13 arg14 harg14 arg0 v1469 v1490 v1500 v1501
  let ⟨v1569, v1571, v1577⟩ : Σ' (v1569 : FVec F S128x256 .f32) (v1571 : FVec F S128x128 .bf16), FVec F S1x1 .bf16 ← k0_part80 i arg1 harg1 arg2 harg2 arg3 harg3 arg4 harg4 arg5 harg5 arg6 harg6 arg7 harg7 arg8 harg8 arg9 harg9 arg10 harg10 arg11 harg11 arg12 harg12 arg13 harg13 arg14 harg14 arg0 v1522 v1532 v1534 v1536
  let v1616 : FVec F S128x256 .f32 ← k0_part81 i arg1 harg1 arg2 harg2 arg3 harg3 arg4 harg4 arg5 harg5 arg6 harg6 arg7 harg7 arg8 harg8 arg9 harg9 arg10 harg10 arg11 harg11 arg12 harg12 arg13 harg13 arg14 harg14 arg0 v1569 v1571 v1577
  let ⟨v1637, v1658⟩ : Σ' (v1637 : FVec F S128x256 .bf16), FVec F S128x256 .bf16 ← k0_part82 i arg1 harg1 arg2 harg2 arg3 harg3 arg4 harg4 arg5 harg5 arg6 harg6 arg7 harg7 arg8 harg8 arg9 harg9 arg10 harg10 arg11 harg11 arg12 harg12 arg13 harg13 arg14 harg14 arg0
  let ⟨v1663, v1684, v1694, v1696, c8_i32_807⟩ : Σ' (v1663 : FVec F S128x256 .f32) (v1684 : FVec F S128x256 .bf16) (v1694 : FVec F S128x128 .bf16) (v1696 : FVec F S128x128 .bf16), BitVec 32 ← k0_part83 i arg1 harg1 arg2 harg2 arg3 harg3 arg4 harg4 arg5 harg5 arg6 harg6 arg7 harg7 arg8 harg8 arg9 harg9 arg10 harg10 arg11 harg11 arg12 harg12 arg13 harg13 arg14 harg14 arg0 v1616 v1637 v1658
  let ⟨v1710, v1731, v1733, v1735⟩ : Σ' (v1710 : FVec F S128x256 .f32) (v1731 : FVec F S128x256 .bf16) (v1733 : FVec F S128x128 .bf16), BitVec 32 ← k0_part84 i arg1 harg1 arg2 harg2 arg3 harg3 arg4 harg4 arg5 harg5 arg6 harg6 arg7 harg7 arg8 harg8 arg9 harg9 arg10 harg10 arg11 harg11 arg12 harg12 arg13 harg13 arg14 harg14 arg0 v1663 v1684 v1694 v1696 c8_i32_807
  let ⟨v1757, v1767, v1769, v1776⟩ : Σ' (v1757 : FVec F S128x256 .f32) (v1767 : FVec F S128x128 .bf16) (v1769 : FVec F S128x128 .bf16), FVec F S128x128 .bf16 ← k0_part85 i arg1 harg1 arg2 harg2 arg3 harg3 arg4 harg4 arg5 harg5 arg6 harg6 arg7 harg7 arg8 harg8 arg9 harg9 arg10 harg10 arg11 harg11 arg12 harg12 arg13 harg13 arg14 harg14 arg0 v1710 v1731 v1733 v1735
  let ⟨v1804, v1814, v1815⟩ : Σ' (v1804 : FVec F S128x256 .f32) (v1814 : FVec F S128x128 .bf16), Vec F S128x128 .fp8e4m3 ← k0_part86 i arg1 harg1 arg2 harg2 arg3 harg3 arg4 harg4 arg5 harg5 arg6 harg6 arg7 harg7 arg8 harg8 arg9 harg9 arg10 harg10 arg11 harg11 arg12 harg12 arg13 harg13 arg14 harg14 arg0 v1757 v1767 v1769 v1776
  let ⟨v1851, v1853, v1854, c4_i32_889⟩ : Σ' (v1851 : FVec F S128x256 .f32) (v1853 : FVec F S128x128 .bf16) (v1854 : BitVec 32), BitVec 32 ← k0_part87 i arg1 harg1 arg2 harg2 arg3 harg3 arg4 harg4 arg5 harg5 arg6 harg6 arg7 harg7 arg8 harg8 arg9 harg9 arg10 harg10 arg11 harg11 arg12 harg12 arg13 harg13 arg14 harg14 arg0 v1804 v1814 v1815
  let ⟨v1894, v1895⟩ : Σ' (v1894 : FVec F S256x256 .bf16), Vec F S1x128x256 .bf16 ← k0_part88 i arg1 harg1 arg2 harg2 arg3 harg3 arg4 harg4 arg5 harg5 arg6 harg6 arg7 harg7 arg8 harg8 arg9 harg9 arg10 harg10 arg11 harg11 arg12 harg12 arg13 harg13 arg14 harg14 arg0 v1853 v1854 c4_i32_889
  let ⟨v1898, v1919, v1929, v1931⟩ : Σ' (v1898 : FVec F S128x256 .f32) (v1919 : FVec F S128x256 .bf16) (v1929 : FVec F S128x128 .bf16), FVec F S128x128 .bf16 ← k0_part89 i arg1 harg1 arg2 harg2 arg3 harg3 arg4 harg4 arg5 harg5 arg6 harg6 arg7 harg7 arg8 harg8 arg9 harg9 arg10 harg10 arg11 harg11 arg12 harg12 arg13 harg13 arg14 harg14 arg0 v1851 v1894 v1895
  let ⟨v1945, v1966, v1968, v1975⟩ : Σ' (v1945 : FVec F S128x256 .f32) (v1966 : FVec F S128x256 .bf16) (v1968 : FVec F S128x128 .bf16), FVec F S128x128 .bf16 ← k0_part90 i arg1 harg1 arg2 harg2 arg3 harg3 arg4 harg4 arg5 harg5 arg6 harg6 arg7 harg7 arg8 harg8 arg9 harg9 arg10 harg10 arg11 harg11 arg12 harg12 arg13 harg13 arg14 harg14 arg0 v1898 v1919 v1929 v1931
  let ⟨v1992, v2013, v2014⟩ : Σ' (v1992 : FVec F S128x256 .f32) (v2013 : FVec F S128x256 .bf16), Vec F S128x128 .fp8e4m3 ← k0_part91 i arg1 harg1 arg2 harg2 arg3 harg3 arg4 harg4 arg5 harg5 arg6 harg6 arg7 harg7 arg8 harg8 arg9 harg9 arg10 harg10 arg11 harg11 arg12 harg12 arg13 harg13 arg14 harg14 arg0 v1945 v1966 v1968 v1975
  let ⟨v2039, v2049, v2051, v2053⟩ : Σ' (v2039 : FVec F S128x256 .f32) (v2049 : FVec F S128x128 .bf16) (v2051 : FVec F S128x128 .bf16), BitVec 32 ← k0_part92 i arg1 harg1 arg2 harg2 arg3 harg3 arg4 harg4 arg5 harg5 arg6 harg6 arg7 harg7 arg8 harg8 arg9 harg9 arg10 harg10 arg11 harg11 arg12 harg12 arg13 harg13 arg14 harg14 arg0 v1992 v2013 v2014
  let ⟨v2086, v2088, v2093⟩ : Σ' (v2086 : FVec F S128x256 .f32) (v2088 : FVec F S128x128 .bf16), FVec F S1x1 .f32 ← k0_part93 i arg1 harg1 arg2 harg2 arg3 harg3 arg4 harg4 arg5 harg5 arg6 harg6 arg7 harg7 arg8 harg8 arg9 harg9 arg10 harg10 arg11 harg11 arg12 harg12 arg13 harg13 arg14 harg14 arg0 v2039 v2049 v2051 v2053
  let v2133 : FVec F S128x256 .f32 ← k0_part94 i arg1 harg1 arg2 harg2 arg3 harg3 arg4 harg4 arg5 harg5 arg6 harg6 arg7 harg7 arg8 harg8 arg9 harg9 arg10 harg10 arg11 harg11 arg12 harg12 arg13 harg13 arg14 harg14 arg0 v2086 v2088 v2093
  let ⟨v2154, v2164, v2174⟩ : Σ' (v2154 : FVec F S128x256 .bf16) (v2164 : FVec F S128x128 .bf16), FVec F S128x128 .bf16 ← k0_part95 i arg1 harg1 arg2 harg2 arg3 harg3 arg4 harg4 arg5 harg5 arg6 harg6 arg7 harg7 arg8 harg8 arg9 harg9 arg10 harg10 arg11 harg11 arg12 harg12 arg13 harg13 arg14 harg14 arg0
  let ⟨v2180, v2201, v2211, v2213⟩ : Σ' (v2180 : FVec F S128x256 .f32) (v2201 : FVec F S128x256 .bf16) (v2211 : FVec F S128x128 .bf16), FVec F S128x128 .bf16 ← k0_part96 i arg1 harg1 arg2 harg2 arg3 harg3 arg4 harg4 arg5 harg5 arg6 harg6 arg7 harg7 arg8 harg8 arg9 harg9 arg10 harg10 arg11 harg11 arg12 harg12 arg13 harg13 arg14 harg14 arg0 v2133 v2154 v2164 v2174
  let ⟨v2227, v2248, v2250, v2252⟩ : Σ' (v2227 : FVec F S128x256 .f32) (v2248 : FVec F S128x256 .bf16) (v2250 : FVec F S128x128 .bf16), BitVec 32 ← k0_part97 i arg1 harg1 arg2 harg2 arg3 harg3 arg4 harg4 arg5 harg5 arg6 harg6 arg7 harg7 arg8 harg8 arg9 harg9 arg10 harg10 arg11 harg11 arg12 harg12 arg13 harg13 arg14 harg14 arg0 v2180 v2201 v2211 v2213
  let ⟨v2280, v2282, v2289⟩ : Σ' (v2280 : FVec F S128x256 .f32) (v2282 : FVec F S128x128 .bf16), FVec F S128x128 .bf16 ← k0_part98 i arg1 harg1 arg2 harg2 arg3 harg3 arg4 harg4 arg5 harg5 arg6 harg6 arg7 harg7 arg8 harg8 arg9 harg9 arg10 harg10 arg11 harg11 arg12 harg12 arg13 harg13 arg14 harg14 arg0 v2227 v2248 v2250 v2252
  let ⟨v2327, v2328⟩ : Σ' (v2327 : FVec F S128x256 .f32), Vec F S128x128 .fp8e4m3 ← k0_part99 i arg1 harg1 arg2 harg2 arg3 harg3 arg4 harg4 arg5 harg5 arg6 harg6 arg7 harg7 arg8 harg8 arg9 harg9 arg10 harg10 arg11 harg11 arg12 harg12 arg13 harg13 arg14 harg14 arg0 v2280 v2282 v2289
  let v2370 : FVec F S256x256 .bf16 ← k0_part100 i arg1 harg1 arg2 harg2 arg3 harg3 arg4 harg4 arg5 harg5 arg6 harg6 arg7 harg7 arg8 harg8 arg9 harg9 arg10 harg10 arg11 harg11 arg12 harg12 arg13 harg13 arg14 harg14 arg0 v2328
  pure ⟨arg0, v2327, v2370⟩

/-- The part of the body every point runs: four column tiles of the product. -/
def mainPart (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole) :
    Prog (TpuEff nD τ sig (Elt F) Λ₀ .tc) PUnit := do
  let ⟨arg0, v2327, v2370⟩ : Σ' (arg0 : BitVec 32) (v2327 : FVec F S128x256 .f32), FVec F S256x256 .bf16 ← main117 i arg1 harg1 arg2 harg2 arg3 harg3 arg4 harg4 arg5 harg5 arg6 harg6 arg7 harg7 arg8 harg8 arg9 harg9 arg10 harg10 arg11 harg11 arg12 harg12 arg13 harg13 arg14 harg14
  let v3033 : FVec F S128x256 .bf16 ← k0_part118 i arg1 harg1 arg2 harg2 arg3 harg3 arg4 harg4 arg5 harg5 arg6 harg6 arg7 harg7 arg8 harg8 arg9 harg9 arg10 harg10 arg11 harg11 arg12 harg12 arg13 harg13 arg14 harg14 arg0 v2327 v2370
  let v3034 : Vec F S128x256 .bf16 ← Prog.lift (.load arg9 (Rect.unit (s := S128x1024) ![0, 768] S128x256.size inb_S128x1024_S128x256_0_768).toLoadRect (View.loadsAt_vmem h_S128x256))
  Prog.lift (.store arg9 (Rect.unit (s := S128x1024) ![0, 768] S128x256.size inb_S128x1024_S128x256_0_768) v3033 Finset.univ (View.stores_vmem h_S128x256 (harg9.storeExact_slice rfl _ packedbf16_S128x1024_S128x256_0_768) (fun _ => rfl)) (.inl rfl))
  pure ⟨⟩

set_option maxHeartbeats 2000000 in
/-- At the first point the body is the prologue, then the main part. -/
theorem body_first (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole) (h : k0_cond1 i = 1#1) :
    cc0_mixlora (F := F) i arg1 harg1 arg2 harg2 arg3 harg3 arg4 harg4 arg5 harg5 arg6 harg6 arg7 harg7 arg8 harg8 arg9 harg9 arg10 harg10 arg11 harg11 arg12 harg12 arg13 harg13 arg14 harg14 = (prologue i arg1 harg1 arg2 harg2 arg3 harg3 arg4 harg4 arg5 harg5 arg6 harg6 arg7 harg7 arg8 harg8 arg9 harg9 arg10 harg10 arg11 harg11 arg12 harg12 arg13 harg13 arg14 harg14 >>= fun _ => mainPart i arg1 harg1 arg2 harg2 arg3 harg3 arg4 harg4 arg5 harg5 arg6 harg6 arg7 harg7 arg8 harg8 arg9 harg9 arg10 harg10 arg11 harg11 arg12 harg12 arg13 harg13 arg14 harg14) := by
  simp only [cc0_mixlora_eq_skeleton]; unfold cc0_mixlora_skel
  simp only [k0_part117_eq_skeleton]; unfold k0_part117_skel
  simp only [k0_part41_eq_skeleton]; unfold k0_part41_skel
  unfold mainPart main117 main41 prologue
  simp only [dif_pos h, bind_assoc, pure_bind]

set_option maxHeartbeats 2000000 in
/-- At every later point the body is the main part. -/
theorem body_later (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole) (h : ¬ k0_cond1 i = 1#1) :
    cc0_mixlora (F := F) i arg1 harg1 arg2 harg2 arg3 harg3 arg4 harg4 arg5 harg5 arg6 harg6 arg7 harg7 arg8 harg8 arg9 harg9 arg10 harg10 arg11 harg11 arg12 harg12 arg13 harg13 arg14 harg14 = mainPart i arg1 harg1 arg2 harg2 arg3 harg3 arg4 harg4 arg5 harg5 arg6 harg6 arg7 harg7 arg8 harg8 arg9 harg9 arg10 harg10 arg11 harg11 arg12 harg12 arg13 harg13 arg14 harg14 := by
  simp only [cc0_mixlora_eq_skeleton]; unfold cc0_mixlora_skel
  simp only [k0_part117_eq_skeleton]; unfold k0_part117_skel
  simp only [k0_part41_eq_skeleton]; unfold k0_part41_skel
  unfold mainPart main117 main41
  simp only [dif_neg h, pure_bind]

end Cert.Kernel.Hand

end
-- ==== Proof.K.RunMain.lean ====
module

public import proofs.«01_k».proof.Proof.K.Body

@[expose] public section

set_option synthInstance.maxSize 4096
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 7000000 in
/-- What the main part leaves in the output block, as pieces (last first), with the proof that it does. -/
noncomputable def runMain (c : Dev nD) (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole)
    (x1 : Vec F S32x112 .f32) (x7 : Vec F S4096x1024 .fp8e4m3) (x8 : Vec F S128x1024 .bf16) (x13 : Vec F S16x128x256 .bf16) (x14 : Vec F S128x128 .bf16) :
    { L9 : List (View.Piece (Elt F) S128x1024 .bf16) //
      ∀ (E : Set ℕ) (K : PUnit → sProp 𝕄),
        iprop(owns (c : Thread nD τ) arg1 fullShare x1 ∗ owns (c : Thread nD τ) arg7 fullShare x7 ∗ owns (c : Thread nD τ) arg8 fullShare x8 ∗ owns (c : Thread nD τ) arg13 fullShare x13 ∗ owns (c : Thread nD τ) arg14 fullShare x14 ∗ (∃ d, owns (c : Thread nD τ) arg9 fullShare d)
            ∗ (iprop(owns (c : Thread nD τ) arg1 fullShare x1 ∗ owns (c : Thread nD τ) arg7 fullShare x7 ∗ owns (c : Thread nD τ) arg8 fullShare x8 ∗ owns (c : Thread nD τ) arg13 fullShare x13 ∗ owns (c : Thread nD τ) arg14 fullShare x14 ∗ (∃ f, arg9.view.loc (c : Thread nD τ) ↦[arg9.view.set]{fullShare} arg9.view.writes (Elt F) f L9)) -∗ K ⟨⟩))
          ⊢ wp frame (wpE (defs₀ (F := F)) Variants.none c none) E (mainPart i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    unfold mainPart main117 main41
    simp only [k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part118_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton]
    unfold owns
    iintro ⟨⟨%f1, %hf1, H1⟩, ⟨%f7, %hf7, H7⟩, ⟨%f8, %hf8, H8⟩, ⟨%f13, %hf13, H13⟩, ⟨%f14, %hf14, H14⟩, ⟨%d9, %f9, -, H9⟩, Hk⟩
    obtain rfl := harg1.eq_unread hf1; obtain rfl := harg7.eq_unread hf7; obtain rfl := harg8.eq_unread hf8; obtain rfl := harg13.eq_unread hf13; obtain rfl := harg14.eq_unread hf14
    sl_exec
    sl_step
    iapply Hk
    isplitl [H1]
    · iexists _; isplitr; · ipureintro; exact harg1.read_unread _
      iexact H1
    isplitl [H7]
    · iexists _; isplitr; · ipureintro; exact harg7.read_unread _
      iexact H7
    isplitl [H8]
    · iexists _; isplitr; · ipureintro; exact harg8.read_unread _
      iexact H8
    isplitl [H13]
    · iexists _; isplitr; · ipureintro; exact harg13.read_unread _
      iexact H13
    isplitl [H14]
    · iexists _; isplitr; · ipureintro; exact harg14.read_unread _
      iexact H14
    iexists _; iexact H9

end Cert.Kernel.Hand

end
-- ==== Proof.K.RunPre.lean ====
module

public import proofs.«01_k».proof.Proof.K.Body

@[expose] public section

set_option synthInstance.maxSize 4096
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 7000000 in
/-- What the prologue leaves in each buffer it stores into, as pieces (last first), with the proof that it does. -/
noncomputable def runPre (c : Dev nD) (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole)
    (x2 : Vec F S128x4096 .bf16) (x3 : Vec F S8x4096 .bf16) (x4 : Vec F S8x1 .f32) (x5 : Vec F S2x128 .i32) (x6 : Vec F S128x4096 .bf16) :
    Σ' (L10 : List (View.Piece (Elt F) S2x128 .f32)), Σ' (L11 : List (View.Piece (Elt F) S128x4096 .fp8e4m3)), Σ' (L12 : List (View.Piece (Elt F) S32x128 .f32)), Σ' (L13 : List (View.Piece (Elt F) S16x128x256 .bf16)), { L14 : List (View.Piece (Elt F) S128x128 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14)) -∗ K ⟨⟩))
          ⊢ wp frame (wpE (defs₀ (F := F)) Variants.none c none) E (prologue i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    unfold prologue
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f2, %hf2, H2⟩, ⟨%f3, %hf3, H3⟩, ⟨%f4, %hf4, H4⟩, ⟨%f5, %hf5, H5⟩, ⟨%f6, %hf6, H6⟩, ⟨%d10, %f10, -, H10⟩, ⟨%d11, %f11, -, H11⟩, ⟨%d12, %f12, -, H12⟩, ⟨%d13, %f13, -, H13⟩, ⟨%d14, %f14, -, H14⟩, Hk⟩
    obtain rfl := harg2.eq_unread hf2; obtain rfl := harg3.eq_unread hf3; obtain rfl := harg4.eq_unread hf4; obtain rfl := harg5.eq_unread hf5; obtain rfl := harg6.eq_unread hf6
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H10]; · iexists _; iexact H10
    isplitl [H11]; · iexists _; iexact H11
    isplitl [H12]; · iexists _; iexact H12
    isplitl [H13]; · iexists _; iexact H13
    iexists _; iexact H14

end Cert.Kernel.Hand

end
-- ==== Proof.K.Spec.lean ====
module

public import proofs.«01_k».proof.Proof.K.RunMain
public import proofs.«01_k».proof.Proof.K.RunPre

@[expose] public section

set_option synthInstance.maxSize 4096
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What the body computes, block by block -/

/-- Columns `128 k …` of the tokens. -/
abbrev rectC (k : ℕ) : Rect S128x4096 := Rect.unit (s := S128x4096) ![0, 128 * (k % 32)] S128x128.size
  (fun a => match a with
    | ⟨0, _⟩ => by show 0 + 128 ≤ 128; omega
    | ⟨1, _⟩ => by show 128 * (k % 32) + 128 ≤ 4096; omega)

/-- The half `k % 2` of chunk `k / 2` of the requantised tokens. -/
abbrev rectX (k : ℕ) : Rect S16x128x256 := Rect.unit (s := S16x128x256) ![k / 2 % 16, 0, 128 * (k % 2)] S1x128x128.size
  (fun a => match a with
    | ⟨0, _⟩ => by show k / 2 % 16 + 1 ≤ 16; omega
    | ⟨1, _⟩ => by show 0 + 128 ≤ 128; omega
    | ⟨2, _⟩ => by show 128 * (k % 2) + 128 ≤ 256; omega)

/-- Chunk `k` of the requantised tokens. -/
abbrev rectL (k : ℕ) : Rect S16x128x256 := Rect.unit (s := S16x128x256) ![k % 16, 0, 0] S1x128x256.size
  (fun a => match a with
    | ⟨0, _⟩ => by show k % 16 + 1 ≤ 16; omega
    | ⟨1, _⟩ => by show 0 + 128 ≤ 128; omega
    | ⟨2, _⟩ => by show 0 + 256 ≤ 256; omega)

/-- Block `(k, n)` of the weight codes. -/
abbrev rectW (k n : ℕ) : Rect S4096x1024 := Rect.unit (s := S4096x1024) ![128 * (k % 32), 128 * (n % 8)] S128x128.size
  (fun a => match a with
    | ⟨0, _⟩ => by show 128 * (k % 32) + 128 ≤ 4096; omega
    | ⟨1, _⟩ => by show 128 * (n % 8) + 128 ≤ 1024; omega)

/-- Column tile `t` of the output block. -/
abbrev rectO (t : ℕ) : Rect S128x1024 := Rect.unit (s := S128x1024) ![0, 256 * (t % 4)] S128x256.size
  (fun a => match a with
    | ⟨0, _⟩ => by show 0 + 128 ≤ 128; omega
    | ⟨1, _⟩ => by show 256 * (t % 4) + 256 ≤ 1024; omega)

/-- Row `r` of the two gate rows. -/
abbrev rectG (r : ℕ) : Rect S2x128 := Rect.unit (s := S2x128) ![r % 2, 0] S1x128.size
  (fun a => match a with
    | ⟨0, _⟩ => by show r % 2 + 1 ≤ 2; omega
    | ⟨1, _⟩ => by show 0 + 128 ≤ 128; omega)

/-- The whole of a matrix, as a rectangle. -/
abbrev rectA : Rect S128x128 := Rect.unit (s := S128x128) ![0, 0] S128x128.size inb_S128x128_S128x128_0_0

/-- The codes of one block of the tokens, -/
abbrev codesB (v : Vec F S128x128 .bf16) : FVec F S128x128 .fp8e4m3 := k0_pay5 v
/-- its scale, token by token, -/
abbrev scaleB (v : Vec F S128x128 .bf16) : FVec F S128x1 .f32 := k0_pay4 v
/-- and the codes under the scale. -/
abbrev xwB (v : Vec F S128x128 .bf16) : FVec F S1x128x128 .bf16 := k0_pay8 (k0_pay6 v) (k0_pay7 v)

/-- The first `k` columns of the scales laid side by side, zero beyond. -/
def selF (f : ℕ → Vec F S128x128 .bf16) : ℕ → FVec F S128x32 .f32
  | 0 => k0_pay1
  | k + 1 => select (cmpi .eq (iota .tc S128x32 32 [1] iota_S128x32_d1_w32) (broadcast S128x32 (BitVec.ofNat 32 k)))
      (broadcastTo S128x32 (shapeCast S128x1 (scaleB (f k)) shapeCasts_S128x1_S128x1) broadcasts_S128x1_S128x32) (selF f k)

/-- The scales, a row per block. -/
def xsV (X : Vec F S128x4096 .bf16) : FVec F S32x128 .f32 :=
  transpose S32x128 [1, 0] (selF (fun k => View.ld X (rectC k)) 32) transposes_S128x32_p1_0_S32x128

/-- The expert numbers down the rows. -/
abbrev ids : IVec S8x128 32 := iota .tc S8x128 32 [0] iota_S8x128_d0_w32

/-- The gates of chosen expert `r`. -/
def gateV (P : FVec F S8x128 .f32) (X5 : Vec F S2x128 .i32) (r : ℕ) : FVec F S1x128 .f32 :=
  divf (k0_pay260 P ids (View.ld X5 (rectG r))) (k0_pay262 P ids (View.ld X5 (rectG 0)) (View.ld X5 (rectG 1)))

/-- The gated low-rank activations. -/
def hbV (X2 : Vec F S128x4096 .bf16) (P : FVec F S8x128 .f32) (X5 : Vec F S2x128 .i32) (X6 : Vec F S128x4096 .bf16) : FVec F S128x128 .bf16 :=
  k0_pay267 (k0_pay265 X6 X2) (k0_pay266 P ids (View.ld X5 (rectG 0)) (View.ld X5 (rectG 1)))

/-- Row `k` of the weight scales at column `8 i + b`. -/
def soff (k : ℕ) (i : grid0.Coords) (b : BitVec 32) : Fin 2 → ℕ :=
  ![k, (Scalar.indexCast (Scalar.addi (Scalar.muli (BitVec.ofNat 32 (i 0).val) 8#32) b) : BitVec 32).toNat]

theorem soff_inb (k : ℕ) (i : grid0.Coords) (n : ℕ) (a : Fin 2) :
    soff (k % 32) i (BitVec.ofNat 32 (n % 8)) a + S1x1.size a ≤ S32x112.size a :=
  match a with
  | ⟨0, _⟩ => by show k % 32 + 1 ≤ 32; omega
  | ⟨1, _⟩ => k0_off1_inb i ⟨n % 8, Nat.mod_lt _ (by omega)⟩ 1

/-- The scale of weight block `(k, n)` of column block `i`. -/
def svalM (X1 : Vec F S32x112 .f32) (i : grid0.Coords) (k n : ℕ) : Elt F .f32 :=
  View.ld X1 (Rect.unit (s := S32x112) (soff (k % 32) i (BitVec.ofNat 32 (n % 8))) S1x1.size (soff_inb k i n))
    (Shape.Idx.first (numel1_S1x1.symm ▸ Nat.one_pos))

/-- Weight block `(k, n)` under its scale. -/
def wqM (X1 : Vec F S32x112 .f32) (X7 : Vec F S4096x1024 .fp8e4m3) (i : grid0.Coords) (k n : ℕ) : FVec F S128x128 .bf16 :=
  mulf (extf .bf16 (View.ld X7 (rectW k n)) bitsLt_fp8e4m3_bf16)
    (broadcastTo S128x128 (truncf .bf16 (broadcast S1x1 (svalM X1 i k n)) bitsLt_bf16_f32) broadcasts_S1x1_S128x128)

/-- Two of them side by side. -/
def wrowM (X1 : Vec F S32x112 .f32) (X7 : Vec F S4096x1024 .fp8e4m3) (i : grid0.Coords) (k t : ℕ) : FVec F S128x256 .bf16 :=
  concatenate S128x256 1 [⟨S128x128, wqM X1 X7 i k (2 * t)⟩, ⟨S128x128, wqM X1 X7 i k (2 * t + 1)⟩] concatenates_S128x128_S128x128_S128x256_d1

/-- Four of them in a square. -/
def wblkM (X1 : Vec F S32x112 .f32) (X7 : Vec F S4096x1024 .fp8e4m3) (i : grid0.Coords) (c t : ℕ) : FVec F S256x256 .bf16 :=
  concatenate S256x256 0 [⟨S128x256, wrowM X1 X7 i (2 * c) t⟩, ⟨S128x256, wrowM X1 X7 i (2 * c + 1) t⟩] concatenates_S128x256_S128x256_S256x256_d0

/-- Tile `t` of the output after `c` chunks of the contraction, the low-rank part first. -/
def accM (X1 : Vec F S32x112 .f32) (X7 : Vec F S4096x1024 .fp8e4m3) (X8 : Vec F S128x1024 .bf16) (X13 : Vec F S16x128x256 .bf16)
    (X14 : Vec F S128x128 .bf16) (i : grid0.Coords) (t : ℕ) : ℕ → FVec F S128x256 .f32
  | 0 => k0_pay268 X14 (View.ld X8 (rectO t))
  | c + 1 => addf (accM X1 X7 X8 X13 X14 i t c)
      (matmul dot_S128x256_S256x256_S128x256_1_0_0_1_n_n none (shapeCast S128x256 (View.ld X13 (rectL c)) shapeCasts_S1x128x256_S128x256)
        (wblkM X1 X7 i c t) (constant S128x256 .f32 0x00000000#32))

/-- Tile `t` of the output. -/
def tileM (X1 : Vec F S32x112 .f32) (X7 : Vec F S4096x1024 .fp8e4m3) (X8 : Vec F S128x1024 .bf16) (X13 : Vec F S16x128x256 .bf16)
    (X14 : Vec F S128x128 .bf16) (i : grid0.Coords) (t : ℕ) : FVec F S128x256 .bf16 :=
  truncf .bf16 (accM X1 X7 X8 X13 X14 i t 16) bitsLt_bf16_f32

end Cert.Kernel.Hand

end
-- ==== Proof.K.PiecesPre.lean ====
module

public import proofs.«01_k».proof.Proof.K.Spec

@[expose] public section

set_option synthInstance.maxSize 4096
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
theorem pieces_gates (c : Dev nD) (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole)
    (x2 : Vec F S128x4096 .bf16) (x3 : Vec F S8x4096 .bf16) (x4 : Vec F S8x1 .f32) (x5 : Vec F S2x128 .i32) (x6 : Vec F S128x4096 .bf16) :
    (runPre c i arg1 harg1 arg2 harg2 arg3 harg3 arg4 harg4 arg5 harg5 arg6 harg6 arg7 harg7 arg8 harg8 arg9 harg9 arg10 harg10 arg11 harg11 arg12 harg12 arg13 harg13 arg14 harg14 x2 x3 x4 x5 x6).1 = [⟨rectG 1, gateV (k0_pay257 (View.ld (arg3.view.read (Elt F) (harg3.unread x3)) (Rect.unit (s := S8x4096) ![0, 0] S8x4096.size inb_S8x4096_S8x4096_0_0)) (View.ld (arg2.view.read (Elt F) (harg2.unread x2)) (Rect.unit (s := S128x4096) ![0, 0] S128x4096.size inb_S128x4096_S128x4096_0_0)) (View.ld (arg4.view.read (Elt F) (harg4.unread x4)) (Rect.unit (s := S8x1) ![0, 0] S8x1.size inb_S8x1_S8x1_0_0))) (arg5.view.read (Elt F) (harg5.unread x5)) 1⟩, ⟨rectG 0, gateV (k0_pay257 (View.ld (arg3.view.read (Elt F) (harg3.unread x3)) (Rect.unit (s := S8x4096) ![0, 0] S8x4096.size inb_S8x4096_S8x4096_0_0)) (View.ld (arg2.view.read (Elt F) (harg2.unread x2)) (Rect.unit (s := S128x4096) ![0, 0] S128x4096.size inb_S128x4096_S128x4096_0_0)) (View.ld (arg4.view.read (Elt F) (harg4.unread x4)) (Rect.unit (s := S8x1) ![0, 0] S8x1.size inb_S8x1_S8x1_0_0))) (arg5.view.read (Elt F) (harg5.unread x5)) 0⟩] := by
  unfold runPre; rfl

set_option maxHeartbeats 4000000 in
theorem pieces_codes (c : Dev nD) (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole)
    (x2 : Vec F S128x4096 .bf16) (x3 : Vec F S8x4096 .bf16) (x4 : Vec F S8x1 .f32) (x5 : Vec F S2x128 .i32) (x6 : Vec F S128x4096 .bf16) :
    (runPre c i arg1 harg1 arg2 harg2 arg3 harg3 arg4 harg4 arg5 harg5 arg6 harg6 arg7 harg7 arg8 harg8 arg9 harg9 arg10 harg10 arg11 harg11 arg12 harg12 arg13 harg13 arg14 harg14 x2 x3 x4 x5 x6).2.1 = [⟨rectC 31, codesB (View.ld (arg2.view.read (Elt F) (harg2.unread x2)) (rectC 31))⟩,
      ⟨rectC 30, codesB (View.ld (arg2.view.read (Elt F) (harg2.unread x2)) (rectC 30))⟩,
      ⟨rectC 29, codesB (View.ld (arg2.view.read (Elt F) (harg2.unread x2)) (rectC 29))⟩,
      ⟨rectC 28, codesB (View.ld (arg2.view.read (Elt F) (harg2.unread x2)) (rectC 28))⟩,
      ⟨rectC 27, codesB (View.ld (arg2.view.read (Elt F) (harg2.unread x2)) (rectC 27))⟩,
      ⟨rectC 26, codesB (View.ld (arg2.view.read (Elt F) (harg2.unread x2)) (rectC 26))⟩,
      ⟨rectC 25, codesB (View.ld (arg2.view.read (Elt F) (harg2.unread x2)) (rectC 25))⟩,
      ⟨rectC 24, codesB (View.ld (arg2.view.read (Elt F) (harg2.unread x2)) (rectC 24))⟩,
      ⟨rectC 23, codesB (View.ld (arg2.view.read (Elt F) (harg2.unread x2)) (rectC 23))⟩,
      ⟨rectC 22, codesB (View.ld (arg2.view.read (Elt F) (harg2.unread x2)) (rectC 22))⟩,
      ⟨rectC 21, codesB (View.ld (arg2.view.read (Elt F) (harg2.unread x2)) (rectC 21))⟩,
      ⟨rectC 20, codesB (View.ld (arg2.view.read (Elt F) (harg2.unread x2)) (rectC 20))⟩,
      ⟨rectC 19, codesB (View.ld (arg2.view.read (Elt F) (harg2.unread x2)) (rectC 19))⟩,
      ⟨rectC 18, codesB (View.ld (arg2.view.read (Elt F) (harg2.unread x2)) (rectC 18))⟩,
      ⟨rectC 17, codesB (View.ld (arg2.view.read (Elt F) (harg2.unread x2)) (rectC 17))⟩,
      ⟨rectC 16, codesB (View.ld (arg2.view.read (Elt F) (harg2.unread x2)) (rectC 16))⟩,
      ⟨rectC 15, codesB (View.ld (arg2.view.read (Elt F) (harg2.unread x2)) (rectC 15))⟩,
      ⟨rectC 14, codesB (View.ld (arg2.view.read (Elt F) (harg2.unread x2)) (rectC 14))⟩,
      ⟨rectC 13, codesB (View.ld (arg2.view.read (Elt F) (harg2.unread x2)) (rectC 13))⟩,
      ⟨rectC 12, codesB (View.ld (arg2.view.read (Elt F) (harg2.unread x2)) (rectC 12))⟩,
      ⟨rectC 11, codesB (View.ld (arg2.view.read (Elt F) (harg2.unread x2)) (rectC 11))⟩,
      ⟨rectC 10, codesB (View.ld (arg2.view.read (Elt F) (harg2.unread x2)) (rectC 10))⟩,
      ⟨rectC 9, codesB (View.ld (arg2.view.read (Elt F) (harg2.unread x2)) (rectC 9))⟩,
      ⟨rectC 8, codesB (View.ld (arg2.view.read (Elt F) (harg2.unread x2)) (rectC 8))⟩,
      ⟨rectC 7, codesB (View.ld (arg2.view.read (Elt F) (harg2.unread x2)) (rectC 7))⟩,
      ⟨rectC 6, codesB (View.ld (arg2.view.read (Elt F) (harg2.unread x2)) (rectC 6))⟩,
      ⟨rectC 5, codesB (View.ld (arg2.view.read (Elt F) (harg2.unread x2)) (rectC 5))⟩,
      ⟨rectC 4, codesB (View.ld (arg2.view.read (Elt F) (harg2.unread x2)) (rectC 4))⟩,
      ⟨rectC 3, codesB (View.ld (arg2.view.read (Elt F) (harg2.unread x2)) (rectC 3))⟩,
      ⟨rectC 2, codesB (View.ld (arg2.view.read (Elt F) (harg2.unread x2)) (rectC 2))⟩,
      ⟨rectC 1, codesB (View.ld (arg2.view.read (Elt F) (harg2.unread x2)) (rectC 1))⟩,
      ⟨rectC 0, codesB (View.ld (arg2.view.read (Elt F) (harg2.unread x2)) (rectC 0))⟩] := by
  unfold runPre; rfl

set_option maxHeartbeats 4000000 in
theorem pieces_xs (c : Dev nD) (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole)
    (x2 : Vec F S128x4096 .bf16) (x3 : Vec F S8x4096 .bf16) (x4 : Vec F S8x1 .f32) (x5 : Vec F S2x128 .i32) (x6 : Vec F S128x4096 .bf16) :
    (runPre c i arg1 harg1 arg2 harg2 arg3 harg3 arg4 harg4 arg5 harg5 arg6 harg6 arg7 harg7 arg8 harg8 arg9 harg9 arg10 harg10 arg11 harg11 arg12 harg12 arg13 harg13 arg14 harg14 x2 x3 x4 x5 x6).2.2.1 = [⟨Rect.unit (s := S32x128) ![0, 0] S32x128.size inb_S32x128_S32x128_0_0, xsV (arg2.view.read (Elt F) (harg2.unread x2))⟩] := by
  unfold runPre; rfl

set_option maxHeartbeats 4000000 in
theorem pieces_xw (c : Dev nD) (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole)
    (x2 : Vec F S128x4096 .bf16) (x3 : Vec F S8x4096 .bf16) (x4 : Vec F S8x1 .f32) (x5 : Vec F S2x128 .i32) (x6 : Vec F S128x4096 .bf16) :
    (runPre c i arg1 harg1 arg2 harg2 arg3 harg3 arg4 harg4 arg5 harg5 arg6 harg6 arg7 harg7 arg8 harg8 arg9 harg9 arg10 harg10 arg11 harg11 arg12 harg12 arg13 harg13 arg14 harg14 x2 x3 x4 x5 x6).2.2.2.1 = [⟨rectX 31, xwB (View.ld (arg2.view.read (Elt F) (harg2.unread x2)) (rectC 31))⟩,
      ⟨rectX 30, xwB (View.ld (arg2.view.read (Elt F) (harg2.unread x2)) (rectC 30))⟩,
      ⟨rectX 29, xwB (View.ld (arg2.view.read (Elt F) (harg2.unread x2)) (rectC 29))⟩,
      ⟨rectX 28, xwB (View.ld (arg2.view.read (Elt F) (harg2.unread x2)) (rectC 28))⟩,
      ⟨rectX 27, xwB (View.ld (arg2.view.read (Elt F) (harg2.unread x2)) (rectC 27))⟩,
      ⟨rectX 26, xwB (View.ld (arg2.view.read (Elt F) (harg2.unread x2)) (rectC 26))⟩,
      ⟨rectX 25, xwB (View.ld (arg2.view.read (Elt F) (harg2.unread x2)) (rectC 25))⟩,
      ⟨rectX 24, xwB (View.ld (arg2.view.read (Elt F) (harg2.unread x2)) (rectC 24))⟩,
      ⟨rectX 23, xwB (View.ld (arg2.view.read (Elt F) (harg2.unread x2)) (rectC 23))⟩,
      ⟨rectX 22, xwB (View.ld (arg2.view.read (Elt F) (harg2.unread x2)) (rectC 22))⟩,
      ⟨rectX 21, xwB (View.ld (arg2.view.read (Elt F) (harg2.unread x2)) (rectC 21))⟩,
      ⟨rectX 20, xwB (View.ld (arg2.view.read (Elt F) (harg2.unread x2)) (rectC 20))⟩,
      ⟨rectX 19, xwB (View.ld (arg2.view.read (Elt F) (harg2.unread x2)) (rectC 19))⟩,
      ⟨rectX 18, xwB (View.ld (arg2.view.read (Elt F) (harg2.unread x2)) (rectC 18))⟩,
      ⟨rectX 17, xwB (View.ld (arg2.view.read (Elt F) (harg2.unread x2)) (rectC 17))⟩,
      ⟨rectX 16, xwB (View.ld (arg2.view.read (Elt F) (harg2.unread x2)) (rectC 16))⟩,
      ⟨rectX 15, xwB (View.ld (arg2.view.read (Elt F) (harg2.unread x2)) (rectC 15))⟩,
      ⟨rectX 14, xwB (View.ld (arg2.view.read (Elt F) (harg2.unread x2)) (rectC 14))⟩,
      ⟨rectX 13, xwB (View.ld (arg2.view.read (Elt F) (harg2.unread x2)) (rectC 13))⟩,
      ⟨rectX 12, xwB (View.ld (arg2.view.read (Elt F) (harg2.unread x2)) (rectC 12))⟩,
      ⟨rectX 11, xwB (View.ld (arg2.view.read (Elt F) (harg2.unread x2)) (rectC 11))⟩,
      ⟨rectX 10, xwB (View.ld (arg2.view.read (Elt F) (harg2.unread x2)) (rectC 10))⟩,
      ⟨rectX 9, xwB (View.ld (arg2.view.read (Elt F) (harg2.unread x2)) (rectC 9))⟩,
      ⟨rectX 8, xwB (View.ld (arg2.view.read (Elt F) (harg2.unread x2)) (rectC 8))⟩,
      ⟨rectX 7, xwB (View.ld (arg2.view.read (Elt F) (harg2.unread x2)) (rectC 7))⟩,
      ⟨rectX 6, xwB (View.ld (arg2.view.read (Elt F) (harg2.unread x2)) (rectC 6))⟩,
      ⟨rectX 5, xwB (View.ld (arg2.view.read (Elt F) (harg2.unread x2)) (rectC 5))⟩,
      ⟨rectX 4, xwB (View.ld (arg2.view.read (Elt F) (harg2.unread x2)) (rectC 4))⟩,
      ⟨rectX 3, xwB (View.ld (arg2.view.read (Elt F) (harg2.unread x2)) (rectC 3))⟩,
      ⟨rectX 2, xwB (View.ld (arg2.view.read (Elt F) (harg2.unread x2)) (rectC 2))⟩,
      ⟨rectX 1, xwB (View.ld (arg2.view.read (Elt F) (harg2.unread x2)) (rectC 1))⟩,
      ⟨rectX 0, xwB (View.ld (arg2.view.read (Elt F) (harg2.unread x2)) (rectC 0))⟩] := by
  unfold runPre; rfl

set_option maxHeartbeats 4000000 in
theorem pieces_hb (c : Dev nD) (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole)
    (x2 : Vec F S128x4096 .bf16) (x3 : Vec F S8x4096 .bf16) (x4 : Vec F S8x1 .f32) (x5 : Vec F S2x128 .i32) (x6 : Vec F S128x4096 .bf16) :
    (runPre c i arg1 harg1 arg2 harg2 arg3 harg3 arg4 harg4 arg5 harg5 arg6 harg6 arg7 harg7 arg8 harg8 arg9 harg9 arg10 harg10 arg11 harg11 arg12 harg12 arg13 harg13 arg14 harg14 x2 x3 x4 x5 x6).2.2.2.2.1 = [⟨rectA, hbV (View.ld (arg2.view.read (Elt F) (harg2.unread x2)) (Rect.unit (s := S128x4096) ![0, 0] S128x4096.size inb_S128x4096_S128x4096_0_0)) (k0_pay257 (View.ld (arg3.view.read (Elt F) (harg3.unread x3)) (Rect.unit (s := S8x4096) ![0, 0] S8x4096.size inb_S8x4096_S8x4096_0_0)) (View.ld (arg2.view.read (Elt F) (harg2.unread x2)) (Rect.unit (s := S128x4096) ![0, 0] S128x4096.size inb_S128x4096_S128x4096_0_0)) (View.ld (arg4.view.read (Elt F) (harg4.unread x4)) (Rect.unit (s := S8x1) ![0, 0] S8x1.size inb_S8x1_S8x1_0_0))) (arg5.view.read (Elt F) (harg5.unread x5)) (View.ld (arg6.view.read (Elt F) (harg6.unread x6)) (Rect.unit (s := S128x4096) ![0, 0] S128x4096.size inb_S128x4096_S128x4096_0_0))⟩] := by
  unfold runPre; rfl

end Cert.Kernel.Hand

end
-- ==== Proof.K.PiecesMain.lean ====
module

public import proofs.«01_k».proof.Proof.K.Spec

@[expose] public section

set_option synthInstance.maxSize 4096
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
theorem pieces_out (c : Dev nD) (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole)
    (x1 : Vec F S32x112 .f32) (x7 : Vec F S4096x1024 .fp8e4m3) (x8 : Vec F S128x1024 .bf16) (x13 : Vec F S16x128x256 .bf16) (x14 : Vec F S128x128 .bf16) :
    (runMain c i arg1 harg1 arg2 harg2 arg3 harg3 arg4 harg4 arg5 harg5 arg6 harg6 arg7 harg7 arg8 harg8 arg9 harg9 arg10 harg10 arg11 harg11 arg12 harg12 arg13 harg13 arg14 harg14 x1 x7 x8 x13 x14).1 = [⟨rectO 3, tileM (arg1.view.read (Elt F) (harg1.unread x1)) (arg7.view.read (Elt F) (harg7.unread x7)) (arg8.view.read (Elt F) (harg8.unread x8)) (arg13.view.read (Elt F) (harg13.unread x13)) (View.ld (arg14.view.read (Elt F) (harg14.unread x14)) rectA) i 3⟩,
      ⟨rectO 2, tileM (arg1.view.read (Elt F) (harg1.unread x1)) (arg7.view.read (Elt F) (harg7.unread x7)) (arg8.view.read (Elt F) (harg8.unread x8)) (arg13.view.read (Elt F) (harg13.unread x13)) (View.ld (arg14.view.read (Elt F) (harg14.unread x14)) rectA) i 2⟩,
      ⟨rectO 1, tileM (arg1.view.read (Elt F) (harg1.unread x1)) (arg7.view.read (Elt F) (harg7.unread x7)) (arg8.view.read (Elt F) (harg8.unread x8)) (arg13.view.read (Elt F) (harg13.unread x13)) (View.ld (arg14.view.read (Elt F) (harg14.unread x14)) rectA) i 1⟩,
      ⟨rectO 0, tileM (arg1.view.read (Elt F) (harg1.unread x1)) (arg7.view.read (Elt F) (harg7.unread x7)) (arg8.view.read (Elt F) (harg8.unread x8)) (arg13.view.read (Elt F) (harg13.unread x13)) (View.ld (arg14.view.read (Elt F) (harg14.unread x14)) rectA) i 0⟩] := by
  unfold runMain; rfl

end Cert.Kernel.Hand

end
-- ==== Proof.K.Values.lean ====
module

public import Idealize.ShloMosaic.Lib.Pointwise
public import Idealize.ShloMosaic.Lib.Pipeline.Value
public import proofs.«01_k».proof.Proof.K.PiecesPre
public import proofs.«01_k».proof.Proof.K.PiecesMain
public import proofs.«01_k».proof.Proof.K.Spec

@[expose] public section

set_option synthInstance.maxSize 4096
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What the body leaves in each buffer, as one array -/

/-- A buffer written block by block reads as the array whose blocks they are. -/
theorem read_range {s : Shape} {e : EltTy} {κ : Kind} {sp : Space} (v : View sig κ sp s e) (f : v.ty.Contents (Elt F)) (n : ℕ)
    (r : ℕ → Rect s) (w : ∀ k, (r k).shape.Idx → Elt F e) (G : s.Idx → Elt F e)
    (hG : ∀ k < n, ∀ x, w k x = G ((r k).emb x)) (hc : ∀ y, ∃ k < n, y ∈ (r k).set) :
    v.read (Elt F) (v.writes (Elt F) f ((List.range n).reverse.map fun k => ⟨r k, w k⟩)) = G := by
  have hcov : ∀ y, ∃ p ∈ ((List.range n).reverse.map fun k => (⟨r k, w k⟩ : View.Piece (Elt F) s e)), y ∈ p.1.set := by
    intro y
    obtain ⟨k, hk, hy⟩ := hc y
    exact ⟨⟨r k, w k⟩, List.mem_map.mpr ⟨k, by simpa using hk, rfl⟩, hy⟩
  rw [View.read_writes_eq_canon _ _ _ hcov]
  funext y
  refine View.canon_apply_of_pieces G _ ?_ y (hcov y)
  intro p hp
  simp only [List.mem_map, List.mem_reverse, List.mem_range] at hp
  obtain ⟨k, hk, rfl⟩ := hp
  exact hG k hk

/-- The gates, row by row. -/
def gatesC (P : FVec F S8x128 .f32) (X5 : Vec F S2x128 .i32) : Vec F S2x128 .f32 :=
  fun y => gateV P X5 (y 0).val (ix2 ⟨0, by omega⟩ (y 1))

/-- The codes of the tokens. -/
def codesC (X : Vec F S128x4096 .bf16) : Vec F S128x4096 .fp8e4m3 :=
  fun y => codesB (View.ld X (rectC ((y 1).val / 128))) (ix2 (y 0) ⟨(y 1).val % 128, Nat.mod_lt _ (by omega)⟩)

/-- The codes under their scales, chunk by chunk. -/
def xwC (X : Vec F S128x4096 .bf16) : Vec F S16x128x256 .bf16 :=
  fun y => xwB (View.ld X (rectC (2 * (y 0).val + (y 2).val / 128))) (ix3 ⟨0, by omega⟩ (y 1) ⟨(y 2).val % 128, Nat.mod_lt _ (by omega)⟩)

/-- The output block of point `i`. -/
def outC (X1 : Vec F S32x112 .f32) (X7 : Vec F S4096x1024 .fp8e4m3) (X8 : Vec F S128x1024 .bf16) (X13 : Vec F S16x128x256 .bf16)
    (X14 : Vec F S128x128 .bf16) (i : grid0.Coords) : Vec F S128x1024 .bf16 :=
  fun y => tileM X1 X7 X8 X13 X14 i ((y 1).val / 256) (ix2 (y 0) ⟨(y 1).val % 256, Nat.mod_lt _ (by omega)⟩)

/-- The router's probabilities. -/
abbrev probsV (X2 : Vec F S128x4096 .bf16) (X3 : Vec F S8x4096 .bf16) (X4 : Vec F S8x1 .f32) : FVec F S8x128 .f32 := k0_pay257 X3 X2 X4

theorem ld_tok (X : Vec F S128x4096 .bf16) : View.ld X (Rect.unit (s := S128x4096) ![0, 0] S128x4096.size inb_S128x4096_S128x4096_0_0) = X :=
  View.ld_unit_zero (by funext a; fin_cases a <;> rfl) _ X
theorem ld_rout (X : Vec F S8x4096 .bf16) : View.ld X (Rect.unit (s := S8x4096) ![0, 0] S8x4096.size inb_S8x4096_S8x4096_0_0) = X :=
  View.ld_unit_zero (by funext a; fin_cases a <;> rfl) _ X
theorem ld_bias (X : Vec F S8x1 .f32) : View.ld X (Rect.unit (s := S8x1) ![0, 0] S8x1.size inb_S8x1_S8x1_0_0) = X :=
  View.ld_unit_zero (by funext a; fin_cases a <;> rfl) _ X
theorem ld_act (X : Vec F S128x128 .bf16) : View.ld X rectA = X :=
  View.ld_unit_zero (by funext a; fin_cases a <;> rfl) _ X

theorem mem_rectC (k : ℕ) (y : S128x4096.Idx) : y ∈ (rectC k).set ↔ 128 * (k % 32) ≤ (y 1).val ∧ (y 1).val < 128 * (k % 32) + 128 := by
  have h0 : (y 0).val < 128 := (y 0).isLt
  rw [Rect.mem_set_unit]
  constructor
  · intro h; exact h 1
  · intro h a; match a with
      | ⟨0, _⟩ => exact ⟨Nat.zero_le _, by show (y 0).val < 0 + 128; omega⟩
      | ⟨1, _⟩ => exact h

theorem mem_rectO (k : ℕ) (y : S128x1024.Idx) : y ∈ (rectO k).set ↔ 256 * (k % 4) ≤ (y 1).val ∧ (y 1).val < 256 * (k % 4) + 256 := by
  have h0 : (y 0).val < 128 := (y 0).isLt
  rw [Rect.mem_set_unit]
  constructor
  · intro h; exact h 1
  · intro h a; match a with
      | ⟨0, _⟩ => exact ⟨Nat.zero_le _, by show (y 0).val < 0 + 128; omega⟩
      | ⟨1, _⟩ => exact h

theorem mem_rectG (k : ℕ) (y : S2x128.Idx) : y ∈ (rectG k).set ↔ k % 2 = (y 0).val := by
  have h0 : (y 1).val < 128 := (y 1).isLt
  rw [Rect.mem_set_unit]
  constructor
  · intro h
    have h1 : k % 2 ≤ (y 0).val := (h 0).1
    have h2 : (y 0).val < k % 2 + 1 := (h 0).2
    omega
  · intro h a; match a with
      | ⟨0, _⟩ => exact ⟨by show k % 2 ≤ (y 0).val; omega, by show (y 0).val < k % 2 + 1; omega⟩
      | ⟨1, _⟩ => exact ⟨Nat.zero_le _, by show (y 1).val < 0 + 128; omega⟩

theorem mem_rectX (k : ℕ) (y : S16x128x256.Idx) :
    y ∈ (rectX k).set ↔ k / 2 % 16 = (y 0).val ∧ 128 * (k % 2) ≤ (y 2).val ∧ (y 2).val < 128 * (k % 2) + 128 := by
  have h0 : (y 1).val < 128 := (y 1).isLt
  rw [Rect.mem_set_unit]
  constructor
  · intro h
    have h1 : k / 2 % 16 ≤ (y 0).val := (h 0).1
    have h2 : (y 0).val < k / 2 % 16 + 1 := (h 0).2
    exact ⟨by omega, h 2⟩
  · intro h a; match a with
      | ⟨0, _⟩ => exact ⟨by show k / 2 % 16 ≤ (y 0).val; omega, by show (y 0).val < k / 2 % 16 + 1; omega⟩
      | ⟨1, _⟩ => exact ⟨Nat.zero_le _, by show (y 1).val < 0 + 128; omega⟩
      | ⟨2, _⟩ => exact h.2

/-- A block number past the last names the block it wraps to. -/
theorem rectC_eq {j k : ℕ} (h : j = k) : rectC j = rectC k := by subst h; rfl

theorem read_gates (c : Dev nD) (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole)
    (x2 : Vec F S128x4096 .bf16) (x3 : Vec F S8x4096 .bf16) (x4 : Vec F S8x1 .f32) (x5 : Vec F S2x128 .i32) (x6 : Vec F S128x4096 .bf16) (f) :
    arg10.view.read (Elt F) (arg10.view.writes (Elt F) f (runPre c i arg1 harg1 arg2 harg2 arg3 harg3 arg4 harg4 arg5 harg5 arg6 harg6 arg7 harg7 arg8 harg8 arg9 harg9 arg10 harg10 arg11 harg11 arg12 harg12 arg13 harg13 arg14 harg14 x2 x3 x4 x5 x6).1) = gatesC (probsV x2 x3 x4) x5 := by
  rw [pieces_gates]
  rw [harg2.read_unread, harg3.read_unread, harg4.read_unread, harg5.read_unread, ld_rout, ld_tok, ld_bias]
  refine read_range arg10.view f 2 rectG (fun k => gateV (probsV x2 x3 x4) x5 k) _ ?_ ?_
  · intro k hk x
    have h0 : (x 0).val < 1 := (x 0).isLt
    have e : ((rectG k).emb x 0).val = k := by show k % 2 + 1 * (x 0).val = k; omega
    unfold gatesC
    rw [e]
    refine congrArg _ ?_
    funext a; apply Fin.ext
    match a with
      | ⟨0, _⟩ => show (x 0).val = 0; omega
      | ⟨1, _⟩ => show (x 1).val = 0 + 1 * (x 1).val; omega
  · intro y
    have h0 : (y 0).val < 2 := (y 0).isLt
    exact ⟨(y 0).val, h0, (mem_rectG _ y).mpr (by omega)⟩

theorem read_codes (c : Dev nD) (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole)
    (x2 : Vec F S128x4096 .bf16) (x3 : Vec F S8x4096 .bf16) (x4 : Vec F S8x1 .f32) (x5 : Vec F S2x128 .i32) (x6 : Vec F S128x4096 .bf16) (f) :
    arg11.view.read (Elt F) (arg11.view.writes (Elt F) f (runPre c i arg1 harg1 arg2 harg2 arg3 harg3 arg4 harg4 arg5 harg5 arg6 harg6 arg7 harg7 arg8 harg8 arg9 harg9 arg10 harg10 arg11 harg11 arg12 harg12 arg13 harg13 arg14 harg14 x2 x3 x4 x5 x6).2.1) = codesC x2 := by
  rw [pieces_codes]
  simp only [harg2.read_unread]
  refine read_range arg11.view f 32 rectC (fun k => codesB (View.ld x2 (rectC k))) _ ?_ ?_
  · intro k hk x
    have h0 : (x 1).val < 128 := (x 1).isLt
    have e : ((rectC k).emb x 1).val = 128 * k + (x 1).val := by show 128 * (k % 32) + 1 * (x 1).val = _; omega
    have e1 : ((rectC k).emb x 1).val / 128 = k := by omega
    unfold codesC
    rw [e1]
    refine congrArg _ ?_
    funext a; apply Fin.ext
    match a with
      | ⟨0, _⟩ => show (x 0).val = 0 + 1 * (x 0).val; omega
      | ⟨1, _⟩ => show (x 1).val = ((rectC k).emb x 1).val % 128; omega
  · intro y
    have h0 : (y 1).val < 4096 := (y 1).isLt
    exact ⟨(y 1).val / 128, by omega, (mem_rectC _ y).mpr (by omega)⟩

theorem read_xw (c : Dev nD) (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole)
    (x2 : Vec F S128x4096 .bf16) (x3 : Vec F S8x4096 .bf16) (x4 : Vec F S8x1 .f32) (x5 : Vec F S2x128 .i32) (x6 : Vec F S128x4096 .bf16) (f) :
    arg13.view.read (Elt F) (arg13.view.writes (Elt F) f (runPre c i arg1 harg1 arg2 harg2 arg3 harg3 arg4 harg4 arg5 harg5 arg6 harg6 arg7 harg7 arg8 harg8 arg9 harg9 arg10 harg10 arg11 harg11 arg12 harg12 arg13 harg13 arg14 harg14 x2 x3 x4 x5 x6).2.2.2.1) = xwC x2 := by
  rw [pieces_xw]
  simp only [harg2.read_unread]
  refine read_range arg13.view f 32 rectX (fun k => xwB (View.ld x2 (rectC k))) _ ?_ ?_
  · intro k hk x
    have h0 : (x 0).val < 1 := (x 0).isLt
    have h2 : (x 2).val < 128 := (x 2).isLt
    have e0 : ((rectX k).emb x 0).val = k / 2 := by show k / 2 % 16 + 1 * (x 0).val = _; omega
    have e : ((rectX k).emb x 2).val = 128 * (k % 2) + (x 2).val := by show 128 * (k % 2) + 1 * (x 2).val = _; omega
    have e1 : 2 * ((rectX k).emb x 0).val + ((rectX k).emb x 2).val / 128 = k := by omega
    unfold xwC
    rw [e1]
    refine congrArg _ ?_
    funext a; apply Fin.ext
    match a with
      | ⟨0, _⟩ => show (x 0).val = 0; omega
      | ⟨1, _⟩ => show (x 1).val = 0 + 1 * (x 1).val; omega
      | ⟨2, _⟩ => show (x 2).val = ((rectX k).emb x 2).val % 128; omega
  · intro y
    have h0 : (y 0).val < 16 := (y 0).isLt
    have h2 : (y 2).val < 256 := (y 2).isLt
    exact ⟨2 * (y 0).val + (y 2).val / 128, by omega, (mem_rectX _ y).mpr (by omega)⟩

theorem read_xs (c : Dev nD) (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole)
    (x2 : Vec F S128x4096 .bf16) (x3 : Vec F S8x4096 .bf16) (x4 : Vec F S8x1 .f32) (x5 : Vec F S2x128 .i32) (x6 : Vec F S128x4096 .bf16) (f) :
    arg12.view.read (Elt F) (arg12.view.writes (Elt F) f (runPre c i arg1 harg1 arg2 harg2 arg3 harg3 arg4 harg4 arg5 harg5 arg6 harg6 arg7 harg7 arg8 harg8 arg9 harg9 arg10 harg10 arg11 harg11 arg12 harg12 arg13 harg13 arg14 harg14 x2 x3 x4 x5 x6).2.2.1) = xsV x2 := by
  rw [pieces_xs]
  simp only [harg2.read_unread]
  rw [View.read_writes_eq_canon _ _ _ (View.cover_of_tiledL _ S32x128.size (by rfl))]
  exact View.canon_cons_unit_zero (by funext a; fin_cases a <;> rfl) _ _ _

theorem read_hb (c : Dev nD) (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole)
    (x2 : Vec F S128x4096 .bf16) (x3 : Vec F S8x4096 .bf16) (x4 : Vec F S8x1 .f32) (x5 : Vec F S2x128 .i32) (x6 : Vec F S128x4096 .bf16) (f) :
    arg14.view.read (Elt F) (arg14.view.writes (Elt F) f (runPre c i arg1 harg1 arg2 harg2 arg3 harg3 arg4 harg4 arg5 harg5 arg6 harg6 arg7 harg7 arg8 harg8 arg9 harg9 arg10 harg10 arg11 harg11 arg12 harg12 arg13 harg13 arg14 harg14 x2 x3 x4 x5 x6).2.2.2.2.1) = hbV x2 (probsV x2 x3 x4) x5 x6 := by
  rw [pieces_hb]
  rw [harg2.read_unread, harg3.read_unread, harg4.read_unread, harg5.read_unread, harg6.read_unread, ld_rout, ld_tok, ld_tok, ld_bias]
  rw [View.read_writes_eq_canon _ _ _ (View.cover_of_tiledL _ S128x128.size (by rfl))]
  exact View.canon_cons_unit_zero (S := S128x128) (off := ![0, 0]) (by funext a; fin_cases a <;> rfl) inb_S128x128_S128x128_0_0 _ _

theorem read_out (c : Dev nD) (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole)
    (x1 : Vec F S32x112 .f32) (x7 : Vec F S4096x1024 .fp8e4m3) (x8 : Vec F S128x1024 .bf16) (x13 : Vec F S16x128x256 .bf16) (x14 : Vec F S128x128 .bf16) (f) :
    arg9.view.read (Elt F) (arg9.view.writes (Elt F) f (runMain c i arg1 harg1 arg2 harg2 arg3 harg3 arg4 harg4 arg5 harg5 arg6 harg6 arg7 harg7 arg8 harg8 arg9 harg9 arg10 harg10 arg11 harg11 arg12 harg12 arg13 harg13 arg14 harg14 x1 x7 x8 x13 x14).1) = outC x1 x7 x8 x13 x14 i := by
  rw [pieces_out]
  simp only [harg1.read_unread, harg7.read_unread, harg8.read_unread, harg13.read_unread, harg14.read_unread, ld_act]
  refine read_range arg9.view f 4 rectO (fun k => tileM x1 x7 x8 x13 x14 i k) _ ?_ ?_
  · intro k hk x
    have h0 : (x 1).val < 256 := (x 1).isLt
    have e : ((rectO k).emb x 1).val = 256 * k + (x 1).val := by show 256 * (k % 4) + 1 * (x 1).val = _; omega
    have e1 : ((rectO k).emb x 1).val / 256 = k := by omega
    unfold outC
    rw [e1]
    refine congrArg _ ?_
    funext a; apply Fin.ext
    match a with
      | ⟨0, _⟩ => show (x 0).val = 0 + 1 * (x 0).val; omega
      | ⟨1, _⟩ => show (x 1).val = ((rectO k).emb x 1).val % 256; omega
  · intro y
    have h0 : (y 1).val < 1024 := (y 1).isLt
    exact ⟨(y 1).val / 256, by omega, (mem_rectO _ y).mpr (by omega)⟩

end Cert.Kernel.Hand

end
-- ==== Proof.K.Triples.lean ====
module

public import proofs.«01_k».proof.Proof.K.Values

@[expose] public section

set_option synthInstance.maxSize 4096
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What the prologue does to the buffers it takes. -/
theorem pre_triple (c : Dev nD) (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole)
    (x2 : Vec F S128x4096 .bf16) (x3 : Vec F S8x4096 .bf16) (x4 : Vec F S8x1 .f32) (x5 : Vec F S2x128 .i32) (x6 : Vec F S128x4096 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg10 fullShare (gatesC (probsV x2 x3 x4) x5) ∗ owns (c : Thread nD τ) arg11 fullShare (codesC x2) ∗ owns (c : Thread nD τ) arg12 fullShare (xsV x2) ∗ owns (c : Thread nD τ) arg13 fullShare (xwC x2) ∗ owns (c : Thread nD τ) arg14 fullShare (hbV x2 (probsV x2 x3 x4) x5 x6)) -∗ K ⟨⟩))
      ⊢ wp frame (wpE (defs₀ (F := F)) Variants.none c none) E (prologue i arg1 harg1 arg2 harg2 arg3 harg3 arg4 harg4 arg5 harg5 arg6 harg6 arg7 harg7 arg8 harg8 arg9 harg9 arg10 harg10 arg11 harg11 arg12 harg12 arg13 harg13 arg14 harg14) K := by
  iintro ⟨H2, H3, H4, H5, H6, H10, H11, H12, H13, H14, Hk⟩
  iapply (runPre c i arg1 harg1 arg2 harg2 arg3 harg3 arg4 harg4 arg5 harg5 arg6 harg6 arg7 harg7 arg8 harg8 arg9 harg9 arg10 harg10 arg11 harg11 arg12 harg12 arg13 harg13 arg14 harg14 x2 x3 x4 x5 x6).2.2.2.2.2 E K
  isplitl [H2]; · iexact H2
  isplitl [H3]; · iexact H3
  isplitl [H4]; · iexact H4
  isplitl [H5]; · iexact H5
  isplitl [H6]; · iexact H6
  isplitl [H10]; · iexact H10
  isplitl [H11]; · iexact H11
  isplitl [H12]; · iexact H12
  isplitl [H13]; · iexact H13
  isplitl [H14]; · iexact H14
  iintro ⟨H2, H3, H4, H5, H6, ⟨%e10, H10⟩, ⟨%e11, H11⟩, ⟨%e12, H12⟩, ⟨%e13, H13⟩, ⟨%e14, H14⟩⟩
  iapply Hk
  isplitl [H2]; · iexact H2
  isplitl [H3]; · iexact H3
  isplitl [H4]; · iexact H4
  isplitl [H5]; · iexact H5
  isplitl [H6]; · iexact H6
  isplitl [H10]
  · unfold owns; iexists _; isplitr
    swap; · iexact H10
    ipureintro; exact read_gates c i arg1 harg1 arg2 harg2 arg3 harg3 arg4 harg4 arg5 harg5 arg6 harg6 arg7 harg7 arg8 harg8 arg9 harg9 arg10 harg10 arg11 harg11 arg12 harg12 arg13 harg13 arg14 harg14 x2 x3 x4 x5 x6 _
  isplitl [H11]
  · unfold owns; iexists _; isplitr
    swap; · iexact H11
    ipureintro; exact read_codes c i arg1 harg1 arg2 harg2 arg3 harg3 arg4 harg4 arg5 harg5 arg6 harg6 arg7 harg7 arg8 harg8 arg9 harg9 arg10 harg10 arg11 harg11 arg12 harg12 arg13 harg13 arg14 harg14 x2 x3 x4 x5 x6 _
  isplitl [H12]
  · unfold owns; iexists _; isplitr
    swap; · iexact H12
    ipureintro; exact read_xs c i arg1 harg1 arg2 harg2 arg3 harg3 arg4 harg4 arg5 harg5 arg6 harg6 arg7 harg7 arg8 harg8 arg9 harg9 arg10 harg10 arg11 harg11 arg12 harg12 arg13 harg13 arg14 harg14 x2 x3 x4 x5 x6 _
  isplitl [H13]
  · unfold owns; iexists _; isplitr
    swap; · iexact H13
    ipureintro; exact read_xw c i arg1 harg1 arg2 harg2 arg3 harg3 arg4 harg4 arg5 harg5 arg6 harg6 arg7 harg7 arg8 harg8 arg9 harg9 arg10 harg10 arg11 harg11 arg12 harg12 arg13 harg13 arg14 harg14 x2 x3 x4 x5 x6 _
  unfold owns; iexists _; isplitr
  swap; · iexact H14
  ipureintro; exact read_hb c i arg1 harg1 arg2 harg2 arg3 harg3 arg4 harg4 arg5 harg5 arg6 harg6 arg7 harg7 arg8 harg8 arg9 harg9 arg10 harg10 arg11 harg11 arg12 harg12 arg13 harg13 arg14 harg14 x2 x3 x4 x5 x6 _

/-- What the main part does to the buffers it takes. -/
theorem main_triple (c : Dev nD) (i : grid0.Coords) (arg1 : Memref sig .tc .smem S32x112 .f32) (harg1 : arg1.IsWhole) (arg2 : Memref sig .tc .vmem S128x4096 .bf16) (harg2 : arg2.IsWhole) (arg3 : Memref sig .tc .vmem S8x4096 .bf16) (harg3 : arg3.IsWhole) (arg4 : Memref sig .tc .vmem S8x1 .f32) (harg4 : arg4.IsWhole) (arg5 : Memref sig .tc .vmem S2x128 .i32) (harg5 : arg5.IsWhole) (arg6 : Memref sig .tc .vmem S128x4096 .bf16) (harg6 : arg6.IsWhole) (arg7 : Memref sig .tc .vmem S4096x1024 .fp8e4m3) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S2x128 .f32) (harg10 : arg10.IsWhole) (arg11 : Memref sig .tc .vmem S128x4096 .fp8e4m3) (harg11 : arg11.IsWhole) (arg12 : Memref sig .tc .vmem S32x128 .f32) (harg12 : arg12.IsWhole) (arg13 : Memref sig .tc .vmem S16x128x256 .bf16) (harg13 : arg13.IsWhole) (arg14 : Memref sig .tc .vmem S128x128 .bf16) (harg14 : arg14.IsWhole)
    (x1 : Vec F S32x112 .f32) (x7 : Vec F S4096x1024 .fp8e4m3) (x8 : Vec F S128x1024 .bf16) (x13 : Vec F S16x128x256 .bf16) (x14 : Vec F S128x128 .bf16) (E : Set ℕ) (K : PUnit → sProp 𝕄) :
    iprop(owns (c : Thread nD τ) arg1 fullShare x1 ∗ owns (c : Thread nD τ) arg7 fullShare x7 ∗ owns (c : Thread nD τ) arg8 fullShare x8 ∗ owns (c : Thread nD τ) arg13 fullShare x13 ∗ owns (c : Thread nD τ) arg14 fullShare x14 ∗ (∃ d, owns (c : Thread nD τ) arg9 fullShare d)
        ∗ (iprop(owns (c : Thread nD τ) arg1 fullShare x1 ∗ owns (c : Thread nD τ) arg7 fullShare x7 ∗ owns (c : Thread nD τ) arg8 fullShare x8 ∗ owns (c : Thread nD τ) arg13 fullShare x13 ∗ owns (c : Thread nD τ) arg14 fullShare x14 ∗ owns (c : Thread nD τ) arg9 fullShare (outC x1 x7 x8 x13 x14 i)) -∗ K ⟨⟩))
      ⊢ wp frame (wpE (defs₀ (F := F)) Variants.none c none) E (mainPart i arg1 harg1 arg2 harg2 arg3 harg3 arg4 harg4 arg5 harg5 arg6 harg6 arg7 harg7 arg8 harg8 arg9 harg9 arg10 harg10 arg11 harg11 arg12 harg12 arg13 harg13 arg14 harg14) K := by
  iintro ⟨H1, H7, H8, H13, H14, H9, Hk⟩
  iapply (runMain c i arg1 harg1 arg2 harg2 arg3 harg3 arg4 harg4 arg5 harg5 arg6 harg6 arg7 harg7 arg8 harg8 arg9 harg9 arg10 harg10 arg11 harg11 arg12 harg12 arg13 harg13 arg14 harg14 x1 x7 x8 x13 x14).2 E K
  isplitl [H1]; · iexact H1
  isplitl [H7]; · iexact H7
  isplitl [H8]; · iexact H8
  isplitl [H13]; · iexact H13
  isplitl [H14]; · iexact H14
  isplitl [H9]; · iexact H9
  iintro ⟨H1, H7, H8, H13, H14, ⟨%e9, H9⟩⟩
  iapply Hk
  isplitl [H1]; · iexact H1
  isplitl [H7]; · iexact H7
  isplitl [H8]; · iexact H8
  isplitl [H13]; · iexact H13
  isplitl [H14]; · iexact H14
  unfold owns; iexists _; isplitr
  swap; · iexact H9
  ipureintro; exact read_out c i arg1 harg1 arg2 harg2 arg3 harg3 arg4 harg4 arg5 harg5 arg6 harg6 arg7 harg7 arg8 harg8 arg9 harg9 arg10 harg10 arg11 harg11 arg12 harg12 arg13 harg13 arg14 harg14 x1 x7 x8 x13 x14 _

end Cert.Kernel.Hand

end
-- ==== Proof.K.Frame.lean ====
module

public import Idealize.ShloMosaic.Lib.Claim
public import proofs.«01_k».proof.Proof.Gen.Kernel.Frame
public import proofs.«01_k».proof.Proof.K.Triples

@[expose] public section

set_option synthInstance.maxSize 4096
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (l : Loc nD τ sig) → Buf (Elt F) l) (ρ : Dev nD → PrngReg)

/-! ## What every buffer holds, point by point -/

/-- The router's probabilities, from the blocks at the first point. -/
def PR (c : Dev nD) : FVec F S8x128 .f32 := probsV (iblk m c 1 t0_0) (iblk m c 2 t0_0) (iblk m c 3 t0_0)
/-- The codes under their scales, carried from the first point on. -/
def XW (c : Dev nD) : Vec F S16x128x256 .bf16 := xwC (iblk m c 1 t0_0)
/-- The gated low-rank activations, carried from the first point on. -/
def HB (c : Dev nD) : Vec F S128x128 .bf16 := hbV (iblk m c 1 t0_0) (PR m c) (iblk m c 4 t0_0) (iblk m c 5 t0_0)
/-- The gates. -/
def GT (c : Dev nD) : Vec F S2x128 .f32 := gatesC (PR m c) (iblk m c 4 t0_0)
/-- The codes. -/
def CD (c : Dev nD) : Vec F S128x4096 .fp8e4m3 := codesC (iblk m c 1 t0_0)
/-- The scales. -/
def XS (c : Dev nD) : Vec F S32x128 .f32 := xsV (iblk m c 1 t0_0)
/-- The output block of point `t`. -/
def OUT (c : Dev nD) (t : Fin cfg0.N) : Vec F S128x1024 .bf16 :=
  outC (iblk m c 0 t) (iblk m c 6 t) (iblk m c 7 t) (XW m c) (HB m c) (grid0.coords t)

/-- The region's invariant: before the first point every scratch at anything, afterwards the two carried ones at what the
    first point left in them. -/
def PhiS (c : Dev nD) : (n : ℕ) → n ≤ cfg0.N → sProp 𝕄
  | 0, _ => Pipeline.ΦA spec0 c
  | _ + 1, _ => iprop(iprop(owns (c : Thread nD τ) scM0_0 fullShare (XW m c) ∗ owns (c : Thread nD τ) scM0_1 fullShare (HB m c)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scM0_0 fullShare (XW m c) ∗ owns (c : Thread nD τ) scM0_1 fullShare (HB m c)) ∗ (∃ r, prngReg c r)) := by
  cases n with
  | zero => exact absurd rfl hz
  | succ n => rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => OUT m c t
    | ⟨9, _⟩ => GT m c
    | ⟨10, _⟩ => CD m c
    | ⟨11, _⟩ => XS m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = OUT m c t := by dsimp only [dats]
theorem after0_9 (c : Dev nD) (t : Fin cfg0.N) : (dats m 0 c).after 9 t = GT m c := by dsimp only [dats]
theorem after0_10 (c : Dev nD) (t : Fin cfg0.N) : (dats m 0 c).after 10 t = CD m c := by dsimp only [dats]
theorem after0_11 (c : Dev nD) (t : Fin cfg0.N) : (dats m 0 c).after 11 t = XS m c := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- At a later point output 9's buffer still holds what the first point left. -/
theorem before0_9_B (c : Dev nD) (t : Fin cfg0.N) (h : ¬cond0_0 (grid0.coords t)) (d) : (dats m 0 c).before 9 t d = GT m c := by
  rw [Dat.before_out_traj _ 9 rfl (fun _ _ => rfl) (fun t _ _ _ => by rw [after0_9, after0_9]) t.val t rfl d,
    if_neg (by rw [notFresh0_9_B t h]; exact Bool.false_ne_true)]
  dsimp only [dats]

/-- So a later point leaves it as it found it. -/
theorem leaves0_9_B (c : Dev nD) (t : Fin cfg0.N) (h : ¬cond0_0 (grid0.coords t)) (d) :
    owns (c : Thread nD τ) (ms0_9 t) fullShare ((dats m 0 c).before 9 t d) ⊢ (dats m 0 c).leavesExact 9 t := by
  cases hf : (cfg0.win 9).flush t with
  | false =>
    rw [Dat.leavesExact_idle _ 9 t (idleAt0_9_B t h) hf]
    iintro H
    iexists d
    iexact H
  | true =>
    rw [before0_9_B m c t h d]
    unfold Dat.leavesExact
    rw [idleAt0_9_B t h, hf]
    dsimp only
    rw [after0_9]
    try exact Idealize.SL.BI.Entails.refl _

/-- At a later point output 10's buffer still holds what the first point left. -/
theorem before0_10_B (c : Dev nD) (t : Fin cfg0.N) (h : ¬cond0_0 (grid0.coords t)) (d) : (dats m 0 c).before 10 t d = CD m c := by
  rw [Dat.before_out_traj _ 10 rfl (fun _ _ => rfl) (fun t _ _ _ => by rw [after0_10, after0_10]) t.val t rfl d,
    if_neg (by rw [notFresh0_10_B t h]; exact Bool.false_ne_true)]
  dsimp only [dats]

/-- So a later point leaves it as it found it. -/
theorem leaves0_10_B (c : Dev nD) (t : Fin cfg0.N) (h : ¬cond0_0 (grid0.coords t)) (d) :
    owns (c : Thread nD τ) (ms0_10 t) fullShare ((dats m 0 c).before 10 t d) ⊢ (dats m 0 c).leavesExact 10 t := by
  cases hf : (cfg0.win 10).flush t with
  | false =>
    rw [Dat.leavesExact_idle _ 10 t (idleAt0_10_B t h) hf]
    iintro H
    iexists d
    iexact H
  | true =>
    rw [before0_10_B m c t h d]
    unfold Dat.leavesExact
    rw [idleAt0_10_B t h, hf]
    dsimp only
    rw [after0_10]
    try exact Idealize.SL.BI.Entails.refl _

/-- At a later point output 11's buffer still holds what the first point left. -/
theorem before0_11_B (c : Dev nD) (t : Fin cfg0.N) (h : ¬cond0_0 (grid0.coords t)) (d) : (dats m 0 c).before 11 t d = XS m c := by
  rw [Dat.before_out_traj _ 11 rfl (fun _ _ => rfl) (fun t _ _ _ => by rw [after0_11, after0_11]) t.val t rfl d,
    if_neg (by rw [notFresh0_11_B t h]; exact Bool.false_ne_true)]
  dsimp only [dats]

/-- So a later point leaves it as it found it. -/
theorem leaves0_11_B (c : Dev nD) (t : Fin cfg0.N) (h : ¬cond0_0 (grid0.coords t)) (d) :
    owns (c : Thread nD τ) (ms0_11 t) fullShare ((dats m 0 c).before 11 t d) ⊢ (dats m 0 c).leavesExact 11 t := by
  cases hf : (cfg0.win 11).flush t with
  | false =>
    rw [Dat.leavesExact_idle _ 11 t (idleAt0_11_B t h) hf]
    iintro H
    iexists d
    iexact H
  | true =>
    rw [before0_11_B m c t h d]
    unfold Dat.leavesExact
    rw [idleAt0_11_B t h, hf]
    dsimp only
    rw [after0_11]
    try exact Idealize.SL.BI.Entails.refl _

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_pos m c (t.val + 1) t.isLt (by omega)]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  by_cases hc : cond0_0 (grid0.coords t)
  · have hz : t.val = 0 := by
      have hN : t.val < 14 := lt_of_lt_of_eq t.isLt (show cfg0.N = 14 from N_0)
      have := (hcond0_0 t).mp hc
      omega
    obtain rfl : t = t0_0 := Fin.ext hz
    rw [PhiS_castSucc, PhiS_zero m c _ _ hz, PhiA0_eq]
    rw [show (dats m 0 c).leavesExact 9 t0_0 = owns (c : Thread nD τ) (ms0_9 t0_0) fullShare ((dats m 0 c).after 9 t0_0) from by
      unfold Dat.leavesExact; rw [liveAt0_9_A t0_0 hc], after0_9]
    rw [show (dats m 0 c).leavesExact 10 t0_0 = owns (c : Thread nD τ) (ms0_10 t0_0) fullShare ((dats m 0 c).after 10 t0_0) from by
      unfold Dat.leavesExact; rw [liveAt0_10_A t0_0 hc], after0_10]
    rw [show (dats m 0 c).leavesExact 11 t0_0 = owns (c : Thread nD τ) (ms0_11 t0_0) fullShare ((dats m 0 c).after 11 t0_0) from by
      unfold Dat.leavesExact; rw [liveAt0_11_A t0_0 hc], after0_11]
    rw [body_first (grid0.coords t0_0) _ _ _ _ _ _ _ _ _ _ _ _ _ _ _ _ _ _ _ _ _ _ _ _ _ _ _ _ hc, wp_bind]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (pre_triple c (grid0.coords t0_0) _ _ _ _ _ _ _ _ _ _ _ _ _ _ _ _ _ _ _ _ _ _ _ _ _ _ _ _ (iblk m c 1 t0_0) (iblk m c 2 t0_0) (iblk m c 3 t0_0) (iblk m c 4 t0_0) (iblk m c 5 t0_0) _ _)
    isplitl [H1]; · iexact H1
    isplitl [H2]; · iexact H2
    isplitl [H3]; · iexact H3
    isplitl [H4]; · iexact H4
    isplitl [H5]; · iexact H5
    isplitl [H9]; · iexists _; iexact H9
    isplitl [H10]; · iexists _; iexact H10
    isplitl [H11]; · iexists _; iexact H11
    isplitl [HS0]; · iexact HS0
    isplitl [HS1]; · iexact HS1
    iintro ⟨H1, H2, H3, H4, H5, H9, H10, H11, HS0, HS1⟩
    iapply (main_triple c (grid0.coords t0_0) _ _ _ _ _ _ _ _ _ _ _ _ _ _ _ _ _ _ _ _ _ _ _ _ _ _ _ _ (iblk m c 0 t0_0) (iblk m c 6 t0_0) (iblk m c 7 t0_0) (XW m c) (HB m c) _ _)
    isplitl [H0]; · iexact H0
    isplitl [H6]; · iexact H6
    isplitl [H7]; · iexact H7
    isplitl [HS0]; · iexact HS0
    isplitl [HS1]; · iexact HS1
    isplitl [H8]; · iexists _; iexact H8
    iintro ⟨H0, H6, H7, HS0, HS1, H8⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · have hz : t.val ≠ 0 := fun h => hc ((hcond0_0 t).mpr (by omega))
    rw [PhiS_castSucc, PhiS_pos m c _ _ hz]
    rw [body_later (grid0.coords t) _ _ _ _ _ _ _ _ _ _ _ _ _ _ _ _ _ _ _ _ _ _ _ _ _ _ _ _ hc]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (main_triple c (grid0.coords t) _ _ _ _ _ _ _ _ _ _ _ _ _ _ _ _ _ _ _ _ _ _ _ _ _ _ _ _ (iblk m c 0 t) (iblk m c 6 t) (iblk m c 7 t) (XW m c) (HB m c) _ _)
    isplitl [H0]; · iexact H0
    isplitl [H6]; · iexact H6
    isplitl [H7]; · iexact H7
    isplitl [HS0]; · iexact HS0
    isplitl [HS1]; · iexact HS1
    isplitl [H8]; · iexists _; iexact H8
    iintro ⟨H0, H6, H7, HS0, HS1, H8⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (leaves0_9_B m c t hc d9); iexact H9
    isplitl [H10]; · iapply (leaves0_10_B m c t hc d10); iexact H10
    iapply (leaves0_11_B m c t hc d11); iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 14 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame: every run ends, with the arguments as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Hand

end
-- ==== Proof.Final.lean ====
module

public import proofs.«01_k».proof.Proof.Frame

@[expose] public section

set_option synthInstance.maxSize 4096
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (l : Loc nD τ sig) → Buf (Elt F) l) (ρ : Dev nD → PrngReg)

/-! ## The arrays after the run -/

/-- The output array, block by block. -/
def G8 (c : Dev nD) : Buf (Elt F) ((c : Thread nD τ).loc main_v8_0) := fun i : S128x14336.Idx =>
  OUT m c ⟨(i 1).val / 1024, lt_of_lt_of_eq (by have : (i 1).val < 14336 := (i 1).isLt; omega) (show 14 = cfg0.N from N_0.symm)⟩
    (ix2 (i 0) ⟨(i 1).val % 1024, Nat.mod_lt _ (by omega)⟩)
abbrev G9 (c : Dev nD) : Buf (Elt F) ((c : Thread nD τ).loc main_v8_1) := GT m c
abbrev G10 (c : Dev nD) : Buf (Elt F) ((c : Thread nD τ).loc main_v8_2) := CD m c
abbrev G11 (c : Dev nD) : Buf (Elt F) ((c : Thread nD τ).loc main_v8_3) := XS m c

/-- The printed index map, decided over the grid: output window 8's block indices stay in the box, and the block number
    read off them is the point's (`t`). -/
theorem idx_facts8 : ∀ t : Fin cfg0.N, 0 ≤ win0_8.index t (0 : Fin 2) ∧ win0_8.index t (0 : Fin 2) ≤ 0
    ∧ 0 ≤ win0_8.index t (1 : Fin 2) ∧ win0_8.index t (1 : Fin 2) ≤ 13
    ∧ 14 * (win0_8.index t (0 : Fin 2) - 0) + 1 * (win0_8.index t (1 : Fin 2) - 0) = t.val :=
  (by decide +kernel : ∀ t : Fin grid0.N, _)

/-- Every block of the box is SOME flushing point's: `onto8Pt`, the point that writes back the block at place `q` of the box. -/
abbrev onto8Pt (q0 : Fin 1) (q1 : Fin 14) : Fin grid0.N :=
  ⟨14 * q0.val + 1 * q1.val, lt_of_lt_of_eq (by omega) N_0.symm⟩
theorem idx_onto8 : ∀ (q0 : Fin 1) (q1 : Fin 14), ∃ t : Fin cfg0.N, (cfg0.win 8).flush t = true ∧ win0_8.index t = ![q0.val + 0, q1.val + 0] :=
  fun q0 q1 => ⟨onto8Pt q0 q1, (by decide +kernel : ∀ (q0 : Fin 1) (q1 : Fin 14), win0_8.flush (onto8Pt q0 q1) = true ∧ win0_8.index (onto8Pt q0 q1) = ![q0.val + 0, q1.val + 0]) q0 q1⟩

/-- What point `t` writes back is block `t` of the array. -/
theorem flushed8_eq (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [after0_8]
  obtain ⟨e0, e1, e2⟩ := idx_facts8 t
  funext y
  have hy0 : (y 0).val < 128 := (y 0).isLt
  have hy1 : (y 1).val < 1024 := (y 1).isLt
  have hb0 : (((cfg0.win 8).blk t).view.emb y 0).val = win0_8.index t (0 : Fin 2) * 128 + 1 * (y 0).val := rfl
  have hb1 : (((cfg0.win 8).blk t).view.emb y 1).val = win0_8.index t (1 : Fin 2) * 1024 + 1 * (y 1).val := rfl
  show OUT m c t ((cfg0.win 8).xinj (grid0.coords t) y) = G8 m c (((cfg0.win 8).blk t).view.emb y)
  unfold G8
  have ht : (⟨(((cfg0.win 8).blk t).view.emb y 1).val / 1024, lt_of_lt_of_eq (by have : (((cfg0.win 8).blk t).view.emb y 1).val < 14336 := (((cfg0.win 8).blk t).view.emb y 1).isLt; omega) (show 14 = cfg0.N from N_0.symm)⟩ : Fin cfg0.N) = t :=
    Fin.ext (by show (((cfg0.win 8).blk t).view.emb y 1).val / 1024 = t.val; rw [hb1]; omega)
  rw [ht]
  refine congrArg _ ?_
  funext a; apply Fin.ext
  match a with
  | ⟨0, _⟩ => show (y 0).val = (((cfg0.win 8).blk t).view.emb y 0).val; rw [hb0]; omega
  | ⟨1, _⟩ => show (y 1).val = (((cfg0.win 8).blk t).view.emb y 1).val % 1024; rw [hb1]; omega

/-- An index of the array is in point `t`'s block iff each coordinate is in the block's range on its axis. -/
theorem mem_blk8 (t : Fin cfg0.N) (i : S128x14336.Idx) :
    i ∈ ((cfg0.win 8).blk t).view.set ↔ ∀ a : Fin 2, win0_8.index t a * S128x1024.size a ≤ (i a).val ∧ (i a).val < win0_8.index t a * S128x1024.size a + S128x1024.size a := by
  show i ∈ ((View.whole main_v8_0).slice (win0_8.rect t)).set ↔ _
  rw [View.set_slice_whole, Rect.mem_set_unit]
  exact Iff.rfl

/-- THE COVERED INDICES: in some flushing point's block iff inside the box those blocks fill. -/
theorem covered_iff8 (i : S128x14336.Idx) :
    (∃ t : Fin cfg0.N, (cfg0.win 8).flush t = true ∧ i ∈ ((cfg0.win 8).blk t).view.set) ↔ 0 ≤ (i 0).val ∧ (i 0).val < 128 ∧ 0 ≤ (i 1).val ∧ (i 1).val < 14336 := by
  constructor
  · rintro ⟨t, -, hi⟩
    rw [mem_blk8] at hi
    have b0 : win0_8.index t (0 : Fin 2) * 128 ≤ (i 0).val ∧ (i 0).val < win0_8.index t (0 : Fin 2) * 128 + 128 := hi 0
    have b1 : win0_8.index t (1 : Fin 2) * 1024 ≤ (i 1).val ∧ (i 1).val < win0_8.index t (1 : Fin 2) * 1024 + 1024 := hi 1
    obtain ⟨e0, e1, e2⟩ := idx_facts8 t
    omega
  · intro h
    have hi0 : (i 0).val < 128 := (i 0).isLt
    have hi1 : (i 1).val < 14336 := (i 1).isLt
    obtain ⟨t, hft, ht⟩ := idx_onto8 ⟨(i 0).val / 128 - 0, by omega⟩ ⟨(i 1).val / 1024 - 0, by omega⟩
    have q0 : win0_8.index t (0 : Fin 2) = (i 0).val / 128 - 0 + 0 := congrFun ht 0
    have q1 : win0_8.index t (1 : Fin 2) = (i 1).val / 1024 - 0 + 0 := congrFun ht 1
    refine ⟨t, hft, ?_⟩
    rw [mem_blk8]
    intro a
    match a with
    | ⟨0, _⟩ => show win0_8.index t (0 : Fin 2) * 128 ≤ (i 0).val ∧ (i 0).val < win0_8.index t (0 : Fin 2) * 128 + 128; omega
    | ⟨1, _⟩ => show win0_8.index t (1 : Fin 2) * 1024 ≤ (i 1).val ∧ (i 1).val < win0_8.index t (1 : Fin 2) * 1024 + 1024; omega

/-- THE ARRAY after the run: `G8` (the flushing blocks tile it). -/
theorem final8 (c : Dev nD) : (dats m 0 c).arrAt 8 cfg0.N = G8 m c :=
  (dats m 0 c).arrAt_eq_of_cover 8 _ (fun t hf => flushed8_eq m c t hf) (fun i => (covered_iff8 i).2 (by
    have h0 : (i 0).val < 128 := (i 0).isLt; have h1 : (i 1).val < 14336 := (i 1).isLt; omega))

/-- The printed index map, decided over the grid: output window 9's block indices stay in the box, and the block number
    read off them is the point's (`t / 14`). -/
theorem idx_facts9 : ∀ t : Fin cfg0.N, 0 ≤ win0_9.index t (0 : Fin 2) ∧ win0_9.index t (0 : Fin 2) ≤ 0
    ∧ 0 ≤ win0_9.index t (1 : Fin 2) ∧ win0_9.index t (1 : Fin 2) ≤ 0
    ∧ 1 * (win0_9.index t (0 : Fin 2) - 0) + 1 * (win0_9.index t (1 : Fin 2) - 0) = t.val / 14 :=
  (by decide +kernel : ∀ t : Fin grid0.N, _)

/-- Every block of the box is SOME flushing point's: `onto9Pt`, the point that writes back the block at place `q` of the box (the last point of its run). -/
abbrev onto9Pt (q0 : Fin 1) (q1 : Fin 1) : Fin grid0.N :=
  ⟨14 * (1 * q0.val + 1 * q1.val) + 13, lt_of_lt_of_eq (by omega) N_0.symm⟩
theorem idx_onto9 : ∀ (q0 : Fin 1) (q1 : Fin 1), ∃ t : Fin cfg0.N, (cfg0.win 9).flush t = true ∧ win0_9.index t = ![q0.val + 0, q1.val + 0] :=
  fun q0 q1 => ⟨onto9Pt q0 q1, (by decide +kernel : ∀ (q0 : Fin 1) (q1 : Fin 1), win0_9.flush (onto9Pt q0 q1) = true ∧ win0_9.index (onto9Pt q0 q1) = ![q0.val + 0, q1.val + 0]) q0 q1⟩

/-- What the last point writes back is the array. -/
theorem flushed9_eq (c : Dev nD) (t : Fin cfg0.N) (hf : (cfg0.win 9).flush t = true) :
    (dats m 0 c).flushed 9 t = ((cfg0.win 9).blk t).view.read (Elt F) (G9 m c) := by
  show (cfg0.win 9).cut (grid0.coords t) ((dats m 0 c).after 9 t) = _
  rw [after0_9]
  obtain ⟨e0, e1, e2⟩ := idx_facts9 t
  funext y
  have hN : t.val < 14 := lt_of_lt_of_eq t.isLt (show cfg0.N = 14 from N_0)
  have hb0 : (((cfg0.win 9).blk t).view.emb y 0).val = win0_9.index t (0 : Fin 2) * 2 + 1 * (y 0).val := rfl
  have hb1 : (((cfg0.win 9).blk t).view.emb y 1).val = win0_9.index t (1 : Fin 2) * 128 + 1 * (y 1).val := rfl
  show GT m c ((cfg0.win 9).xinj (grid0.coords t) y) = GT m c (((cfg0.win 9).blk t).view.emb y)
  refine congrArg _ ?_
  funext a; apply Fin.ext
  match a with
  | ⟨0, _⟩ => show (y 0).val = (((cfg0.win 9).blk t).view.emb y 0).val; rw [hb0]; omega
  | ⟨1, _⟩ => show (y 1).val = (((cfg0.win 9).blk t).view.emb y 1).val; rw [hb1]; omega

/-- An index of the array is in point `t`'s block iff each coordinate is in the block's range on its axis. -/
theorem mem_blk9 (t : Fin cfg0.N) (i : S2x128.Idx) :
    i ∈ ((cfg0.win 9).blk t).view.set ↔ ∀ a : Fin 2, win0_9.index t a * S2x128.size a ≤ (i a).val ∧ (i a).val < win0_9.index t a * S2x128.size a + S2x128.size a := by
  show i ∈ ((View.whole main_v8_1).slice (win0_9.rect t)).set ↔ _
  rw [View.set_slice_whole, Rect.mem_set_unit]
  exact Iff.rfl

/-- THE COVERED INDICES: in some flushing point's block iff inside the box those blocks fill. -/
theorem covered_iff9 (i : S2x128.Idx) :
    (∃ t : Fin cfg0.N, (cfg0.win 9).flush t = true ∧ i ∈ ((cfg0.win 9).blk t).view.set) ↔ 0 ≤ (i 0).val ∧ (i 0).val < 2 ∧ 0 ≤ (i 1).val ∧ (i 1).val < 128 := by
  constructor
  · rintro ⟨t, -, hi⟩
    rw [mem_blk9] at hi
    have b0 : win0_9.index t (0 : Fin 2) * 2 ≤ (i 0).val ∧ (i 0).val < win0_9.index t (0 : Fin 2) * 2 + 2 := hi 0
    have b1 : win0_9.index t (1 : Fin 2) * 128 ≤ (i 1).val ∧ (i 1).val < win0_9.index t (1 : Fin 2) * 128 + 128 := hi 1
    obtain ⟨e0, e1, e2⟩ := idx_facts9 t
    omega
  · intro h
    have hi0 : (i 0).val < 2 := (i 0).isLt
    have hi1 : (i 1).val < 128 := (i 1).isLt
    obtain ⟨t, hft, ht⟩ := idx_onto9 ⟨(i 0).val / 2 - 0, by omega⟩ ⟨(i 1).val / 128 - 0, by omega⟩
    have q0 : win0_9.index t (0 : Fin 2) = (i 0).val / 2 - 0 + 0 := congrFun ht 0
    have q1 : win0_9.index t (1 : Fin 2) = (i 1).val / 128 - 0 + 0 := congrFun ht 1
    refine ⟨t, hft, ?_⟩
    rw [mem_blk9]
    intro a
    match a with
    | ⟨0, _⟩ => show win0_9.index t (0 : Fin 2) * 2 ≤ (i 0).val ∧ (i 0).val < win0_9.index t (0 : Fin 2) * 2 + 2; omega
    | ⟨1, _⟩ => show win0_9.index t (1 : Fin 2) * 128 ≤ (i 1).val ∧ (i 1).val < win0_9.index t (1 : Fin 2) * 128 + 128; omega

/-- THE ARRAY after the run: `G9` (the flushing blocks tile it). -/
theorem final9 (c : Dev nD) : (dats m 0 c).arrAt 9 cfg0.N = G9 m c :=
  (dats m 0 c).arrAt_eq_of_cover 9 _ (fun t hf => flushed9_eq m c t hf) (fun i => (covered_iff9 i).2 (by
    have h0 : (i 0).val < 2 := (i 0).isLt; have h1 : (i 1).val < 128 := (i 1).isLt; omega))

/-- The printed index map, decided over the grid: output window 10's block indices stay in the box, and the block number
    read off them is the point's (`t / 14`). -/
theorem idx_facts10 : ∀ t : Fin cfg0.N, 0 ≤ win0_10.index t (0 : Fin 2) ∧ win0_10.index t (0 : Fin 2) ≤ 0
    ∧ 0 ≤ win0_10.index t (1 : Fin 2) ∧ win0_10.index t (1 : Fin 2) ≤ 0
    ∧ 1 * (win0_10.index t (0 : Fin 2) - 0) + 1 * (win0_10.index t (1 : Fin 2) - 0) = t.val / 14 :=
  (by decide +kernel : ∀ t : Fin grid0.N, _)

/-- Every block of the box is SOME flushing point's: `onto10Pt`, the point that writes back the block at place `q` of the box (the last point of its run). -/
abbrev onto10Pt (q0 : Fin 1) (q1 : Fin 1) : Fin grid0.N :=
  ⟨14 * (1 * q0.val + 1 * q1.val) + 13, lt_of_lt_of_eq (by omega) N_0.symm⟩
theorem idx_onto10 : ∀ (q0 : Fin 1) (q1 : Fin 1), ∃ t : Fin cfg0.N, (cfg0.win 10).flush t = true ∧ win0_10.index t = ![q0.val + 0, q1.val + 0] :=
  fun q0 q1 => ⟨onto10Pt q0 q1, (by decide +kernel : ∀ (q0 : Fin 1) (q1 : Fin 1), win0_10.flush (onto10Pt q0 q1) = true ∧ win0_10.index (onto10Pt q0 q1) = ![q0.val + 0, q1.val + 0]) q0 q1⟩

/-- What the last point writes back is the array. -/
theorem flushed10_eq (c : Dev nD) (t : Fin cfg0.N) (hf : (cfg0.win 10).flush t = true) :
    (dats m 0 c).flushed 10 t = ((cfg0.win 10).blk t).view.read (Elt F) (G10 m c) := by
  show (cfg0.win 10).cut (grid0.coords t) ((dats m 0 c).after 10 t) = _
  rw [after0_10]
  obtain ⟨e0, e1, e2⟩ := idx_facts10 t
  funext y
  have hN : t.val < 14 := lt_of_lt_of_eq t.isLt (show cfg0.N = 14 from N_0)
  have hb0 : (((cfg0.win 10).blk t).view.emb y 0).val = win0_10.index t (0 : Fin 2) * 128 + 1 * (y 0).val := rfl
  have hb1 : (((cfg0.win 10).blk t).view.emb y 1).val = win0_10.index t (1 : Fin 2) * 4096 + 1 * (y 1).val := rfl
  show CD m c ((cfg0.win 10).xinj (grid0.coords t) y) = CD m c (((cfg0.win 10).blk t).view.emb y)
  refine congrArg _ ?_
  funext a; apply Fin.ext
  match a with
  | ⟨0, _⟩ => show (y 0).val = (((cfg0.win 10).blk t).view.emb y 0).val; rw [hb0]; omega
  | ⟨1, _⟩ => show (y 1).val = (((cfg0.win 10).blk t).view.emb y 1).val; rw [hb1]; omega

/-- An index of the array is in point `t`'s block iff each coordinate is in the block's range on its axis. -/
theorem mem_blk10 (t : Fin cfg0.N) (i : S128x4096.Idx) :
    i ∈ ((cfg0.win 10).blk t).view.set ↔ ∀ a : Fin 2, win0_10.index t a * S128x4096.size a ≤ (i a).val ∧ (i a).val < win0_10.index t a * S128x4096.size a + S128x4096.size a := by
  show i ∈ ((View.whole main_v8_2).slice (win0_10.rect t)).set ↔ _
  rw [View.set_slice_whole, Rect.mem_set_unit]
  exact Iff.rfl

/-- THE COVERED INDICES: in some flushing point's block iff inside the box those blocks fill. -/
theorem covered_iff10 (i : S128x4096.Idx) :
    (∃ t : Fin cfg0.N, (cfg0.win 10).flush t = true ∧ i ∈ ((cfg0.win 10).blk t).view.set) ↔ 0 ≤ (i 0).val ∧ (i 0).val < 128 ∧ 0 ≤ (i 1).val ∧ (i 1).val < 4096 := by
  constructor
  · rintro ⟨t, -, hi⟩
    rw [mem_blk10] at hi
    have b0 : win0_10.index t (0 : Fin 2) * 128 ≤ (i 0).val ∧ (i 0).val < win0_10.index t (0 : Fin 2) * 128 + 128 := hi 0
    have b1 : win0_10.index t (1 : Fin 2) * 4096 ≤ (i 1).val ∧ (i 1).val < win0_10.index t (1 : Fin 2) * 4096 + 4096 := hi 1
    obtain ⟨e0, e1, e2⟩ := idx_facts10 t
    omega
  · intro h
    have hi0 : (i 0).val < 128 := (i 0).isLt
    have hi1 : (i 1).val < 4096 := (i 1).isLt
    obtain ⟨t, hft, ht⟩ := idx_onto10 ⟨(i 0).val / 128 - 0, by omega⟩ ⟨(i 1).val / 4096 - 0, by omega⟩
    have q0 : win0_10.index t (0 : Fin 2) = (i 0).val / 128 - 0 + 0 := congrFun ht 0
    have q1 : win0_10.index t (1 : Fin 2) = (i 1).val / 4096 - 0 + 0 := congrFun ht 1
    refine ⟨t, hft, ?_⟩
    rw [mem_blk10]
    intro a
    match a with
    | ⟨0, _⟩ => show win0_10.index t (0 : Fin 2) * 128 ≤ (i 0).val ∧ (i 0).val < win0_10.index t (0 : Fin 2) * 128 + 128; omega
    | ⟨1, _⟩ => show win0_10.index t (1 : Fin 2) * 4096 ≤ (i 1).val ∧ (i 1).val < win0_10.index t (1 : Fin 2) * 4096 + 4096; omega

/-- THE ARRAY after the run: `G10` (the flushing blocks tile it). -/
theorem final10 (c : Dev nD) : (dats m 0 c).arrAt 10 cfg0.N = G10 m c :=
  (dats m 0 c).arrAt_eq_of_cover 10 _ (fun t hf => flushed10_eq m c t hf) (fun i => (covered_iff10 i).2 (by
    have h0 : (i 0).val < 128 := (i 0).isLt; have h1 : (i 1).val < 4096 := (i 1).isLt; omega))

/-- The printed index map, decided over the grid: output window 11's block indices stay in the box, and the block number
    read off them is the point's (`t / 14`). -/
theorem idx_facts11 : ∀ t : Fin cfg0.N, 0 ≤ win0_11.index t (0 : Fin 2) ∧ win0_11.index t (0 : Fin 2) ≤ 0
    ∧ 0 ≤ win0_11.index t (1 : Fin 2) ∧ win0_11.index t (1 : Fin 2) ≤ 0
    ∧ 1 * (win0_11.index t (0 : Fin 2) - 0) + 1 * (win0_11.index t (1 : Fin 2) - 0) = t.val / 14 :=
  (by decide +kernel : ∀ t : Fin grid0.N, _)

/-- Every block of the box is SOME flushing point's: `onto11Pt`, the point that writes back the block at place `q` of the box (the last point of its run). -/
abbrev onto11Pt (q0 : Fin 1) (q1 : Fin 1) : Fin grid0.N :=
  ⟨14 * (1 * q0.val + 1 * q1.val) + 13, lt_of_lt_of_eq (by omega) N_0.symm⟩
theorem idx_onto11 : ∀ (q0 : Fin 1) (q1 : Fin 1), ∃ t : Fin cfg0.N, (cfg0.win 11).flush t = true ∧ win0_11.index t = ![q0.val + 0, q1.val + 0] :=
  fun q0 q1 => ⟨onto11Pt q0 q1, (by decide +kernel : ∀ (q0 : Fin 1) (q1 : Fin 1), win0_11.flush (onto11Pt q0 q1) = true ∧ win0_11.index (onto11Pt q0 q1) = ![q0.val + 0, q1.val + 0]) q0 q1⟩

/-- What the last point writes back is the array. -/
theorem flushed11_eq (c : Dev nD) (t : Fin cfg0.N) (hf : (cfg0.win 11).flush t = true) :
    (dats m 0 c).flushed 11 t = ((cfg0.win 11).blk t).view.read (Elt F) (G11 m c) := by
  show (cfg0.win 11).cut (grid0.coords t) ((dats m 0 c).after 11 t) = _
  rw [after0_11]
  obtain ⟨e0, e1, e2⟩ := idx_facts11 t
  funext y
  have hN : t.val < 14 := lt_of_lt_of_eq t.isLt (show cfg0.N = 14 from N_0)
  have hb0 : (((cfg0.win 11).blk t).view.emb y 0).val = win0_11.index t (0 : Fin 2) * 32 + 1 * (y 0).val := rfl
  have hb1 : (((cfg0.win 11).blk t).view.emb y 1).val = win0_11.index t (1 : Fin 2) * 128 + 1 * (y 1).val := rfl
  show XS m c ((cfg0.win 11).xinj (grid0.coords t) y) = XS m c (((cfg0.win 11).blk t).view.emb y)
  refine congrArg _ ?_
  funext a; apply Fin.ext
  match a with
  | ⟨0, _⟩ => show (y 0).val = (((cfg0.win 11).blk t).view.emb y 0).val; rw [hb0]; omega
  | ⟨1, _⟩ => show (y 1).val = (((cfg0.win 11).blk t).view.emb y 1).val; rw [hb1]; omega

/-- An index of the array is in point `t`'s block iff each coordinate is in the block's range on its axis. -/
theorem mem_blk11 (t : Fin cfg0.N) (i : S32x128.Idx) :
    i ∈ ((cfg0.win 11).blk t).view.set ↔ ∀ a : Fin 2, win0_11.index t a * S32x128.size a ≤ (i a).val ∧ (i a).val < win0_11.index t a * S32x128.size a + S32x128.size a := by
  show i ∈ ((View.whole main_v8_3).slice (win0_11.rect t)).set ↔ _
  rw [View.set_slice_whole, Rect.mem_set_unit]
  exact Iff.rfl

/-- THE COVERED INDICES: in some flushing point's block iff inside the box those blocks fill. -/
theorem covered_iff11 (i : S32x128.Idx) :
    (∃ t : Fin cfg0.N, (cfg0.win 11).flush t = true ∧ i ∈ ((cfg0.win 11).blk t).view.set) ↔ 0 ≤ (i 0).val ∧ (i 0).val < 32 ∧ 0 ≤ (i 1).val ∧ (i 1).val < 128 := by
  constructor
  · rintro ⟨t, -, hi⟩
    rw [mem_blk11] at hi
    have b0 : win0_11.index t (0 : Fin 2) * 32 ≤ (i 0).val ∧ (i 0).val < win0_11.index t (0 : Fin 2) * 32 + 32 := hi 0
    have b1 : win0_11.index t (1 : Fin 2) * 128 ≤ (i 1).val ∧ (i 1).val < win0_11.index t (1 : Fin 2) * 128 + 128 := hi 1
    obtain ⟨e0, e1, e2⟩ := idx_facts11 t
    omega
  · intro h
    have hi0 : (i 0).val < 32 := (i 0).isLt
    have hi1 : (i 1).val < 128 := (i 1).isLt
    obtain ⟨t, hft, ht⟩ := idx_onto11 ⟨(i 0).val / 32 - 0, by omega⟩ ⟨(i 1).val / 128 - 0, by omega⟩
    have q0 : win0_11.index t (0 : Fin 2) = (i 0).val / 32 - 0 + 0 := congrFun ht 0
    have q1 : win0_11.index t (1 : Fin 2) = (i 1).val / 128 - 0 + 0 := congrFun ht 1
    refine ⟨t, hft, ?_⟩
    rw [mem_blk11]
    intro a
    match a with
    | ⟨0, _⟩ => show win0_11.index t (0 : Fin 2) * 32 ≤ (i 0).val ∧ (i 0).val < win0_11.index t (0 : Fin 2) * 32 + 32; omega
    | ⟨1, _⟩ => show win0_11.index t (1 : Fin 2) * 128 ≤ (i 1).val ∧ (i 1).val < win0_11.index t (1 : Fin 2) * 128 + 128; omega

/-- THE ARRAY after the run: `G11` (the flushing blocks tile it). -/
theorem final11 (c : Dev nD) : (dats m 0 c).arrAt 11 cfg0.N = G11 m c :=
  (dats m 0 c).arrAt_eq_of_cover 11 _ (fun t hf => flushed11_eq m c t hf) (fun i => (covered_iff11 i).2 (by
    have h0 : (i 0).val < 32 := (i 0).isLt; have h1 : (i 1).val < 128 := (i 1).isLt; omega))

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v8_0) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v8_1) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v8_2) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v8_3) = (dats m 0 c).arrAt 11 cfg0.N :=
  (h c).1 11

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 6 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 6).trans (((dats m 0 c).arrAt_in 6 rfl _).trans ((A_eq m c 6).trans (V_main_arg1 m c)))

/-- After the frame run, argument `main_arg2` is as launched: input window 0 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 0).trans (((dats m 0 c).arrAt_in 0 rfl _).trans ((A_eq m c 0).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- The frame run with each output array after the run NAMED — the block-by-block terms —,
    the arguments unchanged. -/
theorem run : θ_run defs (onTc (τ := τ) (main (F := F))) ⟨m, fun _ => 0, ρ⟩ fun r => ∀ c : Dev nD,
      r.2.mem ((c : Thread nD τ).loc main_v8_0) = G8 m c
      ∧ r.2.mem ((c : Thread nD τ).loc main_v8_1) = G9 m c
      ∧ r.2.mem ((c : Thread nD τ).loc main_v8_2) = G10 m c
      ∧ r.2.mem ((c : Thread nD τ).loc main_v8_3) = G11 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(post8 m r h c).trans (final8 m c),
      (post9 m r h c).trans (final9 m c),
      (post10 m r h c).trans (final10 m c),
      (post11 m r h c).trans (final11 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.KernelIdeal.Hand

end
-- ==== Proof.KArr.lean ====
module

public import Idealize.ShloMosaic.Lib.Pointwise
public import Idealize.ShloMosaic.Lib.StableHlo.Run
public import proofs.«01_k».proof.Proof.Frame

/-! # The arrays the kernel's blocks are read from -/

@[expose] public section

set_option maxRecDepth 16384

noncomputable section

namespace Cert.KernelIdeal.Hand

open Idealize.ShloMosaic Idealize.ShloMosaic.TcCoe Idealize.SL.Sem
open Cert.KernelIdeal Cert.KernelIdeal.Gen

section Any
variable {F : FTy → Type} [FloatOps F] (m : (l : Loc nD τ sig) → Buf (Elt F) l)

theorem iblk_0 (c : Dev nD) (t : Fin cfg0.N) : iblk m c 0 t = V m c main_arg2 := by
  funext y
  show V m c main_arg2 (((cfg0.win 0).blk t).view.emb y) = V m c main_arg2 y
  refine congrArg _ ?_
  have e : ∀ t : Fin cfg0.N, win0_0.index t = ![0, 0] := (by decide +kernel : ∀ t : Fin grid0.N, _)
  funext a; apply Fin.ext
  match a with
  | ⟨0, _⟩ => show win0_0.index t 0 * 32 + 1 * (y 0).val = (y 0).val; rw [e t]; simp
  | ⟨1, _⟩ => show win0_0.index t 1 * 112 + 1 * (y 1).val = (y 1).val; rw [e t]; simp
theorem iblk_1 (c : Dev nD) (t : Fin cfg0.N) : iblk m c 1 t = V m c main_v7 := by
  funext y
  show V m c main_v7 (((cfg0.win 1).blk t).view.emb y) = V m c main_v7 y
  refine congrArg _ ?_
  have e : ∀ t : Fin cfg0.N, win0_1.index t = ![0, 0] := (by decide +kernel : ∀ t : Fin grid0.N, _)
  funext a; apply Fin.ext
  match a with
  | ⟨0, _⟩ => show win0_1.index t 0 * 128 + 1 * (y 0).val = (y 0).val; rw [e t]; simp
  | ⟨1, _⟩ => show win0_1.index t 1 * 4096 + 1 * (y 1).val = (y 1).val; rw [e t]; simp
theorem iblk_2 (c : Dev nD) (t : Fin cfg0.N) : iblk m c 2 t = V m c main_v2 := by
  funext y
  show V m c main_v2 (((cfg0.win 2).blk t).view.emb y) = V m c main_v2 y
  refine congrArg _ ?_
  have e : ∀ t : Fin cfg0.N, win0_2.index t = ![0, 0] := (by decide +kernel : ∀ t : Fin grid0.N, _)
  funext a; apply Fin.ext
  match a with
  | ⟨0, _⟩ => show win0_2.index t 0 * 8 + 1 * (y 0).val = (y 0).val; rw [e t]; simp
  | ⟨1, _⟩ => show win0_2.index t 1 * 4096 + 1 * (y 1).val = (y 1).val; rw [e t]; simp
theorem iblk_3 (c : Dev nD) (t : Fin cfg0.N) : iblk m c 3 t = V m c main_v5 := by
  funext y
  show V m c main_v5 (((cfg0.win 3).blk t).view.emb y) = V m c main_v5 y
  refine congrArg _ ?_
  have e : ∀ t : Fin cfg0.N, win0_3.index t = ![0, 0] := (by decide +kernel : ∀ t : Fin grid0.N, _)
  funext a; apply Fin.ext
  match a with
  | ⟨0, _⟩ => show win0_3.index t 0 * 8 + 1 * (y 0).val = (y 0).val; rw [e t]; simp
  | ⟨1, _⟩ => show win0_3.index t 1 * 1 + 1 * (y 1).val = (y 1).val; rw [e t]; simp
theorem iblk_4 (c : Dev nD) (t : Fin cfg0.N) : iblk m c 4 t = V m c main_v4 := by
  funext y
  show V m c main_v4 (((cfg0.win 4).blk t).view.emb y) = V m c main_v4 y
  refine congrArg _ ?_
  have e : ∀ t : Fin cfg0.N, win0_4.index t = ![0, 0] := (by decide +kernel : ∀ t : Fin grid0.N, _)
  funext a; apply Fin.ext
  match a with
  | ⟨0, _⟩ => show win0_4.index t 0 * 2 + 1 * (y 0).val = (y 0).val; rw [e t]; simp
  | ⟨1, _⟩ => show win0_4.index t 1 * 128 + 1 * (y 1).val = (y 1).val; rw [e t]; simp
theorem iblk_5 (c : Dev nD) (t : Fin cfg0.N) : iblk m c 5 t = V m c main_v1 := by
  funext y
  show V m c main_v1 (((cfg0.win 5).blk t).view.emb y) = V m c main_v1 y
  refine congrArg _ ?_
  have e : ∀ t : Fin cfg0.N, win0_5.index t = ![0, 0] := (by decide +kernel : ∀ t : Fin grid0.N, _)
  funext a; apply Fin.ext
  match a with
  | ⟨0, _⟩ => show win0_5.index t 0 * 128 + 1 * (y 0).val = (y 0).val; rw [e t]; simp
  | ⟨1, _⟩ => show win0_5.index t 1 * 4096 + 1 * (y 1).val = (y 1).val; rw [e t]; simp
theorem iblk_6 (c : Dev nD) (t : Fin cfg0.N) (d : Fin 4096) (n : Fin 1024) :
    iblk m c 6 t (ix2 d n) = V m c main_arg1 (ix2 d ⟨1024 * (grid0.coords t 0).val + n.val, by have : (grid0.coords t 0).val < 14 := (grid0.coords t 0).isLt; omega⟩) := by
  show V m c main_arg1 (((cfg0.win 6).blk t).view.emb (ix2 d n)) = _
  refine congrArg _ ?_
  have e : ∀ t : Fin cfg0.N, win0_6.index t = ![0, (grid0.coords t 0).val] := (by decide +kernel : ∀ t : Fin grid0.N, _)
  funext a; apply Fin.ext
  match a with
  | ⟨0, _⟩ => show win0_6.index t 0 * 4096 + 1 * d.val = d.val; rw [e t]; simp
  | ⟨1, _⟩ => show win0_6.index t 1 * 1024 + 1 * n.val = 1024 * (grid0.coords t 0).val + n.val; rw [e t]; simp [mul_comm]
theorem iblk_7 (c : Dev nD) (t : Fin cfg0.N) (d : Fin 128) (n : Fin 1024) :
    iblk m c 7 t (ix2 d n) = V m c main_v6 (ix2 d ⟨1024 * (grid0.coords t 0).val + n.val, by have : (grid0.coords t 0).val < 14 := (grid0.coords t 0).isLt; omega⟩) := by
  show V m c main_v6 (((cfg0.win 7).blk t).view.emb (ix2 d n)) = _
  refine congrArg _ ?_
  have e : ∀ t : Fin cfg0.N, win0_7.index t = ![0, (grid0.coords t 0).val] := (by decide +kernel : ∀ t : Fin grid0.N, _)
  funext a; apply Fin.ext
  match a with
  | ⟨0, _⟩ => show win0_7.index t 0 * 128 + 1 * d.val = d.val; rw [e t]; simp
  | ⟨1, _⟩ => show win0_7.index t 1 * 1024 + 1 * n.val = 1024 * (grid0.coords t 0).val + n.val; rw [e t]; simp [mul_comm]

theorem V_after (c : Dev nD) (b : Ref sig .tc) : V m c b = StableHlo.after (hostOps0 (F := F)) (fun b => m (c, b)) (b : DevRef τ sig) := by
  show StableHlo.after (hostOps0 ++ []) (fun b => m (c, b)) (b : DevRef τ sig) = _
  rw [List.append_nil]
theorem V_v7 (c : Dev nD) : V m c main_v7 = shapeCast S128x4096 (m ((c : Thread nD τ).loc main_arg0)) shapeCasts_S1x128x4096_S128x4096 := by
  rw [V_after]
  after_results
  rfl
theorem V_v2 (c : Dev nD) : V m c main_v2 = transpose S8x4096 [1, 0] (m ((c : Thread nD τ).loc main_arg3)) transposes_S4096x8_S8x4096_1_0 := by
  rw [V_after]
  after_results
theorem V_v5 (c : Dev nD) : V m c main_v5 = shapeCast S8x1 (m ((c : Thread nD τ).loc main_arg4)) shapeCasts_S8_S8x1 := by
  rw [V_after]
  after_results
  rfl
theorem V_v4 (c : Dev nD) : V m c main_v4 = transpose S2x128 [1, 0] (shapeCast S128x2 (m ((c : Thread nD τ).loc main_arg5)) shapeCasts_S1x128x2_S128x2) transposes_S128x2_S2x128_1_0 := by
  rw [V_after]
  after_results
  rfl
theorem V_v1 (c : Dev nD) : V m c main_v1 = shapeCast S128x4096 (transpose S8x16x4096 [0, 2, 1] (m ((c : Thread nD τ).loc main_arg6)) transposes_S8x4096x16_S8x16x4096_0_2_1) shapeCasts_S8x16x4096_S128x4096 := by
  rw [V_after]
  after_results
  rfl
theorem V_v6 (c : Dev nD) : V m c main_v6 = shapeCast S128x14336 (m ((c : Thread nD τ).loc main_arg7)) shapeCasts_S8x16x14336_S128x14336 := by
  rw [V_after]
  after_results
  rfl

end Any

theorem v7_apply (x : FVec Ideal S1x128x4096 .bf16) (s : Fin 128) (d : Fin 4096) : shapeCast S128x4096 x shapeCasts_S1x128x4096_S128x4096 (ix2 s d) = x (ix3 0 s d) := by
  pointwise
theorem v2_apply (x : FVec Ideal S4096x8 .bf16) (e : Fin 8) (d : Fin 4096) : transpose S8x4096 [1, 0] x transposes_S4096x8_S8x4096_1_0 (ix2 e d) = x (ix2 d e) := by
  pointwise
theorem v5_apply (x : FVec Ideal S8 .f32) (e : Fin 8) : shapeCast S8x1 x shapeCasts_S8_S8x1 (ix2 e 0) = x (ix1 e) := by
  pointwise
theorem v4_apply (x : IVec S1x128x2 32) (r : Fin 2) (s : Fin 128) :
    transpose S2x128 [1, 0] (shapeCast S128x2 x shapeCasts_S1x128x2_S128x2) transposes_S128x2_S2x128_1_0 (ix2 r s) = x (ix3 0 s r) := by
  pointwise
theorem v1_apply (x : FVec Ideal S8x4096x16 .bf16) (j : Fin 128) (d : Fin 4096) :
    shapeCast S128x4096 (transpose S8x16x4096 [0, 2, 1] x transposes_S8x4096x16_S8x16x4096_0_2_1) shapeCasts_S8x16x4096_S128x4096 (ix2 j d)
      = x (ix3 ⟨j.val / 16, by omega⟩ d ⟨j.val % 16, by omega⟩) := by
  pointwise
theorem v6_apply (x : FVec Ideal S8x16x14336 .bf16) (j : Fin 128) (n : Fin 14336) :
    shapeCast S128x14336 x shapeCasts_S8x16x14336_S128x14336 (ix2 j n) = x (ix3 ⟨j.val / 16, by omega⟩ ⟨j.val % 16, by omega⟩ n) := by
  pointwise

end Cert.KernelIdeal.Hand

end
-- ==== Proof.Expo.lean ====
/- The power of two of a block: the exponent field that the kernel finds by comparing with the powers of two, and the
   exponent that the reference takes from a logarithm, give the same scale and the same inverse scale. -/
module

public import Idealize.ShloMosaic.PureOps.Ideal.Laws
public import Idealize.ShloMosaic.Lib.IdealHost

@[expose] public section

noncomputable section

namespace Cert.Quant

open Idealize.ShloMosaic

/-- The word whose exponent field is `n`, the rest zero. -/
@[irreducible] def field (n : ℕ) : BitVec 32 := BitVec.ofNat 32 (n * 8388608)

theorem field_def (n : ℕ) : field n = BitVec.ofNat 32 (n * 8388608) := by unfold field; rfl

theorem field_toNat (n : ℕ) (h : n < 256) : (field n).toNat = n * 8388608 := by
  rw [field_def, BitVec.toNat_ofNat]
  exact Nat.mod_eq_of_lt (by omega)

/-- As an integer it is `n` times the unit of the field. -/
theorem field_toInt (n : ℕ) (h : n < 256) : (field n).toInt = n * 8388608 := by
  have e := field_toNat n h
  rw [BitVec.toInt_eq_toNat_of_lt (by rw [e]; omega), e]
  push_cast
  rfl

/-- Its exponent bits. -/
theorem field_ex (n : ℕ) (h : n < 256) : ((field n).extractLsb' 23 8).toNat = n := by
  rw [BitVec.extractLsb'_toNat, field_toNat n h, Nat.shiftRight_eq_div_pow]; omega

/-- Its trailing bits. -/
theorem field_fr (n : ℕ) (h : n < 256) : ((field n).extractLsb' 0 23).toNat = 0 := by
  rw [BitVec.extractLsb'_toNat, field_toNat n h, Nat.shiftRight_eq_div_pow]; omega

/-- Its sign bit. -/
theorem field_sign (n : ℕ) (h : n < 256) : (field n).extractLsb' 31 1 = 0#1 := by
  apply BitVec.eq_of_toNat_eq
  rw [BitVec.extractLsb'_toNat, field_toNat n h, Nat.shiftRight_eq_div_pow]
  show _ = 0
  omega

/-- What a single-precision pattern denotes, from its three parts. -/
theorem ieee_of (b : BitVec 32) (n : ℕ) (e1 : (b.extractLsb' 23 8).toNat = n) (e2 : (b.extractLsb' 0 23).toNat = 0)
    (e3 : b.extractLsb' 31 1 = 0#1) : Ideal.ofBits .f32 b
      = if n = 255 then ⊤ else if n = 0 then 0 else (((8388608 : ℝ) * (2 : ℝ) ^ ((n : ℤ) - 127 - 23) : ℝ) : EReal) := by
  show Ideal.ieee 8 23 b = _
  unfold Ideal.ieee
  show (if (b.extractLsb' 23 8).toNat = 2 ^ 8 - 1 then (if (b.extractLsb' 0 23).toNat = 0 then (if (b.extractLsb' 31 1 == 1#1) = true then ⊥ else ⊤) else ⊥)
    else if (b.extractLsb' 23 8).toNat = 0 then ((((if (b.extractLsb' 31 1 == 1#1) = true then -1 else 1 : ℝ) * ((b.extractLsb' 0 23).toNat : ℝ) * (2 : ℝ) ^ (1 - (2 ^ (8 - 1) - 1) - 23 : ℤ) : ℝ)) : EReal)
    else ((((if (b.extractLsb' 31 1 == 1#1) = true then -1 else 1 : ℝ) * ((2 ^ 23 + (b.extractLsb' 0 23).toNat : ℕ) : ℝ) * (2 : ℝ) ^ (((b.extractLsb' 23 8).toNat : ℤ) - (2 ^ (8 - 1) - 1) - 23) : ℝ)) : EReal)) = _
  rw [e1, e2, e3]
  norm_num

/-- A field between the extremes is the power of two `2^(n - 127)`. -/
theorem ofBits_field (n : ℕ) (h0 : 0 < n) (h : n < 255) :
    Ideal.ofBits .f32 (field n) = (((2 : ℝ) ^ ((n : ℤ) - 127) : ℝ) : EReal) := by
  rw [ieee_of (field n) n (field_ex n (by omega)) (field_fr n (by omega)) (field_sign n (by omega)),
    if_neg (by omega), if_neg (by omega)]
  congr 1
  rw [show ((8388608 : ℝ)) = (2 : ℝ) ^ (23 : ℤ) by norm_num, ← zpow_add₀ (by norm_num)]
  congr 1; ring

/-- The field zero is zero. -/
theorem ofBits_field_zero : Ideal.ofBits .f32 (field 0) = 0 := by
  rw [ieee_of (field 0) 0 (field_ex 0 (by omega)) (field_fr 0 (by omega)) (field_sign 0 (by omega)),
    if_neg (by omega), if_pos rfl]

/-- The last field is infinite. -/
theorem ofBits_field_top : Ideal.ofBits .f32 (field 255) = ⊤ := by
  rw [ieee_of (field 255) 255 (field_ex 255 (by omega)) (field_fr 255 (by omega)) (field_sign 255 (by omega)),
    if_pos rfl]

/-- Some fields as printed. -/
theorem field_zero_word : field 0 = 0#32 := by rw [field_def]
theorem field_one_word : field 1 = 0x00800000#32 := by rw [field_def]
theorem field_unit_word : field 127 = 1065353216#32 := by rw [field_def]
theorem field_two_word : field 128 = 0x40000000#32 := by rw [field_def]

/-- The signed maximum of two words, as integers. -/
theorem maxsi_toInt (x y : BitVec 32) : (IntOp.maxsi x y).toInt = max x.toInt y.toInt := by
  unfold IntOp.maxsi
  rw [BitVec.slt_eq_decide]
  by_cases h : y.toInt < x.toInt
  · simp [h, max_eq_left h.le]
  · simp [h, max_eq_right (not_lt.mp h)]

/-- A signed maximum over a family, from the least word, is an element that none of the family exceeds. -/
theorem fold_maxsi (f : Fin 256 → BitVec 32) (k : Fin 256) (hle : ∀ l, (f l).toInt ≤ (f k).toInt) :
    (Finset.univ : Finset (Fin 256)).fold IntOp.maxsi 2147483648#32 f = f k := by
  apply BitVec.eq_of_toInt_eq
  rw [← Finset.fold_hom (op := IntOp.maxsi) (op' := max) (m := BitVec.toInt) maxsi_toInt]
  apply le_antisymm
  · rw [Finset.fold_max_le]
    refine ⟨?_, fun l _ => hle l⟩
    have := BitVec.le_toInt (f k)
    have h2 : (2147483648#32 : BitVec 32).toInt = -2147483648 := by decide
    rw [h2]; omega
  · rw [Finset.le_fold_max]
    exact Or.inr ⟨k, Finset.mem_univ _, le_rfl⟩

/-- The word that the kernel compares out: the largest exponent field whose power of two is not above `v`. -/
def topWord (v : EReal) : BitVec 32 :=
  (Finset.univ : Finset (Fin 256)).fold IntOp.maxsi 2147483648#32
    fun k => if v < Ideal.ofBits .f32 (field k.val) then 0#32 else field k.val

/-- Which field it is, when `v` lies between this field's power and the next. -/
theorem topWord_eq (v : EReal) (n : ℕ) (h : n < 256) (hn : Ideal.ofBits .f32 (field n) ≤ v)
    (hup : ∀ k, n < k → k < 256 → v < Ideal.ofBits .f32 (field k)) : topWord v = field n := by
  unfold topWord
  refine (fold_maxsi _ ⟨n, h⟩ fun l => ?_).trans (if_neg (not_lt.mpr hn))
  rw [if_neg (not_lt.mpr hn), field_toInt n h]
  by_cases hl : v < Ideal.ofBits .f32 (field l.val)
  · rw [if_pos hl]; norm_num
  · rw [if_neg hl, field_toInt _ l.isLt]
    have : ¬ n < l.val := fun hlt => hl (hup _ hlt l.isLt)
    have h3 := not_lt.mp this
    show (l.val : ℤ) * 8388608 ≤ (n : ℤ) * 8388608
    omega

/-- A value below the smallest normal power has field zero. -/
theorem topWord_small (r : ℝ) (h0 : 0 ≤ r) (h : r < (2 : ℝ) ^ (-126 : ℤ)) : topWord (r : EReal) = 0#32 := by
  refine (topWord_eq _ 0 (by omega) ?_ ?_).trans field_zero_word
  · rw [ofBits_field_zero]; exact_mod_cast h0
  · intro k hk hk2
    by_cases hk3 : k = 255
    · rw [hk3, ofBits_field_top]; exact EReal.coe_lt_top r
    · rw [ofBits_field k hk (by omega), EReal.coe_lt_coe_iff]
      refine h.trans_le (zpow_le_zpow_right₀ (by norm_num) (by omega))

/-- A value between `2^(n-127)` and `2^(n-126)` has field `n`. -/
theorem topWord_normal (r : ℝ) (n : ℕ) (h0 : 0 < n) (h : n < 255) (h1 : (2 : ℝ) ^ ((n : ℤ) - 127) ≤ r)
    (h2 : r < (2 : ℝ) ^ ((n : ℤ) - 126)) : topWord (r : EReal) = field n := by
  refine topWord_eq _ n (by omega) ?_ ?_
  · rw [ofBits_field n h0 h]; exact_mod_cast h1
  · intro k hk hk2
    by_cases hk3 : k = 255
    · rw [hk3, ofBits_field_top]; exact EReal.coe_lt_top r
    · rw [ofBits_field k (by omega) (by omega), EReal.coe_lt_coe_iff]
      refine h2.trans_le (zpow_le_zpow_right₀ (by norm_num) (by omega))

/-- The word of the kernel's scale. -/
def scaleWord (v : EReal) : BitVec 32 := if topWord v = 0#32 then 1065353216#32 else topWord v + 8388608#32

/-- The reference's exponent. -/
def expo (v : EReal) : EReal :=
  if v < Ideal.ofBits .f32 0x00800000#32 then 0
  else Ideal.liftRound Int.floor (Ideal.div (Ideal.log v) (Ideal.log (Ideal.ofBits .f32 0x40000000#32))) + 1

theorem ofBits_two : Ideal.ofBits .f32 0x40000000#32 = ((2 : ℝ) : EReal) := by
  rw [← field_two_word, ofBits_field 128 (by omega) (by omega)]
  congr 1; norm_num

theorem ofBits_tiny : Ideal.ofBits .f32 0x00800000#32 = (((2 : ℝ) ^ (-126 : ℤ) : ℝ) : EReal) := by
  rw [← field_one_word, ofBits_field 1 (by omega) (by omega)]
  congr 1

/-- The reference's exponent of a small value. -/
theorem expo_small (r : ℝ) (h : r < (2 : ℝ) ^ (-126 : ℤ)) : expo (r : EReal) = 0 := by
  unfold expo
  rw [ofBits_tiny, if_pos (EReal.coe_lt_coe_iff.mpr h)]

/-- The reference's exponent of a value between `2^z` and `2^(z+1)`. -/
theorem expo_normal (r : ℝ) (h : (2 : ℝ) ^ (-126 : ℤ) ≤ r) (z : ℤ) (l1 : (2 : ℝ) ^ z ≤ r) (l2 : r < (2 : ℝ) ^ (z + 1)) :
    expo (r : EReal) = ((z + 1 : ℤ) : ℝ) := by
  have h0 : (0 : ℝ) < r := lt_of_lt_of_le (by positivity) h
  unfold expo
  rw [ofBits_tiny, if_neg (not_lt.mpr (EReal.coe_le_coe_iff.mpr h)), ofBits_two]
  have e1 : Ideal.log (r : EReal) = (Real.log r : EReal) := by
    show (if r ≤ 0 then ⊥ else (Real.log r : EReal)) = _
    rw [if_neg (not_le.mpr h0)]
  have e2 : Ideal.log ((2 : ℝ) : EReal) = (Real.log 2 : EReal) := by
    show (if (2 : ℝ) ≤ 0 then ⊥ else (Real.log 2 : EReal)) = _
    rw [if_neg (by norm_num)]
  have hl : 0 < Real.log 2 := Real.log_pos (by norm_num)
  have e3 : Ideal.div (Real.log r : EReal) (Real.log 2 : EReal) = ((Real.log r / Real.log 2 : ℝ) : EReal) := by
    unfold Ideal.div
    rw [if_neg (by exact_mod_cast hl.ne'), ← EReal.coe_inv, ← EReal.coe_mul]
    rfl
  rw [e1, e2, e3]
  show ((⌊Real.log r / Real.log 2⌋ : ℝ) : EReal) + 1 = _
  have e4 : ⌊Real.log r / Real.log 2⌋ = z := by
    rw [Int.floor_eq_iff]
    constructor
    · rw [le_div_iff₀ hl, ← Real.log_zpow]
      exact Real.log_le_log (by positivity) l1
    · rw [div_lt_iff₀ hl]
      have := Real.log_lt_log h0 l2
      rw [Real.log_zpow] at this
      push_cast at this; exact this
  rw [e4]; push_cast; rfl

/-- Two to an integer, as the ideal `exp2` gives it. -/
theorem exp2_int (z : ℤ) : Ideal.exp2 (((z : ℤ) : ℝ) : EReal) = (((2 : ℝ) ^ z : ℝ) : EReal) := by
  show ((Real.rpow 2 (z : ℝ) : ℝ) : EReal) = _
  congr 1
  exact Real.rpow_intCast 2 z

/-- Adding one to a field. -/
theorem field_succ (n : ℕ) (h : n < 255) : field n + 8388608#32 = field (n + 1) := by
  apply BitVec.eq_of_toNat_eq
  rw [BitVec.toNat_add, field_toNat n (by omega), field_toNat (n + 1) (by omega), BitVec.toNat_ofNat]
  omega

/-- The inverse's field. -/
theorem field_inv (n : ℕ) (h : n ≤ 254) : 2130706432#32 - field n = field (254 - n) := by
  apply BitVec.eq_of_toNat_eq
  rw [BitVec.toNat_sub, field_toNat n (by omega), field_toNat (254 - n) (by omega), BitVec.toNat_ofNat]
  omega

theorem field_ne_zero (n : ℕ) (h0 : 0 < n) (h : n < 256) : field n ≠ 0#32 := by
  intro e
  have := congrArg BitVec.toNat e
  rw [field_toNat n h, BitVec.toNat_ofNat] at this
  omega

/-- For a value that is not negative and below `2^120` the scale's field and the reference's exponent agree. -/
theorem scale_field (r : ℝ) (h0 : 0 ≤ r) (h : r < (2 : ℝ) ^ (120 : ℤ)) :
    ∃ n : ℕ, 1 < n ∧ n < 253 ∧ scaleWord (r : EReal) = field n ∧ expo (r : EReal) = (((n : ℤ) - 127 : ℤ) : ℝ) := by
  by_cases hs : r < (2 : ℝ) ^ (-126 : ℤ)
  · refine ⟨127, by omega, by omega, ?_, ?_⟩
    · unfold scaleWord; rw [topWord_small r h0 hs, if_pos rfl, field_unit_word]
    · rw [expo_small r hs]; norm_num
  · have hs' := not_lt.mp hs
    have hr : (0 : ℝ) < r := lt_of_lt_of_le (by positivity) hs'
    obtain ⟨z, l1, l2⟩ := exists_mem_Ico_zpow hr (one_lt_two)
    have b1 : z < 120 := by
      by_contra hc
      have := (zpow_le_zpow_right₀ (a := (2 : ℝ)) (by norm_num) (not_lt.mp hc)).trans l1
      exact absurd h (not_lt.mpr this)
    have b2 : -126 ≤ z := by
      by_contra hc
      have hc' : z + 1 ≤ -126 := by omega
      have := l2.trans_le (zpow_le_zpow_right₀ (a := (2 : ℝ)) (by norm_num) hc')
      exact absurd hs' (not_le.mpr this)
    obtain ⟨n, hn⟩ : ∃ n : ℕ, (n : ℤ) = z + 127 := ⟨(z + 127).toNat, by omega⟩
    have hw : topWord (r : EReal) = field n := by
      refine topWord_normal r n (by omega) (by omega) ?_ ?_
      · rw [show (n : ℤ) - 127 = z by omega]; exact l1
      · rw [show (n : ℤ) - 126 = z + 1 by omega]; exact l2
    refine ⟨n + 1, by omega, by omega, ?_, ?_⟩
    · unfold scaleWord
      rw [hw, if_neg (field_ne_zero n (by omega) (by omega)), field_succ n (by omega)]
    · rw [expo_normal r hs' z l1 l2]
      congr 2; push_cast; omega

/-- The scale: the float of the kernel's word is two to the reference's exponent. -/
theorem scale_eq (r : ℝ) (h0 : 0 ≤ r) (h : r < (2 : ℝ) ^ (120 : ℤ)) :
    Ideal.ofBits .f32 (scaleWord (r : EReal)) = Ideal.exp2 (expo (r : EReal)) := by
  obtain ⟨n, h1, h2, e1, e2⟩ := scale_field r h0 h
  rw [e1, e2, exp2_int, ofBits_field n (by omega) (by omega)]

/-- The inverse scale: the float of the kernel's complementary word is two to minus the reference's exponent. -/
theorem inv_eq (r : ℝ) (h0 : 0 ≤ r) (h : r < (2 : ℝ) ^ (120 : ℤ)) :
    Ideal.ofBits .f32 (2130706432#32 - scaleWord (r : EReal)) = Ideal.exp2 (0 - expo (r : EReal)) := by
  obtain ⟨n, h1, h2, e1, e2⟩ := scale_field r h0 h
  rw [e1, e2, field_inv n (by omega), ofBits_field _ (by omega) (by omega)]
  have : (0 : EReal) - ((((n : ℤ) - 127 : ℤ) : ℝ) : EReal) = (((127 - (n : ℤ) : ℤ) : ℝ) : EReal) := by
    rw [zero_sub, ← EReal.coe_neg]; congr 1; push_cast; ring
  rw [this, exp2_int]
  congr 2; omega

end Cert.Quant

end
-- ==== Proof.Model.lean ====
module

public import Idealize.ShloMosaic.Lib.Pointwise
public import proofs.«01_k».proof.Proof.Expo

/-! # The layer over the extended reals

The four results as functions of the argument arrays, entry by entry, with no tiling and no order of work. -/

@[expose] public section

noncomputable section

namespace Cert.Quant

open Idealize.ShloMosaic

/-- The greatest magnitude of a block of `n` numbers, over 448 (as the nearest float). -/
def amaxV {n : ℕ} (f : Fin n → EReal) : EReal :=
  Finset.univ.fold max (Ideal.ofBits .f32 4286578688#32) (fun l => max (f l) (-(f l))) * Ideal.ofBits .f32 0x3B124925#32

/-- A number under a power of two, clamped to the range of the narrow format. -/
def codeV (e a : EReal) : EReal :=
  min (Ideal.ofBits .f32 1138753536#32) (max (Ideal.ofBits .f32 3286237184#32) (a * Ideal.exp2 (0 - e)))

/-- The arrays the layer reads. -/
structure Args where
  x : Fin 128 → Fin 4096 → EReal
  w : Fin 4096 → Fin 14336 → EReal
  ws : Fin 32 → Fin 112 → EReal
  rw' : Fin 4096 → Fin 8 → EReal
  rb : Fin 8 → EReal
  ix : Fin 128 → Fin 2 → Fin 8
  la : Fin 8 → Fin 4096 → Fin 16 → EReal
  lb : Fin 8 → Fin 16 → Fin 14336 → EReal

namespace Args
variable (a : Args)

/-- Block `b` of token `s`, -/
def blk (s : Fin 128) (b : Fin 32) (l : Fin 128) : EReal := a.x s ⟨128 * b.val + l.val, by omega⟩
/-- its exponent, -/
def ex (s : Fin 128) (b : Fin 32) : EReal := expo (amaxV (a.blk s b))
/-- its scale, -/
def scale (s : Fin 128) (b : Fin 32) : EReal := Ideal.exp2 (a.ex s b)
/-- the codes of the token, -/
def code (s : Fin 128) (d : Fin 4096) : EReal := codeV (a.ex s ⟨d.val / 128, by omega⟩) (a.x s d)
/-- and the codes under their scales. -/
def xq (s : Fin 128) (d : Fin 4096) : EReal := a.code s d * a.scale s ⟨d.val / 128, by omega⟩
/-- The weights under their scales. -/
def wq (d : Fin 4096) (n : Fin 14336) : EReal := a.w d n * a.ws ⟨d.val / 128, by omega⟩ ⟨n.val / 128, by omega⟩
/-- The router's logits, -/
def logit (s : Fin 128) (e : Fin 8) : EReal := ∑ d, a.x s d * a.rw' d e + a.rb e
/-- their exponentials under the greatest, -/
def ep (s : Fin 128) (e : Fin 8) : EReal :=
  Ideal.exp (a.logit s e - Finset.univ.fold max (Ideal.ofBits .f32 4286578688#32) (fun k => a.logit s k))
/-- the probabilities, -/
def prob (s : Fin 128) (e : Fin 8) : EReal := Ideal.div (a.ep s e) (∑ k, a.ep s k)
/-- and the gates of the two chosen experts. -/
def gate (s : Fin 128) (r : Fin 2) : EReal := Ideal.div (a.prob s (a.ix s r)) (a.prob s (a.ix s 0) + a.prob s (a.ix s 1))
/-- The gate of each expert. -/
def dense (s : Fin 128) (e : Fin 8) : EReal := (if a.ix s 0 = e then a.gate s 0 else 0) + (if a.ix s 1 = e then a.gate s 1 else 0)
/-- The gated low-rank activations, -/
def hb (s : Fin 128) (e : Fin 8) (q : Fin 16) : EReal := (∑ d, a.x s d * a.la e d q) * (a.dense s e * Ideal.ofBits .f32 1073741824#32)
/-- and what they add to the output. -/
def lora (s : Fin 128) (n : Fin 14336) : EReal := ∑ e, ∑ q, a.hb s e q * a.lb e q n
/-- The output. -/
def out (s : Fin 128) (n : Fin 14336) : EReal := ∑ d, a.xq s d * a.wq d n + a.lora s n

/-- The tokens are at most `2 ^ 128 - 2 ^ 120` in size. -/
def Bounded : Prop := ∀ s d, max (a.x s d) (-(a.x s d)) ≤ Ideal.ofBits .f32 0x7F7F0000#32

end Args

/-- A sum over blocks of `B` is the sum over all. -/
theorem sum_split {A B N : ℕ} (h : A * B = N) (f : Fin N → EReal) (hb : ∀ (k : Fin A) (x : Fin B), B * k.val + x.val < N) :
    ∑ k : Fin A, ∑ x : Fin B, f ⟨B * k.val + x.val, hb k x⟩ = ∑ d, f d := by
  subst h
  rw [← finProdFinEquiv.sum_comp, Fintype.sum_prod_type]
  refine Finset.sum_congr rfl fun k _ => Finset.sum_congr rfl fun x _ => congrArg f (Fin.ext ?_)
  exact add_comm _ _

/-- What a normal positive single-precision pattern denotes, from its parts. -/
theorem ieee_pos (b : BitVec 32) (n f : ℕ) (e1 : (b.extractLsb' 23 8).toNat = n) (e2 : (b.extractLsb' 0 23).toNat = f)
    (e3 : b.extractLsb' 31 1 = 0#1) (h0 : 0 < n) (h : n < 255) :
    Ideal.ofBits .f32 b = ((((8388608 : ℝ) + f) * (2 : ℝ) ^ ((n : ℤ) - 127 - 23) : ℝ) : EReal) := by
  show Ideal.ieee 8 23 b = _
  unfold Ideal.ieee
  show (if (b.extractLsb' 23 8).toNat = 2 ^ 8 - 1 then (if (b.extractLsb' 0 23).toNat = 0 then (if (b.extractLsb' 31 1 == 1#1) = true then ⊥ else ⊤) else ⊥)
    else if (b.extractLsb' 23 8).toNat = 0 then ((((if (b.extractLsb' 31 1 == 1#1) = true then -1 else 1 : ℝ) * ((b.extractLsb' 0 23).toNat : ℝ) * (2 : ℝ) ^ (1 - (2 ^ (8 - 1) - 1) - 23 : ℤ) : ℝ)) : EReal)
    else ((((if (b.extractLsb' 31 1 == 1#1) = true then -1 else 1 : ℝ) * ((2 ^ 23 + (b.extractLsb' 0 23).toNat : ℕ) : ℝ) * (2 : ℝ) ^ (((b.extractLsb' 23 8).toNat : ℤ) - (2 ^ (8 - 1) - 1) - 23) : ℝ)) : EReal)) = _
  rw [e1, e2, e3, if_neg (by omega), if_neg (by omega), if_neg (by decide)]
  congr 1
  push_cast
  norm_num

/-- The factor, about one in 448. -/
theorem ofBits_factor : Ideal.ofBits .f32 0x3B124925#32 = ((9586981 * (2 : ℝ) ^ (-32 : ℤ) : ℝ) : EReal) := by
  rw [ieee_pos _ 118 1198373 (by decide) (by decide) (by decide) (by omega) (by omega)]
  congr 1
  norm_num

theorem neg_inf : Ideal.ofBits .f32 4286578688#32 = ⊥ := by
  show Ideal.ieee 8 23 (4286578688#32 : BitVec 32) = _
  unfold Ideal.ieee
  have e1 : ((4286578688#32 : BitVec 32).extractLsb' 23 8).toNat = 2 ^ 8 - 1 := by decide
  have e2 : ((4286578688#32 : BitVec 32).extractLsb' 0 23).toNat = 0 := by decide
  have e3 : ((4286578688#32 : BitVec 32).extractLsb' 31 1 == 1#1) = true := by decide
  exact (if_pos e1).trans ((if_pos e2).trans (if_pos e3))

/-- The largest narrow float, in single precision. -/
theorem ofBits_most : ∃ r : ℝ, 0 ≤ r ∧ r < (2 : ℝ) ^ (128 : ℤ) ∧ Ideal.ofBits .f32 0x7F7F0000#32 = (r : EReal) := by
  refine ⟨_, ?_, ?_, ieee_pos _ 254 8323072 (by decide) (by decide) (by decide) (by omega) (by omega)⟩
  · positivity
  · norm_num

/-- The maximum of a nonempty family of bounded magnitudes, times the factor, is a number from 0 to below `2 ^ 120`. -/
theorem amaxV_real {n : ℕ} (f : Fin (n + 1) → EReal) (h : ∀ l, max (f l) (-(f l)) ≤ Ideal.ofBits .f32 0x7F7F0000#32) :
    ∃ r : ℝ, 0 ≤ r ∧ r < (2 : ℝ) ^ (120 : ℤ) ∧ amaxV f = (r : EReal) := by
  obtain ⟨M, hM0, hM, hMe⟩ := ofBits_most
  have hle : Finset.univ.fold max (Ideal.ofBits .f32 4286578688#32) (fun l => max (f l) (-(f l))) ≤ (M : EReal) := by
    rw [Finset.fold_max_le]
    exact ⟨by rw [neg_inf]; exact bot_le, fun l _ => hMe ▸ h l⟩
  have hge : (0 : EReal) ≤ Finset.univ.fold max (Ideal.ofBits .f32 4286578688#32) (fun l => max (f l) (-(f l))) := by
    rw [Finset.le_fold_max]
    refine Or.inr ⟨0, Finset.mem_univ _, ?_⟩
    rcases le_total 0 (f 0) with h0 | h0
    · exact le_max_of_le_left h0
    · exact le_max_of_le_right (by simpa using EReal.neg_le_neg_iff.mpr h0)
  unfold amaxV
  generalize Finset.univ.fold max (Ideal.ofBits .f32 4286578688#32) (fun l => max (f l) (-(f l))) = t at hle hge
  have ht : t ≠ ⊤ := fun e => absurd (e ▸ hle) (not_le.mpr (EReal.coe_lt_top M))
  have hb : t ≠ ⊥ := fun e => absurd (e ▸ hge) (not_le.mpr EReal.bot_lt_zero)
  lift t to ℝ using ⟨ht, hb⟩
  have h1 : t ≤ M := by exact_mod_cast hle
  have h2 : 0 ≤ t := by exact_mod_cast hge
  refine ⟨t * (9586981 * (2 : ℝ) ^ (-32 : ℤ)), by positivity, ?_, by rw [ofBits_factor]; push_cast; rfl⟩
  have e1 : (2 : ℝ) ^ (120 : ℤ) = (2 : ℝ) ^ (128 : ℤ) * (2 : ℝ) ^ (-8 : ℤ) := by rw [← zpow_add₀ (by norm_num)]; norm_num
  have e2 : 9586981 * (2 : ℝ) ^ (-32 : ℤ) < (2 : ℝ) ^ (-8 : ℤ) := by norm_num
  have e3 : (0 : ℝ) < 9586981 * (2 : ℝ) ^ (-32 : ℤ) := by norm_num
  rw [e1]
  nlinarith [mul_lt_mul'' (lt_of_le_of_lt h1 hM) e2 h2 e3.le]

end Cert.Quant

end
-- ==== Proof.KRoute.lean ====
module

public import Idealize.ShloMosaic.Lib.Pointwise
public import proofs.«01_k».proof.Proof.Model
public import proofs.«01_k».proof.Proof.Values

/-! # The kernel's router, gates and low-rank activations, entry by entry -/

@[expose] public section

set_option maxRecDepth 16384

noncomputable section

namespace Cert.KernelIdeal.Hand

open Idealize.ShloMosaic Idealize.ShloMosaic.TcCoe Idealize.SL.Sem
open Cert.KernelIdeal Cert.KernelIdeal.Gen Cert.Quant

variable (a : Args)

/-- The comparison of two expert numbers, as a one-bit word. -/
theorem same (i k : Fin 8) : IntOp.cmpi CmpIPredicate.eq (BitVec.ofNat 32 i.val) (BitVec.ofNat 32 k.val) = if k = i then 1#1 else 0#1 := by
  revert i k
  decide

theorem pick (k e : Fin 8) (u : EReal) : Scalar.select (IntOp.cmpi CmpIPredicate.eq (BitVec.ofNat 32 e.val) (BitVec.ofNat 32 k.val)) u 0 = if k = e then u else 0 := by
  rw [same]
  split <;> rfl

/-- A masked sum over the experts is the chosen expert's term. -/
theorem sum_pick (k : Fin 8) (f : Fin 8 → EReal) :
    ∑ e : Fin 8, Scalar.select (IntOp.cmpi CmpIPredicate.eq (BitVec.ofNat 32 e.val) (BitVec.ofNat 32 k.val)) (f e) 0 = f k := by
  simp only [pick]
  rw [Finset.sum_ite_eq]
  simp

theorem probsV_apply (X2 : FVec Ideal S128x4096 .bf16) (X3 : FVec Ideal S8x4096 .bf16) (X4 : FVec Ideal S8x1 .f32)
    (h2 : ∀ s d, X2 (ix2 s d) = a.x s d) (h3 : ∀ e d, X3 (ix2 e d) = a.rw' d e) (h4 : ∀ e, X4 (ix2 e 0) = a.rb e) (e : Fin 8) (s : Fin 128) :
    probsV (F := Ideal) X2 X3 X4 (ix2 e s) = a.prob s e := by
  have h : probsV (F := Ideal) X2 X3 X4 (ix2 e s) = Ideal.div (Ideal.exp ((∑ d : Fin 4096, X3 (ix2 e d) * X2 (ix2 s d) + X4 (ix2 e 0))
        - Finset.univ.fold max (Ideal.ofBits .f32 4286578688#32) (fun k : Fin 8 => ∑ d : Fin 4096, X3 (ix2 k d) * X2 (ix2 s d) + X4 (ix2 k 0))))
      (∑ j : Fin 8, Ideal.exp ((∑ d : Fin 4096, X3 (ix2 j d) * X2 (ix2 s d) + X4 (ix2 j 0))
        - Finset.univ.fold max (Ideal.ofBits .f32 4286578688#32) (fun k : Fin 8 => ∑ d : Fin 4096, X3 (ix2 k d) * X2 (ix2 s d) + X4 (ix2 k 0)))) := by
    pointwise [probsV, k0_pay257]
  have hl : ∀ k : Fin 8, ∑ d : Fin 4096, X3 (ix2 k d) * X2 (ix2 s d) + X4 (ix2 k 0) = a.logit s k := fun k => by
    unfold Args.logit
    simp only [h2, h3, h4, mul_comm]
  rw [h]
  simp only [hl]
  rfl

variable (P : FVec Ideal S8x128 .f32) (X5 : Vec Ideal S2x128 .i32) (hP : ∀ e s, P (ix2 e s) = a.prob s e)
  (h5 : ∀ r s, X5 (ix2 r s) = BitVec.ofNat 32 (a.ix s r).val)
include hP h5

theorem gatesC_apply (r : Fin 2) (s : Fin 128) : gatesC P X5 (ix2 r s) = a.gate s r := by
  have h : gateV P X5 r.val (ix2 0 s) = Ideal.div (∑ e : Fin 8, Scalar.select (IntOp.cmpi .eq (BitVec.ofNat 32 e.val) (X5 (ix2 ⟨r.val % 2, by omega⟩ s))) (P (ix2 e s)) 0)
      ((∑ e : Fin 8, Scalar.select (IntOp.cmpi .eq (BitVec.ofNat 32 e.val) (X5 (ix2 0 s))) (P (ix2 e s)) 0)
        + ∑ e : Fin 8, Scalar.select (IntOp.cmpi .eq (BitVec.ofNat 32 e.val) (X5 (ix2 1 s))) (P (ix2 e s)) 0) := by
    pointwise [gateV, k0_pay262, k0_pay261, k0_pay260, k0_pay258, k0_pay259, ids]
  have hr : (⟨r.val % 2, by omega⟩ : Fin 2) = r := Fin.ext (Nat.mod_eq_of_lt r.isLt)
  show gateV P X5 r.val (ix2 0 s) = _
  rw [h]
  simp only [hr, h5, hP, sum_pick]
  rfl

theorem hbV_apply (X2 X6 : FVec Ideal S128x4096 .bf16) (h2 : ∀ s d, X2 (ix2 s d) = a.x s d)
    (h6 : ∀ (j : Fin 128) d, X6 (ix2 j d) = a.la ⟨j.val / 16, by omega⟩ d ⟨j.val % 16, by omega⟩) (s j : Fin 128) :
    hbV X2 P X5 X6 (ix2 s j) = a.hb s ⟨j.val / 16, by omega⟩ ⟨j.val % 16, by omega⟩ := by
  have h : hbV X2 P X5 X6 (ix2 s j) = (∑ d : Fin 4096, X6 (ix2 j d) * X2 (ix2 s d))
      * ((Scalar.select (IntOp.cmpi .eq (BitVec.ofNat 32 (j.val / 16)) (X5 (ix2 0 s))) (Ideal.div (∑ e : Fin 8, Scalar.select (IntOp.cmpi .eq (BitVec.ofNat 32 e.val) (X5 (ix2 0 s))) (P (ix2 e s)) 0)
          ((∑ e : Fin 8, Scalar.select (IntOp.cmpi .eq (BitVec.ofNat 32 e.val) (X5 (ix2 0 s))) (P (ix2 e s)) 0)
            + ∑ e : Fin 8, Scalar.select (IntOp.cmpi .eq (BitVec.ofNat 32 e.val) (X5 (ix2 1 s))) (P (ix2 e s)) 0)) 0
        + Scalar.select (IntOp.cmpi .eq (BitVec.ofNat 32 (j.val / 16)) (X5 (ix2 1 s))) (Ideal.div (∑ e : Fin 8, Scalar.select (IntOp.cmpi .eq (BitVec.ofNat 32 e.val) (X5 (ix2 1 s))) (P (ix2 e s)) 0)
          ((∑ e : Fin 8, Scalar.select (IntOp.cmpi .eq (BitVec.ofNat 32 e.val) (X5 (ix2 0 s))) (P (ix2 e s)) 0)
            + ∑ e : Fin 8, Scalar.select (IntOp.cmpi .eq (BitVec.ofNat 32 e.val) (X5 (ix2 1 s))) (P (ix2 e s)) 0)) 0) * Ideal.ofBits .f32 1073741824#32) := by
    pointwise [hbV, k0_pay267, k0_pay265, k0_pay266, k0_pay264, k0_pay263, k0_pay262, k0_pay261, k0_pay260, k0_pay258, k0_pay259, ids]
  rw [h]
  simp only [h5, hP, sum_pick]
  rw [pick (a.ix s 0) ⟨j.val / 16, by omega⟩, pick (a.ix s 1) ⟨j.val / 16, by omega⟩]
  unfold Args.hb
  simp only [h2, h6, mul_comm (a.la _ _ _)]
  rfl

end Cert.KernelIdeal.Hand

end
-- ==== Proof.KQuant.lean ====
module

public import Idealize.ShloMosaic.Lib.Pointwise
public import proofs.«01_k».proof.Proof.Model
public import proofs.«01_k».proof.Proof.Values

/-! # The kernel's blocks, entry by entry

Each value the kernel's body stores, read at an index over the extended reals. -/

@[expose] public section

set_option maxRecDepth 16384

noncomputable section

namespace Cert.KernelIdeal.Hand

open Idealize.ShloMosaic Idealize.ShloMosaic.TcCoe Idealize.SL.Sem
open Cert.KernelIdeal Cert.KernelIdeal.Gen Cert.Quant

/-- The greatest power of two at most a row's entry, as a word. -/
theorem word_apply (q : FVec Ideal S128x1 .f32) (i256 : IVec S1x256 32) (hi : ∀ k : Fin 256, i256 (ix2 0 k) = field k.val) (r : Fin 128) :
    (multiReductionI .maxsi [1] S128 (select (cmpf .olt (broadcastTo S128x256 q broadcasts_S128x1_S128x256)
      (broadcastTo S128x256 (bitcastToFloat (F := Ideal) .f32 i256) broadcasts_S1x256_S128x256))
      (broadcast S128x256 0#32) (broadcastTo S128x256 (shapeCast S1x256 i256 shapeCasts_S1x256_S1x256) broadcasts_S1x256_S128x256)) 2147483648#32 reduces_S128x256_S128 rfl) (ix1 r)
      = topWord (q (ix2 r 0)) := by
  pointwise
  unfold topWord
  refine congrArg (fun f => Finset.fold IntOp.maxsi 2147483648#32 f Finset.univ) ?_
  funext k
  rw [hi]

/-- The words of the powers of two. -/
theorem fields_apply (k : Fin 256) :
    muli (iota .tc S1x256 32 [1] iota_S1x256_d1_w32) (broadcast S1x256 8388608#32) (ix2 0 k) = field k.val := by
  rw [field_def]
  pointwise
  show BitVec.ofNat 32 k.val * BitVec.ofNat 32 8388608 = _
  rw [BitVec.ofNat_mul]

/-- A block's scale, as a word. -/
theorem pay3_apply (v : Vec Ideal S128x128 .bf16) (r : Fin 128) :
    k0_pay3 v (ix2 r 0) = scaleWord (amaxV fun l : Fin 128 => v (ix2 r l)) := by
  have h := word_apply (mulf (shapeCast S128x1 (multiReduction (F := Ideal) .maximumf [1] S128 (absf (k0_pay2 v)) 0xFF800000#32 reduces_S128x128_S128 (.inl rfl) rfl) shapeCasts_S128_S128x1)
    (broadcast S128x1 (Scalar.ofBits .f32 0x3B124925#32))) _ fields_apply r
  have hv : mulf (shapeCast S128x1 (multiReduction (F := Ideal) .maximumf [1] S128 (absf (k0_pay2 v)) 0xFF800000#32 reduces_S128x128_S128 (.inl rfl) rfl) shapeCasts_S128_S128x1)
    (broadcast S128x1 (Scalar.ofBits .f32 0x3B124925#32)) (ix2 r 0) = amaxV fun l : Fin 128 => v (ix2 r l) := by
    pointwise [k0_pay2]
    rfl
  rw [hv] at h
  have key : ∀ M : IVec S128 32, select (cmpi .eq (shapeCast S128x1 M shapeCasts_S128_S128x1) (broadcast S128x1 0#32)) (broadcast S128x1 1065353216#32)
      (addi (shapeCast S128x1 M shapeCasts_S128_S128x1) (broadcast S128x1 8388608#32)) (ix2 r 0)
      = if M (ix1 r) = 0#32 then 1065353216#32 else M (ix1 r) + 8388608#32 := fun M => by
    pointwise
    by_cases h0 : M (ix1 r) = 0#32
    · rw [h0]; rfl
    · rw [if_neg h0]
      exact if_neg (by simp [IntOp.cmpi, beq_eq_false_iff_ne.mpr h0])
  refine (key _).trans ?_
  rw [h]
  rfl

section Bounded
variable (v : Vec Ideal S128x128 .bf16) (hv : ∀ r l : Fin 128, max (v (ix2 r l)) (-(v (ix2 r l))) ≤ Ideal.ofBits .f32 0x7F7F0000#32)
include hv

/-- A block's scale is the power of two of its exponent, -/
theorem scale_apply (r : Fin 128) : Ideal.ofBits .f32 (k0_pay3 v (ix2 r 0)) = Ideal.exp2 (expo (amaxV fun l : Fin 128 => v (ix2 r l))) := by
  obtain ⟨q, h0, h1, e⟩ := amaxV_real (n := 127) (fun l => v (ix2 r l)) (fun l => hv r l)
  rw [pay3_apply, e]
  exact scale_eq q h0 h1

/-- what it multiplies the tokens by is that of the opposite, -/
theorem inv_apply (r : Fin 128) : Ideal.ofBits .f32 (IntOp.subi 2130706432#32 (k0_pay3 v (ix2 r 0))) = Ideal.exp2 (0 - expo (amaxV fun l : Fin 128 => v (ix2 r l))) := by
  obtain ⟨q, h0, h1, e⟩ := amaxV_real (n := 127) (fun l => v (ix2 r l)) (fun l => hv r l)
  rw [pay3_apply, e]
  exact inv_eq q h0 h1

/-- so are its codes, -/
theorem codesB_apply (r l : Fin 128) : codesB v (ix2 r l) = codeV (expo (amaxV fun l : Fin 128 => v (ix2 r l))) (v (ix2 r l)) := by
  have e : k0_pay5 v (ix2 r l) = min (Ideal.ofBits .f32 1138753536#32) (max (Ideal.ofBits .f32 3286237184#32)
        (v (ix2 r l) * Ideal.ofBits .f32 (IntOp.subi 2130706432#32 (k0_pay3 v (ix2 r 0))))) := by
    pointwise [k0_pay5, k0_pay2]
  rw [show codesB v = k0_pay5 v from rfl, e, inv_apply v hv]
  rfl

/-- and the codes under the scale. -/
theorem xwB_apply (r l : Fin 128) : xwB v (ix3 0 r l)
    = codeV (expo (amaxV fun l : Fin 128 => v (ix2 r l))) (v (ix2 r l)) * Ideal.exp2 (expo (amaxV fun l : Fin 128 => v (ix2 r l))) := by
  have e : xwB v (ix3 0 r l) = k0_pay5 v (ix2 r l) * Ideal.ofBits .f32 (k0_pay3 v (ix2 r 0)) := by
    pointwise [xwB, k0_pay8, k0_pay7, k0_pay6, k0_pay4]
  rw [e, scale_apply v hv]
  exact congrArg (· * _) (codesB_apply v hv r l)

end Bounded

/-- The scales side by side: column `b` is block `b`'s. -/
theorem selF_apply (f : ℕ → Vec Ideal S128x128 .bf16) (s : Fin 128) (b : Fin 32) (n : ℕ) (h : b.val < n) (hn : n ≤ 32) :
    selF f n (ix2 s b) = Ideal.ofBits .f32 (k0_pay3 (f b.val) (ix2 s 0)) := by
  induction n with
  | zero => omega
  | succ k ih =>
    rw [selF]
    have e : ∀ A : FVec Ideal S128x32 .f32, select (cmpi .eq (iota .tc S128x32 32 [1] iota_S128x32_d1_w32) (broadcast S128x32 (BitVec.ofNat 32 k)))
      (broadcastTo S128x32 (shapeCast S128x1 (scaleB (f k)) shapeCasts_S128x1_S128x1) broadcasts_S128x1_S128x32) A (ix2 s b)
        = Scalar.select (IntOp.cmpi CmpIPredicate.eq (BitVec.ofNat 32 b.val) (BitVec.ofNat 32 k)) (Ideal.ofBits .f32 (k0_pay3 (f k) (ix2 s 0))) (A (ix2 s b)) := fun A => by
      pointwise [k0_pay4]
    rw [e]
    by_cases hb : b.val = k
    · rw [hb]
      show (if _ = 1#1 then _ else _) = _
      rw [if_pos]
      simp [IntOp.cmpi]
    · rw [← ih (by omega) (by omega)]
      show (if _ = 1#1 then _ else _) = _
      rw [if_neg]
      have : BitVec.ofNat 32 b.val ≠ BitVec.ofNat 32 k := fun h => hb (by
        have := congrArg BitVec.toNat h
        rw [BitVec.toNat_ofNat, BitVec.toNat_ofNat, Nat.mod_eq_of_lt (by omega), Nat.mod_eq_of_lt (by omega)] at this
        exact this)
      simp [IntOp.cmpi, beq_eq_false_iff_ne.mpr this]

end Cert.KernelIdeal.Hand

end
-- ==== Proof.KOut.lean ====
module

public import Idealize.ShloMosaic.Lib.Pointwise
public import proofs.«01_k».proof.Proof.Model
public import proofs.«01_k».proof.Proof.Values

/-! # The kernel's output tiles, entry by entry -/

@[expose] public section

set_option maxRecDepth 16384

noncomputable section

namespace Cert.KernelIdeal.Hand

open Idealize.ShloMosaic Idealize.ShloMosaic.TcCoe Idealize.SL.Sem
open Cert.KernelIdeal Cert.KernelIdeal.Gen Cert.Quant

variable (a : Args) (X1 : Vec Ideal S32x112 .f32) (X7 : FVec Ideal S4096x1024 .fp8e4m3) (X8 : FVec Ideal S128x1024 .bf16) (X13 : Vec Ideal S16x128x256 .bf16)
  (X14 : FVec Ideal S128x128 .bf16) (i : grid0.Coords)

theorem i_lt (i : grid0.Coords) : (i 0).val < 14 := (i 0).isLt

/-- The scale of weight block `(k, n)`. -/
theorem svalM_apply (k n : ℕ) : svalM X1 i k n = X1 (ix2 ⟨k % 32, by omega⟩ ⟨8 * (i 0).val + n % 8, by have := i_lt i; omega⟩) := by
  have h : svalM X1 i k n = X1 (ix2 ⟨soff (k % 32) i (BitVec.ofNat 32 (n % 8)) 0, soff_inb k i n 0⟩ ⟨soff (k % 32) i (BitVec.ofNat 32 (n % 8)) 1, soff_inb k i n 1⟩) := by
    unfold svalM
    pointwise
  rw [h]
  have e : ∀ (q : Fin 14) (b : Fin 8), (Scalar.indexCast (Scalar.addi (Scalar.muli (BitVec.ofNat 32 q.val) 8#32) (BitVec.ofNat 32 b.val)) : BitVec 32).toNat = 8 * q.val + b.val := by decide
  refine congrArg X1 ?_
  congr 1
  exact Fin.ext (e ⟨(i 0).val, i_lt i⟩ ⟨n % 8, by omega⟩)

/-- A square of four weight blocks under their scales. -/
theorem wblkM_apply (c t : ℕ) (hc : c < 16) (ht : t < 4) (h1 : ∀ k n, X1 (ix2 k n) = a.ws k n)
    (h7 : ∀ (d : Fin 4096) (n : Fin 1024), X7 (ix2 d n) = a.w d ⟨1024 * (i 0).val + n.val, by have := i_lt i; omega⟩) (r l : Fin 256) :
    wblkM X1 X7 i c t (ix2 r l) = a.wq ⟨256 * c + r.val, by omega⟩ ⟨1024 * (i 0).val + (256 * t + l.val), by have := i_lt i; omega⟩ := by
  have blk : ∀ (k n : ℕ) (r l : Fin 128) (hk : k < 32) (hn : n < 8), X7 (ix2 ⟨128 * (k % 32) + r.val, by omega⟩ ⟨128 * (n % 8) + l.val, by omega⟩) * svalM X1 i k n
      = a.wq ⟨128 * k + r.val, by omega⟩ ⟨1024 * (i 0).val + (128 * n + l.val), by have := i_lt i; omega⟩ := fun k n r l hk hn => by
    have := i_lt i
    rw [svalM_apply, h1, h7]
    unfold Args.wq
    congr 2
    · exact Fin.ext (by show 128 * (k % 32) + r.val = 128 * k + r.val; omega)
    · exact Fin.ext (by show 1024 * (i 0).val + (128 * (n % 8) + l.val) = 1024 * (i 0).val + (128 * n + l.val); omega)
    · exact Fin.ext (by show k % 32 = (128 * k + r.val) / 128; omega)
    · exact Fin.ext (by show 8 * (i 0).val + n % 8 = (1024 * (i 0).val + (128 * n + l.val)) / 128; omega)
  have hr := r.isLt
  have hl := l.isLt
  pointwise [wblkM, wrowM, wqM]
  split <;> split
  · refine (blk (2 * c) (2 * t) ⟨r.val, by omega⟩ ⟨l.val, by omega⟩ (by omega) (by omega)).trans (congrArg₂ a.wq (Fin.ext ?_) (Fin.ext ?_))
    · show 128 * (2 * c) + r.val = 256 * c + r.val; omega
    · show 1024 * (i 0).val + (128 * (2 * t) + l.val) = 1024 * (i 0).val + (256 * t + l.val); omega
  · refine (blk (2 * c) (2 * t + 1) ⟨r.val, by omega⟩ ⟨l.val - 128, by omega⟩ (by omega) (by omega)).trans (congrArg₂ a.wq (Fin.ext ?_) (Fin.ext ?_))
    · show 128 * (2 * c) + r.val = 256 * c + r.val; omega
    · show 1024 * (i 0).val + (128 * (2 * t + 1) + (l.val - 128)) = 1024 * (i 0).val + (256 * t + l.val); omega
  · refine (blk (2 * c + 1) (2 * t) ⟨r.val - 128, by omega⟩ ⟨l.val, by omega⟩ (by omega) (by omega)).trans (congrArg₂ a.wq (Fin.ext ?_) (Fin.ext ?_))
    · show 128 * (2 * c + 1) + (r.val - 128) = 256 * c + r.val; omega
    · show 1024 * (i 0).val + (128 * (2 * t) + l.val) = 1024 * (i 0).val + (256 * t + l.val); omega
  · refine (blk (2 * c + 1) (2 * t + 1) ⟨r.val - 128, by omega⟩ ⟨l.val - 128, by omega⟩ (by omega) (by omega)).trans (congrArg₂ a.wq (Fin.ext ?_) (Fin.ext ?_))
    · show 128 * (2 * c + 1) + (r.val - 128) = 256 * c + r.val; omega
    · show 1024 * (i 0).val + (128 * (2 * t + 1) + (l.val - 128)) = 1024 * (i 0).val + (256 * t + l.val); omega

/-- The low-rank part of a tile. -/
theorem acc0 (t : ℕ) (ht : t < 4) (h14 : ∀ s (j : Fin 128), X14 (ix2 s j) = a.hb s ⟨j.val / 16, by omega⟩ ⟨j.val % 16, by omega⟩)
    (h8 : ∀ (j : Fin 128) (n : Fin 1024), X8 (ix2 j n) = a.lb ⟨j.val / 16, by omega⟩ ⟨j.val % 16, by omega⟩ ⟨1024 * (i 0).val + n.val, by have := i_lt i; omega⟩)
    (s : Fin 128) (l : Fin 256) :
    accM X1 X7 X8 X13 X14 i t 0 (ix2 s l) = a.lora s ⟨1024 * (i 0).val + (256 * t + l.val), by have := i_lt i; omega⟩ := by
  have h : accM X1 X7 X8 X13 X14 i t 0 (ix2 s l) = ∑ j : Fin 128, X14 (ix2 s j) * X8 (ix2 j ⟨256 * (t % 4) + l.val, by omega⟩) := by
    rw [accM]
    pointwise [k0_pay268]
  rw [h]
  unfold Args.lora
  simp only [h14, h8, Nat.mod_eq_of_lt ht]
  rw [← sum_split (A := 8) (B := 16) rfl _ (fun k x => by omega)]
  refine Finset.sum_congr rfl fun e _ => Finset.sum_congr rfl fun q _ => ?_
  have e1 : (⟨(16 * e.val + q.val) / 16, by omega⟩ : Fin 8) = e := Fin.ext (by show (16 * e.val + q.val) / 16 = e.val; omega)
  have e2 : (⟨(16 * e.val + q.val) % 16, by omega⟩ : Fin 16) = q := Fin.ext (by show (16 * e.val + q.val) % 16 = q.val; omega)
  simp only [e1, e2]

/-- Chunk `c` of the tokens. -/
theorem ld_apply (c : ℕ) (s : Fin 128) (x : Fin 256) :
    View.ld (Val := Elt Ideal) (e' := .bf16) X13 (rectL c) (ix3 0 s x) = X13 (ix3 ⟨c % 16, by omega⟩ s x) := by
  pointwise
theorem chunk_apply (Y : FVec Ideal S1x128x256 .bf16) (s : Fin 128) (x : Fin 256) :
    shapeCast S128x256 Y shapeCasts_S1x128x256_S128x256 (ix2 s x) = Y (ix3 0 s x) := by
  pointwise
/-- A product of matrices onto an accumulator. -/
theorem step_apply (A : FVec Ideal S128x256 .f32) (X : FVec Ideal S128x256 .bf16) (Wb : FVec Ideal S256x256 .bf16) (s : Fin 128) (l : Fin 256) :
    addf A (matmul dot_S128x256_S256x256_S128x256_1_0_0_1_n_n none X Wb (constant S128x256 .f32 0x00000000#32)) (ix2 s l)
      = A (ix2 s l) + ∑ x : Fin 256, X (ix2 s x) * Wb (ix2 x l) := by
  pointwise

/-- One more chunk of the contraction. -/
theorem accS (c t : ℕ) (hc : c < 16) (ht : t < 4) (h1 : ∀ k n, X1 (ix2 k n) = a.ws k n)
    (h7 : ∀ (d : Fin 4096) (n : Fin 1024), X7 (ix2 d n) = a.w d ⟨1024 * (i 0).val + n.val, by have := i_lt i; omega⟩)
    (h13 : ∀ (c : Fin 16) s (l : Fin 256), X13 (ix3 c s l) = a.xq s ⟨256 * c.val + l.val, by omega⟩) (s : Fin 128) (l : Fin 256) :
    accM X1 X7 X8 X13 X14 i t (c + 1) (ix2 s l) = accM X1 X7 X8 X13 X14 i t c (ix2 s l)
      + ∑ x : Fin 256, a.xq s ⟨256 * c + x.val, by omega⟩ * a.wq ⟨256 * c + x.val, by omega⟩ ⟨1024 * (i 0).val + (256 * t + l.val), by have := i_lt i; omega⟩ := by
  rw [accM, step_apply]
  refine congrArg (_ + ·) (Finset.sum_congr rfl fun x _ => congrArg₂ (· * ·) ((chunk_apply _ s x).trans ((ld_apply X13 c s x).trans ((h13 _ _ _).trans ?_))) (wblkM_apply a X1 X7 i c t hc ht h1 h7 x l))
  exact congrArg (a.xq s) (Fin.ext (by show 256 * (c % 16) + x.val = 256 * c + x.val; omega))

/-- The output block. -/
theorem outC_apply (h1 : ∀ k n, X1 (ix2 k n) = a.ws k n)
    (h7 : ∀ (d : Fin 4096) (n : Fin 1024), X7 (ix2 d n) = a.w d ⟨1024 * (i 0).val + n.val, by have := i_lt i; omega⟩)
    (h8 : ∀ (j : Fin 128) (n : Fin 1024), X8 (ix2 j n) = a.lb ⟨j.val / 16, by omega⟩ ⟨j.val % 16, by omega⟩ ⟨1024 * (i 0).val + n.val, by have := i_lt i; omega⟩)
    (h13 : ∀ (c : Fin 16) s (l : Fin 256), X13 (ix3 c s l) = a.xq s ⟨256 * c.val + l.val, by omega⟩)
    (h14 : ∀ s (j : Fin 128), X14 (ix2 s j) = a.hb s ⟨j.val / 16, by omega⟩ ⟨j.val % 16, by omega⟩) (s : Fin 128) (n : Fin 1024) :
    outC X1 X7 X8 X13 X14 i (ix2 s n) = a.out s ⟨1024 * (i 0).val + n.val, by have := i_lt i; omega⟩ := by
  show accM X1 X7 X8 X13 X14 i (n.val / 256) 16 (ix2 s ⟨n.val % 256, by omega⟩) = _
  have hacc : ∀ c (hc : c ≤ 16), accM X1 X7 X8 X13 X14 i (n.val / 256) c (ix2 s ⟨n.val % 256, by omega⟩)
      = a.lora s ⟨1024 * (i 0).val + n.val, by have := i_lt i; omega⟩
        + ∑ k : Fin c, ∑ x : Fin 256, a.xq s ⟨256 * k.val + x.val, by omega⟩ * a.wq ⟨256 * k.val + x.val, by omega⟩ ⟨1024 * (i 0).val + n.val, by have := i_lt i; omega⟩ := by
    have hn : (⟨1024 * (i 0).val + (256 * (n.val / 256) + n.val % 256), by have := i_lt i; omega⟩ : Fin 14336) = ⟨1024 * (i 0).val + n.val, by have := i_lt i; omega⟩ :=
      Fin.ext (by show 1024 * (i 0).val + (256 * (n.val / 256) + n.val % 256) = 1024 * (i 0).val + n.val; omega)
    intro c
    induction c with
    | zero =>
      intro _
      rw [acc0 a X1 X7 X8 X13 X14 i _ (by omega) h14 h8]
      simp only [hn, Finset.univ_eq_empty, Finset.sum_empty, add_zero]
    | succ c ih =>
      intro hc
      rw [accS a X1 X7 X8 X13 X14 i c _ (by omega) (by omega) h1 h7 h13, ih (by omega), Fin.sum_univ_castSucc (n := c), add_assoc]
      simp only [hn]
      rfl
  rw [hacc 16 le_rfl, add_comm]
  unfold Args.out
  refine congrArg (· + _) ?_
  exact sum_split (A := 16) (B := 256) rfl (fun d => a.xq s d * a.wq d ⟨1024 * (i 0).val + n.val, by have := i_lt i; omega⟩) (fun k x => by omega)

end Cert.KernelIdeal.Hand

end
-- ==== Proof.KFin.lean ====
module

public import proofs.«01_k».proof.Proof.KArr
public import proofs.«01_k».proof.Proof.KRoute
public import proofs.«01_k».proof.Proof.KQuant
public import proofs.«01_k».proof.Proof.KOut
public import proofs.«01_k».proof.Proof.Final

/-! # The kernel's results are the layer's -/

@[expose] public section

set_option maxRecDepth 16384

noncomputable section

namespace Cert.KernelIdeal.Hand

open Idealize.ShloMosaic Idealize.ShloMosaic.TcCoe Idealize.SL.Sem
open Cert.KernelIdeal Cert.KernelIdeal.Gen Cert.Quant

variable (m : (l : Loc nD τ sig) → Buf (Elt Ideal) l)

/-- The argument arrays of device `c`, entry by entry. -/
def args (c : Dev nD) : Args where
  x s d := (m ((c : Thread nD τ).loc main_arg0) : FVec Ideal S1x128x4096 .bf16) (ix3 0 s d)
  w d n := (m ((c : Thread nD τ).loc main_arg1) : FVec Ideal S4096x14336 .fp8e4m3) (ix2 d n)
  ws k n := (m ((c : Thread nD τ).loc main_arg2) : FVec Ideal S32x112 .f32) (ix2 k n)
  rw' d e := (m ((c : Thread nD τ).loc main_arg3) : FVec Ideal S4096x8 .bf16) (ix2 d e)
  rb e := (m ((c : Thread nD τ).loc main_arg4) : FVec Ideal S8 .f32) (ix1 e)
  ix s r := ⟨((m ((c : Thread nD τ).loc main_arg5) : IVec S1x128x2 32) (ix3 0 s r)).toNat % 8, Nat.mod_lt _ (by omega)⟩
  la e d q := (m ((c : Thread nD τ).loc main_arg6) : FVec Ideal S8x4096x16 .bf16) (ix3 e d q)
  lb e q n := (m ((c : Thread nD τ).loc main_arg7) : FVec Ideal S8x16x14336 .bf16) (ix3 e q n)

/-- The chosen experts are among the eight. -/
def Chosen (c : Dev nD) : Prop :=
  ∀ (s : Fin 128) (r : Fin 2), (m ((c : Thread nD τ).loc main_arg5) : IVec S1x128x2 32) (ix3 0 s r) = BitVec.ofNat 32 ((args m c).ix s r).val

variable (c : Dev nD)

theorem x_apply (t : Fin cfg0.N) (s : Fin 128) (d : Fin 4096) : (iblk m c 1 t : FVec Ideal S128x4096 .bf16) (ix2 s d) = (args m c).x s d := by
  rw [iblk_1, V_v7]
  exact v7_apply _ s d
theorem r_apply (t : Fin cfg0.N) (e : Fin 8) (d : Fin 4096) : (iblk m c 2 t : FVec Ideal S8x4096 .bf16) (ix2 e d) = (args m c).rw' d e := by
  rw [iblk_2, V_v2]
  exact v2_apply _ e d
theorem b_apply (t : Fin cfg0.N) (e : Fin 8) : (iblk m c 3 t : FVec Ideal S8x1 .f32) (ix2 e 0) = (args m c).rb e := by
  rw [iblk_3, V_v5]
  exact v5_apply _ e
theorem i_apply (h : Chosen m c) (t : Fin cfg0.N) (r : Fin 2) (s : Fin 128) : (iblk m c 4 t : IVec S2x128 32) (ix2 r s) = BitVec.ofNat 32 ((args m c).ix s r).val := by
  rw [iblk_4, V_v4]
  exact (v4_apply _ r s).trans (h s r)
theorem la_apply (t : Fin cfg0.N) (j : Fin 128) (d : Fin 4096) :
    (iblk m c 5 t : FVec Ideal S128x4096 .bf16) (ix2 j d) = (args m c).la ⟨j.val / 16, by omega⟩ d ⟨j.val % 16, by omega⟩ := by
  rw [iblk_5, V_v1]
  exact v1_apply _ j d
theorem w_apply (t : Fin cfg0.N) (d : Fin 4096) (n : Fin 1024) : (iblk m c 6 t : FVec Ideal S4096x1024 .fp8e4m3) (ix2 d n)
    = (args m c).w d ⟨1024 * (grid0.coords t 0).val + n.val, by have := i_lt (grid0.coords t); omega⟩ := by
  rw [iblk_6, V_main_arg1]
  rfl
theorem lb_apply (t : Fin cfg0.N) (j : Fin 128) (n : Fin 1024) : (iblk m c 7 t : FVec Ideal S128x1024 .bf16) (ix2 j n)
    = (args m c).lb ⟨j.val / 16, by omega⟩ ⟨j.val % 16, by omega⟩ ⟨1024 * (grid0.coords t 0).val + n.val, by have := i_lt (grid0.coords t); omega⟩ := by
  rw [iblk_7, V_v6]
  exact v6_apply _ j _
theorem ws_apply (t : Fin cfg0.N) (k : Fin 32) (n : Fin 112) : (iblk m c 0 t : FVec Ideal S32x112 .f32) (ix2 k n) = (args m c).ws k n := by
  rw [iblk_0, V_main_arg2]
  rfl

/-- The router's probabilities. -/
theorem PR_apply (e : Fin 8) (s : Fin 128) : PR m c (ix2 e s) = (args m c).prob s e :=
  probsV_apply (args m c) _ _ _ (x_apply m c _) (r_apply m c _) (b_apply m c _) e s

theorem G9_apply (h : Chosen m c) (r : Fin 2) (s : Fin 128) : (G9 m c : FVec Ideal S2x128 .f32) (ix2 r s) = (args m c).gate s r :=
  gatesC_apply (args m c) _ _ (PR_apply m c) (i_apply m c h _) r s

theorem HB_apply (h : Chosen m c) (s j : Fin 128) : (HB m c : FVec Ideal S128x128 .bf16) (ix2 s j) = (args m c).hb s ⟨j.val / 16, by omega⟩ ⟨j.val % 16, by omega⟩ :=
  hbV_apply (args m c) _ _ (PR_apply m c) (i_apply m c h _) _ _ (x_apply m c _) (la_apply m c _) s j

/-- Block `k` of the tokens. -/
theorem blk_apply (X : Vec Ideal S128x4096 .bf16) (k : ℕ) (r l : Fin 128) :
    View.ld (Val := Elt Ideal) (e' := .bf16) X (rectC k) (ix2 r l) = X (ix2 r ⟨128 * (k % 32) + l.val, by omega⟩) := by
  pointwise

section Tokens
variable (hb : (args m c).Bounded) (X : Vec Ideal S128x4096 .bf16) (hX : ∀ s d, X (ix2 s d) = (args m c).x s d)
include hb hX

theorem blk_le (k : ℕ) (r l : Fin 128) : max (View.ld (Val := Elt Ideal) (e' := .bf16) X (rectC k) (ix2 r l)) (-(View.ld (Val := Elt Ideal) (e' := .bf16) X (rectC k) (ix2 r l)))
    ≤ Ideal.ofBits .f32 0x7F7F0000#32 := by
  rw [blk_apply, hX]
  exact hb _ _

omit hb in
theorem blk_ex (k : ℕ) (hk : k < 32) (r : Fin 128) : expo (amaxV fun l : Fin 128 => View.ld (Val := Elt Ideal) (e' := .bf16) X (rectC k) (ix2 r l)) = (args m c).ex r ⟨k, hk⟩ := by
  refine congrArg (fun f => expo (amaxV f)) (funext fun l => ?_)
  rw [blk_apply, hX]
  exact congrArg ((args m c).x r) (Fin.ext (by show 128 * (k % 32) + l.val = 128 * k + l.val; omega))

theorem codesC_apply (s : Fin 128) (d : Fin 4096) : codesC X (ix2 s d) = (args m c).code s d := by
  show codesB (View.ld X (rectC (d.val / 128))) (ix2 s ⟨d.val % 128, _⟩) = _
  rw [codesB_apply _ (blk_le m c hb X hX _), blk_ex m c X hX _ (by omega), blk_apply, hX]
  have e : (⟨128 * (d.val / 128 % 32) + d.val % 128, by omega⟩ : Fin 4096) = d := Fin.ext (by show 128 * (d.val / 128 % 32) + d.val % 128 = d.val; omega)
  simp only [e]
  rfl

theorem xwC_apply (k : Fin 16) (s : Fin 128) (l : Fin 256) : xwC X (ix3 k s l) = (args m c).xq s ⟨256 * k.val + l.val, by omega⟩ := by
  show xwB (View.ld X (rectC (2 * k.val + l.val / 128))) (ix3 0 s ⟨l.val % 128, _⟩) = _
  rw [xwB_apply _ (blk_le m c hb X hX _), blk_ex m c X hX _ (by omega), blk_apply, hX]
  have e : (⟨128 * ((2 * k.val + l.val / 128) % 32) + l.val % 128, by omega⟩ : Fin 4096) = ⟨256 * k.val + l.val, by omega⟩ :=
    Fin.ext (by show 128 * ((2 * k.val + l.val / 128) % 32) + l.val % 128 = 256 * k.val + l.val; omega)
  have e' : (⟨2 * k.val + l.val / 128, by omega⟩ : Fin 32) = ⟨(256 * k.val + l.val) / 128, by omega⟩ :=
    Fin.ext (by show 2 * k.val + l.val / 128 = (256 * k.val + l.val) / 128; omega)
  simp only [e, e']
  rfl

theorem xsV_apply (b : Fin 32) (s : Fin 128) : xsV X (ix2 b s) = (args m c).scale s b := by
  have h : xsV X (ix2 b s) = selF (fun k => View.ld (Val := Elt Ideal) (e' := .bf16) X (rectC k)) 32 (ix2 s b) := by
    unfold xsV
    pointwise
  rw [h, selF_apply _ s b 32 b.isLt le_rfl, scale_apply _ (blk_le m c hb X hX _), blk_ex m c X hX _ b.isLt]
  rfl

end Tokens

theorem G10_apply (hb : (args m c).Bounded) (s : Fin 128) (d : Fin 4096) : (G10 m c : FVec Ideal S128x4096 .fp8e4m3) (ix2 s d) = (args m c).code s d :=
  codesC_apply m c hb _ (x_apply m c _) s d

theorem G11_apply (hb : (args m c).Bounded) (b : Fin 32) (s : Fin 128) : (G11 m c : FVec Ideal S32x128 .f32) (ix2 b s) = (args m c).scale s b :=
  xsV_apply m c hb _ (x_apply m c _) b s

theorem G8_apply (h : Chosen m c) (hb : (args m c).Bounded) (s : Fin 128) (n : Fin 14336) : (G8 m c : FVec Ideal S128x14336 .bf16) (ix2 s n) = (args m c).out s n := by
  have ht : n.val / 1024 < cfg0.N := lt_of_lt_of_eq (by omega) (show 14 = cfg0.N from N_0.symm)
  show OUT m c ⟨n.val / 1024, ht⟩ (ix2 s ⟨n.val % 1024, _⟩) = _
  have hc : ∀ t : Fin cfg0.N, (grid0.coords t 0).val = t.val := (by decide +kernel : ∀ t : Fin grid0.N, _)
  refine (outC_apply (args m c) _ _ _ _ _ (grid0.coords ⟨n.val / 1024, ht⟩) (ws_apply m c _) (w_apply m c _) (lb_apply m c _)
    (xwC_apply m c hb _ (x_apply m c _)) (HB_apply m c h) s ⟨n.val % 1024, by omega⟩).trans (congrArg _ (Fin.ext ?_))
  show 1024 * (grid0.coords ⟨n.val / 1024, ht⟩ 0).val + n.val % 1024 = n.val
  rw [hc]
  show 1024 * (n.val / 1024) + n.val % 1024 = n.val
  omega

end Cert.KernelIdeal.Hand

end
-- ==== Proof.RefHost.lean ====
module

public import Idealize.ShloMosaic.Lib.Pointwise
public import Idealize.ShloMosaic.Lib.StableHlo.Run
public import proofs.«01_k».proof.Proof.Gen.ReferenceIdeal.Frame

/-! # What the reference computes before its kernel region

The router, the gates and the low-rank part, stretch by stretch: each stretch of host operations as a function of the arrays
it reads. -/

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen

variable {F : FTy → Type} [FloatOps F]

/-- The router's logits, -/
def refL (x : FVec F S1x128x4096 .bf16) (W : FVec F S4096x8 .bf16) (b : FVec F S8 .f32) : FVec F S1x128x8 .f32 :=
  addf (Host.dotGeneral dot_S1x128x4096_S4096x8_S1x128x8_2_0_01_1_n_n none x W)
    (broadcastInDim S1x128x8 ![0, 1, 2] bcast_S1x1x8_S1x128x8_0_1_2 (broadcastInDim S1x1x8 ![2] bcast_S8_S1x1x8_2 b))
/-- their exponentials under the greatest, -/
def refE (L : FVec F S1x128x8 .f32) : FVec F S1x128x8 .f32 :=
  Host.exp (subf L (broadcastInDim S1x128x8 ![0, 1, 2] bcast_S1x128x1_S1x128x8_0_1_2 (broadcastInDim S1x128x1 ![0, 1] bcast_S1x128_S1x128x1_0_1
    (maximumf (broadcastInDim S1x128 ![] bcast_S_S1x128 (constant S_ .f32 0xFF800000#32))
      (Host.reduce FloatOps.maximumf L (constant S_ .f32 0xFF800000#32) reducesTo_S1x128x8_S1x128_d2 h_S_)))))
/-- and these over their sum. -/
def refP (E : FVec F S1x128x8 .f32) : FVec F S1x128x8 .f32 :=
  Host.divf E (broadcastInDim S1x128x8 ![0, 1, 2] bcast_S1x128x1_S1x128x8_0_1_2 (broadcastInDim S1x128x1 ![0, 1] bcast_S1x128_S1x128x1_0_1
    (Host.reduceAdd E (constant S_ .f32 0x00000000#32) reducesTo_S1x128x8_S1x128_d2 h_S_)))
/-- The chosen experts as start indices, -/
def refI (I : IVec S1x128x2 32) : IVec S128x2x1 32 :=
  shapeCast S128x2x1 (select (cmpi .slt I (broadcastInDim S1x128x2 ![] bcast_S_S1x128x2 (constantI S_ 32 0#32)))
    (addi I (broadcastInDim S1x128x2 ![] bcast_S_S1x128x2 (constantI S_ 32 8#32))) I) shapeCasts_S1x128x2_S128x2x1
/-- which of them are in range, -/
def refOk (J : IVec S128x2x1 32) : IVec S128x2 1 :=
  Host.reduce IntOp.andi (andi (cmpi .sge J (broadcastInDim S128x2x1 ![] bcast_S_S128x2x1 (constantI S_ 32 0#32)))
    (cmpi .sle J (broadcastInDim S128x2x1 ![0, 1, 2] bcast_S1x1x1_S128x2x1_0_1_2 (broadcastInDim S1x1x1 ![2] bcast_S1_S1x1x1_2 (constantI S1 32 7#32)))))
    (constantI S_ 1 1#1) reducesTo_S128x2x1_S128x2_d2 h_S_
/-- and their probabilities. -/
def refT (P : FVec F S1x128x8 .f32) (I : IVec S1x128x2 32) : FVec F S1x128x2 .f32 :=
  select (broadcastInDim S1x128x2 ![1, 2] bcast_S128x2_S1x128x2_1_2 (refOk (refI I)))
    (Host.gather gather_S1x128x8_S128x2x1_S1x128x2_0_2_1_0_2_2_111 P (refI I))
    (broadcastInDim S1x128x2 ![] bcast_S_S1x128x2 (constant S_ .f32 0x7FC00000#32))
/-- The gates. -/
def refGt (T : FVec F S1x128x2 .f32) : FVec F S1x128x2 .f32 :=
  Host.divf T (broadcastInDim S1x128x2 ![0, 1, 2] bcast_S1x128x1_S1x128x2_0_1_2 (broadcastInDim S1x128x1 ![0, 1] bcast_S1x128_S1x128x1_0_1
    (Host.reduceAdd T (constant S_ .f32 0x00000000#32) reducesTo_S1x128x2_S1x128_d2 h_S_)))
/-- The chosen experts, one-hot. -/
def refH (I : IVec S1x128x2 32) : FVec F S1x128x2x8 .f32 :=
  uitofp .f32 (cmpi .eq (broadcastInDim S1x128x2x8 ![0, 1, 2, 3] bcast_S1x128x2x1_S1x128x2x8_0_1_2_3 (broadcastInDim S1x128x2x1 ![0, 1, 2] bcast_S1x128x2_S1x128x2x1_0_1_2 I))
    (broadcastInDim S1x128x2x8 ![0, 1, 2, 3] bcast_S1x1x1x8_S1x128x2x8_0_1_2_3 (iotaInDim S1x1x1x8 32 3)))
/-- The gates, one per expert. -/
def refD (H : FVec F S1x128x2x8 .f32) (G : FVec F S1x128x2 .f32) : FVec F S1x128x8 .f32 :=
  Host.reduceAdd (mulf H (broadcastInDim S1x128x2x8 ![0, 1, 2, 3] bcast_S1x128x2x1_S1x128x2x8_0_1_2_3 (broadcastInDim S1x128x2x1 ![0, 1, 2] bcast_S1x128x2_S1x128x2x1_0_1_2 G)))
    (constant S_ .f32 0x00000000#32) reducesTo_S1x128x2x8_S1x128x8_d2 h_S_
/-- The gated low-rank activations. -/
def refHb (D : FVec F S1x128x8 .f32) (x : FVec F S1x128x4096 .bf16) (A : FVec F S8x4096x16 .bf16) : FVec F S1x128x8x16 .bf16 :=
  truncf .bf16 (mulf (Host.dotGeneral dot_S1x128x4096_S8x4096x16_S1x128x8x16_2_1_01_02_n_n none x A)
    (broadcastInDim S1x128x8x16 ![0, 1, 2, 3] bcast_S1x128x8x1_S1x128x8x16_0_1_2_3 (broadcastInDim S1x128x8x1 ![0, 1, 2] bcast_S1x128x8_S1x128x8x1_0_1_2
      (mulf D (broadcastInDim S1x128x8 ![] bcast_S_S1x128x8 (constant S_ .f32 0x40000000#32)))))) bitsLt_bf16_f32
/-- The low-rank part of the output. -/
def refLo (h : FVec F S1x128x8x16 .bf16) (B : FVec F S8x16x14336 .bf16) : FVec F S1x128x14336 .f32 :=
  Host.dotGeneral dot_S1x128x8x16_S8x16x14336_S1x128x14336_23_01_01_2_n_n none h B
/-- The gates as they are returned. -/
def refGo (G : FVec F S1x128x2 .f32) : FVec F S2x128 .f32 :=
  transpose S2x128 [1, 0] (shapeCast S128x2 G shapeCasts_S1x128x2_S128x2) transposes_S128x2_S2x128_1_0

/-- One line of operations after another. -/
theorem after_app (l₁ l₂ : List (HloOp τ sig (Elt F))) (V : Valuation τ sig (Elt F)) :
    StableHlo.after (l₁ ++ l₂) V = StableHlo.after l₂ (StableHlo.after l₁ V) := by
  induction l₁ generalizing V with
  | nil => rfl
  | cons o l ih => exact ih _

section Stretches
variable (V : Valuation τ sig (Elt F))

theorem s0_v14 : StableHlo.after (hostOps0 (F := F)) V (main_v14 : DevRef τ sig)
    = refP (refE (refL (V (main_arg0 : DevRef τ sig)) (V (main_arg3 : DevRef τ sig)) (V (main_arg4 : DevRef τ sig)))) := by
  after_results
  rfl
theorem s0_arg (b : DevRef τ sig) (h : b = main_arg0 ∨ b = main_arg5 ∨ b = main_arg6 ∨ b = main_arg7) :
    StableHlo.after (hostOps0 (F := F)) V b = V b := by
  rcases h with rfl | rfl | rfl | rfl <;> after_results
theorem s1_v15 : StableHlo.after (hostOps0_1 (F := F)) V (main_v15 : DevRef τ sig) = refT (V (main_v14 : DevRef τ sig)) (V (main_arg5 : DevRef τ sig)) := by
  after_results
  rfl
theorem s1_arg (b : DevRef τ sig) (h : b = main_arg0 ∨ b = main_arg5 ∨ b = main_arg6 ∨ b = main_arg7) :
    StableHlo.after (hostOps0_1 (F := F)) V b = V b := by
  rcases h with rfl | rfl | rfl | rfl <;> after_results
theorem s2_v19 : StableHlo.after (hostOps0_2 (F := F)) V (main_v19 : DevRef τ sig) = refGt (V (main_v15 : DevRef τ sig)) := by
  after_results
  rfl
theorem s2_arg (b : DevRef τ sig) (h : b = main_arg0 ∨ b = main_arg5 ∨ b = main_arg6 ∨ b = main_arg7) :
    StableHlo.after (hostOps0_2 (F := F)) V b = V b := by
  rcases h with rfl | rfl | rfl | rfl <;> after_results
theorem s3_v20 : StableHlo.after (hostOps0_3 (F := F)) V (main_v20 : DevRef τ sig) = refH (V (main_arg5 : DevRef τ sig)) := by
  after_results
  rfl
theorem s3_arg (b : DevRef τ sig) (h : b = main_arg0 ∨ b = main_v19 ∨ b = main_arg6 ∨ b = main_arg7) :
    StableHlo.after (hostOps0_3 (F := F)) V b = V b := by
  rcases h with rfl | rfl | rfl | rfl <;> after_results
theorem s4_v32 : StableHlo.after (hostOps0_4 (F := F)) V (main_v32 : DevRef τ sig)
    = refLo (refHb (refD (V (main_v20 : DevRef τ sig)) (V (main_v19 : DevRef τ sig))) (V (main_arg0 : DevRef τ sig)) (V (main_arg6 : DevRef τ sig))) (V (main_arg7 : DevRef τ sig)) := by
  after_results
  rfl
theorem s4_v34 : StableHlo.after (hostOps0_4 (F := F)) V (main_v34 : DevRef τ sig) = refGo (V (main_v19 : DevRef τ sig)) := by
  after_results
  rfl

end Stretches

variable (m : (ℓ : Loc nD τ sig) → Buf (Elt F) ℓ)

/-- The gates from the argument arrays. -/
def refGates (c : Dev nD) : FVec F S1x128x2 .f32 :=
  refGt (refT (refP (refE (refL (m ((c : Thread nD τ).loc main_arg0)) (m ((c : Thread nD τ).loc main_arg3)) (m ((c : Thread nD τ).loc main_arg4)))))
    (m ((c : Thread nD τ).loc main_arg5)))

theorem V_split (c : Dev nD) (b : Ref sig .tc) : V m c b
    = StableHlo.after hostOps0_4 (StableHlo.after hostOps0_3 (StableHlo.after hostOps0_2 (StableHlo.after hostOps0_1
        (StableHlo.after hostOps0 fun b => m (c, b))))) (b : DevRef τ sig) := by
  show StableHlo.after (hostOps0 ++ (hostOps0_1 ++ (hostOps0_2 ++ (hostOps0_3 ++ (hostOps0_4 ++ []))))) (fun b => m (c, b)) (b : DevRef τ sig) = _
  rw [after_app, after_app, after_app, after_app, List.append_nil]

theorem V_v34 (c : Dev nD) : V m c main_v34 = refGo (refGates m c) := by
  rw [V_split, s4_v34, s3_arg _ _ (by simp), s2_v19, s1_v15, s0_v14, s0_arg _ _ (by simp)]
  rfl

theorem V_v32 (c : Dev nD) : V m c main_v32 = refLo (refHb (refD (refH (m ((c : Thread nD τ).loc main_arg5))) (refGates m c))
    (m ((c : Thread nD τ).loc main_arg0)) (m ((c : Thread nD τ).loc main_arg6))) (m ((c : Thread nD τ).loc main_arg7)) := by
  rw [V_split, s4_v32, s3_v20, s3_arg _ main_arg0 (by simp), s3_arg _ main_arg6 (by simp), s3_arg _ main_arg7 (by simp), s3_arg _ main_v19 (by simp),
    s2_v19, s2_arg _ main_arg0 (by simp), s2_arg _ main_arg5 (by simp), s2_arg _ main_arg6 (by simp), s2_arg _ main_arg7 (by simp),
    s1_v15, s1_arg _ main_arg0 (by simp), s1_arg _ main_arg5 (by simp), s1_arg _ main_arg6 (by simp), s1_arg _ main_arg7 (by simp),
    s0_v14, s0_arg _ main_arg0 (by simp), s0_arg _ main_arg5 (by simp), s0_arg _ main_arg6 (by simp), s0_arg _ main_arg7 (by simp)]
  rfl

end Cert.ReferenceIdeal.Hand

end
-- ==== Proof.RefVal.lean ====
module

public import Idealize.ShloMosaic.Lib.Pointwise
public import Idealize.ShloMosaic.Lib.ReduceAll
public import proofs.«01_k».proof.Proof.Model
public import proofs.«01_k».proof.Proof.RefHost

/-! # The reference, entry by entry

Each array the reference computes, read at an index over the extended reals. -/

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.Quant

theorem exp2_at {s : Shape} {φ : FTy} (x : FVec Ideal s φ) (i : s.Idx) : exp2 x i = Ideal.exp2 (x i) := rfl
theorem log_at {s : Shape} {φ : FTy} (x : FVec Ideal s φ) (i : s.Idx) : log x i = Ideal.log (x i) := rfl
theorem floor_at {s : Shape} {φ : FTy} (x : FVec Ideal s φ) (i : s.Idx) : floor x i = Ideal.liftRound Int.floor (x i) := rfl

/-- The tokens, block by block. -/
theorem pay2_apply (v : Vec Ideal S1x128x4096 .bf16) (s : Fin 128) (b : Fin 32) (l : Fin 128) :
    k0_pay2 v (ix3 s b l) = v (ix3 0 s ⟨128 * b.val + l.val, by omega⟩) := by
  have e : k0_pay2 v (ix3 s b l) = v (ix3 0 s ⟨b.val * 128 + l.val, by omega⟩) := by
    unfold k0_pay2
    show shapeCast S128x32x128 v shapeCasts_S1x128x4096_S128x32x128 (ix3 s b l) = _
    pointwise
  rw [e]
  refine congrArg v ?_
  simp only [mul_comm]

/-- The exponent from the magnitude. -/
theorem expo_apply (Q : FVec Ideal S128x32 .f32) (s : Fin 128) (b : Fin 32) :
    select (cmpf .olt Q (broadcast S128x32 (Scalar.ofBits .f32 0x00800000#32))) (broadcast S128x32 (Scalar.ofBits .f32 0x00000000#32))
      (addf (floor (divf (log Q) (log (broadcast S128x32 (Scalar.ofBits .f32 0x40000000#32))))) (broadcast S128x32 (Scalar.ofBits .f32 0x3F800000#32))) (ix2 s b)
      = expo (Q (ix2 s b)) := by
  pointwise [log_at, floor_at]
  rfl

/-- The maximum along a block. -/
theorem max_apply (X : FVec Ideal S128x32x128 .f32) (s : Fin 128) (b : Fin 32) :
    multiReduction (F := Ideal) .maximumf [2] S128x32 X 0xFF800000#32 reduces_S128x32x128_S128x32 (.inl rfl) rfl (ix2 s b)
      = Finset.univ.fold max (Ideal.ofBits .f32 4286578688#32) (fun l : Fin 128 => X (ix3 s b l)) := by
  pointwise
theorem mul_at {s : Shape} {φ : FTy} (x : FVec Ideal s φ) (k : Ideal φ) (i : s.Idx) : mulf x (broadcast s k) i = x i * k := rfl

/-- The magnitude of a block, over 448. -/
theorem amax_apply (X : FVec Ideal S128x32x128 .f32) (s : Fin 128) (b : Fin 32) :
    mulf (multiReduction (F := Ideal) .maximumf [2] S128x32 (absf X) 0xFF800000#32 reduces_S128x32x128_S128x32 (.inl rfl) rfl)
      (broadcast S128x32 (Scalar.ofBits .f32 0x3B124925#32)) (ix2 s b) = amaxV fun l : Fin 128 => X (ix3 s b l) := by
  rw [mul_at, max_apply]
  rfl

/-- The exponent of a block. -/
theorem pay3_apply (v : Vec Ideal S1x128x4096 .bf16) (s : Fin 128) (b : Fin 32) :
    k0_pay3 v (ix2 s b) = expo (amaxV fun l : Fin 128 => v (ix3 0 s ⟨128 * b.val + l.val, by omega⟩)) := by
  have e : (fun l : Fin 128 => v (ix3 0 s ⟨128 * b.val + l.val, by omega⟩)) = fun l => k0_pay2 v (ix3 s b l) :=
    funext fun l => (pay2_apply v s b l).symm
  rw [e]
  unfold k0_pay3
  generalize k0_pay2 v = X
  exact (expo_apply _ s b).trans (congrArg expo (amax_apply X s b))

end Cert.ReferenceIdeal.Hand

end
-- ==== Proof.RefPay.lean ====
module

public import proofs.«01_k».proof.Proof.RefVal

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.Quant

/-- The codes of a block, -/
theorem pay5_apply (v : Vec Ideal S1x128x4096 .bf16) (s : Fin 128) (b : Fin 32) (l : Fin 128) :
    k0_pay5 v (ix3 s b l) = codeV (expo (amaxV fun l : Fin 128 => v (ix3 0 s ⟨128 * b.val + l.val, by omega⟩))) (v (ix3 0 s ⟨128 * b.val + l.val, by omega⟩)) := by
  rw [← pay3_apply v s b, ← pay2_apply v s b l]
  unfold k0_pay5 codeV
  generalize k0_pay3 v = R
  generalize k0_pay2 v = X
  obtain ⟨E, hE, e⟩ : ∃ E : FVec Ideal S128x32 .f32, exp2 (F := Ideal) (subf (broadcast S128x32 (FloatOps.ofBits FTy.f32 0x00000000#32)) R) = E
      ∧ E (ix2 s b) = Ideal.exp2 (0 - R (ix2 s b)) := ⟨_, rfl, by
    show Ideal.exp2 (Ideal.ofBits .f32 0x00000000#32 - R (ix2 s b)) = _
    rw [Ideal.ofBits_zero_f32]⟩
  rw [hE, ← e]
  pointwise
/-- its scale, -/
theorem pay4_apply (v : Vec Ideal S1x128x4096 .bf16) (s : Fin 128) (b : Fin 32) :
    k0_pay4 v (ix2 s b) = Ideal.exp2 (expo (amaxV fun l : Fin 128 => v (ix3 0 s ⟨128 * b.val + l.val, by omega⟩))) := by
  rw [← pay3_apply]
  unfold k0_pay4
  generalize k0_pay3 v = R
  rfl
theorem pay7_apply (v : Vec Ideal S1x128x4096 .bf16) (b : Fin 32) (s : Fin 128) : k0_pay7 v (ix2 b s) = k0_pay4 v (ix2 s b) := by
  pointwise [k0_pay7]
theorem pay8_apply (v : Vec Ideal S1x128x4096 .bf16) (s : Fin 128) (b : Fin 32) (l : Fin 128) :
    k0_pay8 v (ix3 s b l) = k0_pay5 v (ix3 s b l) * k0_pay4 v (ix2 s b) := by
  pointwise [k0_pay8]
theorem pay6_apply (v : Vec Ideal S1x128x4096 .bf16) (s : Fin 128) (d : Fin 4096) :
    k0_pay6 v (ix2 s d) = k0_pay5 v (ix3 s ⟨d.val / 128, by omega⟩ ⟨d.val % 128, by omega⟩) := by
  pointwise [k0_pay6]
theorem pay1_apply (v38 : FVec Ideal S128x32x128 .f32) (v39 : FVec Ideal S32x112 .f32) (v45 : FVec Ideal S4096x14336 .fp8e4m3) (v54 : FVec Ideal S1x128x14336 .f32) (s : Fin 128) (n : Fin 14336) :
    k0_pay1 (F := Ideal) v38 v39 v45 v54 (ix2 s n) = ∑ x : Fin 4096, v38 (ix3 s ⟨x.val / 128, by omega⟩ ⟨x.val % 128, by omega⟩)
      * (v45 (ix2 x n) * v39 (ix2 ⟨x.val / 128, by omega⟩ ⟨n.val / 128, by omega⟩)) + v54 (ix3 0 s n) := by
  pointwise [k0_pay1]

end Cert.ReferenceIdeal.Hand

end
-- ==== Proof.RefRoute.lean ====
module

public import Idealize.ShloMosaic.Lib.Pointwise
public import Idealize.ShloMosaic.Lib.ReduceAll
public import proofs.«01_k».proof.Proof.Model
public import proofs.«01_k».proof.Proof.RefHost

/-! # The reference's router, gates and low-rank part, entry by entry -/

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.Quant

variable (a : Args) (x : FVec Ideal S1x128x4096 .bf16) (W : FVec Ideal S4096x8 .bf16) (b : FVec Ideal S8 .f32) (I : IVec S1x128x2 32)
  (A : FVec Ideal S8x4096x16 .bf16) (B : FVec Ideal S8x16x14336 .bf16)

theorem refL_apply (hx : ∀ s d, x (ix3 0 s d) = a.x s d) (hW : ∀ d e, W (ix2 d e) = a.rw' d e) (hb : ∀ e, b (ix1 e) = a.rb e)
    (s : Fin 128) (e : Fin 8) : refL x W b (ix3 0 s e) = a.logit s e := by
  have h : refL x W b (ix3 0 s e) = ∑ d : Fin 4096, x (ix3 0 s d) * W (ix2 d e) + b (ix1 e) := by
    pointwise [refL]
  rw [h]
  unfold Args.logit
  simp only [hx, hW, hb]

theorem refE_apply (L : FVec Ideal S1x128x8 .f32) (hL : ∀ s e, L (ix3 0 s e) = a.logit s e) (s : Fin 128) (e : Fin 8) :
    refE L (ix3 0 s e) = a.ep s e := by
  have h : refE L (ix3 0 s e) = Ideal.exp (L (ix3 0 s e) - max (Ideal.ofBits .f32 4286578688#32) (Finset.univ.fold max (Ideal.ofBits .f32 4286578688#32) (fun k : Fin 8 => L (ix3 0 s k)))) := by
    pointwise [refE]
  rw [h]
  unfold Args.ep
  simp only [hL]
  rw [neg_inf, max_eq_right bot_le]

theorem refP_apply (L : FVec Ideal S1x128x8 .f32) (hL : ∀ s e, L (ix3 0 s e) = a.ep s e) (s : Fin 128) (e : Fin 8) :
    refP L (ix3 0 s e) = a.prob s e := by
  have h : refP L (ix3 0 s e) = Ideal.div (L (ix3 0 s e)) (∑ k : Fin 8, L (ix3 0 s k)) := by
    pointwise [refP]
  rw [h]
  unfold Args.prob
  simp only [hL]

theorem refI_apply (hI : ∀ s r, I (ix3 0 s r) = BitVec.ofNat 32 (a.ix s r).val) (s : Fin 128) (r : Fin 2) :
    refI I (ix3 s r 0) = BitVec.ofNat 32 (a.ix s r).val := by
  have h : refI I (ix3 s r 0) = Scalar.select (IntOp.cmpi .slt (I (ix3 0 s r)) 0#32) (IntOp.addi (I (ix3 0 s r)) 8#32) (I (ix3 0 s r)) := by
    pointwise [refI]
  rw [h, hI]
  generalize a.ix s r = e
  revert e
  decide

theorem refOk_apply (J : IVec S128x2x1 32) (hJ : ∀ s r, J (ix3 s r 0) = BitVec.ofNat 32 (a.ix s r).val) (s : Fin 128) (r : Fin 2) :
    refOk J (ix2 s r) = 1#1 := by
  pointwise [refOk]
  have h : ∀ k : Fin 1, IntOp.andi (IntOp.cmpi CmpIPredicate.sge (J (ix3 s r k)) 0#32) (IntOp.cmpi CmpIPredicate.sle (J (ix3 s r k)) 7#32) = 1#1 := fun k => by
    rw [Subsingleton.elim k 0, hJ]
    generalize a.ix s r = e
    revert e
    decide
  simp only [h]
  decide

/-- The gather reads the chosen expert's probability. -/
theorem gather_apply (P : FVec Ideal S1x128x8 .f32) (J : IVec S128x2x1 32) (hJ : ∀ s r, J (ix3 s r 0) = BitVec.ofNat 32 (a.ix s r).val) (s : Fin 128) (r : Fin 2) :
    Host.gather gather_S1x128x8_S128x2x1_S1x128x2_0_2_1_0_2_2_111 P J (ix3 0 s r) = P (ix3 0 s (a.ix s r)) := by
  unfold Host.gather
  refine congrArg P ?_
  generalize hg : gather_S1x128x8_S128x2x1_S1x128x2_0_2_1_0_2_2_111 = g
  funext x
  apply Fin.ext
  match x with
  | ⟨0, h⟩ =>
    have h1 : ∀ k l : Fin 1, k.val = l.val := fun k l => by omega
    exact h1 _ _
  | ⟨1, h⟩ =>
    subst hg
    show GatherDims.start gather_S1x128x8_S128x2x1_S1x128x2_0_2_1_0_2_2_111 (ix3 0 s r) J (1 : Fin 3) + GatherDims.batchCoord gather_S1x128x8_S128x2x1_S1x128x2_0_2_1_0_2_2_111 (ix3 0 s r) (1 : Fin 3) + GatherDims.offCoord gather_S1x128x8_S128x2x1_S1x128x2_0_2_1_0_2_2_111 (ix3 0 s r) (1 : Fin 3) = s.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (1 : Fin 3) ∈ gather_S1x128x8_S128x2x1_S1x128x2_0_2_1_0_2_2_111.operandBatchingDims from List.mem_singleton.mpr rfl)]
    rfl
  | ⟨2, h⟩ =>
    subst hg
    show GatherDims.start gather_S1x128x8_S128x2x1_S1x128x2_0_2_1_0_2_2_111 (ix3 0 s r) J (2 : Fin 3) + GatherDims.batchCoord gather_S1x128x8_S128x2x1_S1x128x2_0_2_1_0_2_2_111 (ix3 0 s r) (2 : Fin 3) + GatherDims.offCoord gather_S1x128x8_S128x2x1_S1x128x2_0_2_1_0_2_2_111 (ix3 0 s r) (2 : Fin 3) = (a.ix s r).val
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ gather_S1x128x8_S128x2x1_S1x128x2_0_2_1_0_2_2_111.startIndexMap from List.mem_singleton.mpr rfl)]
    have hsi : GatherDims.siIdx gather_S1x128x8_S128x2x1_S1x128x2_0_2_1_0_2_2_111 (ix3 0 s r)
        ⟨List.idxOf (2 : Fin 3) gather_S1x128x8_S128x2x1_S1x128x2_0_2_1_0_2_2_111.startIndexMap, List.idxOf_lt_length_iff.2 (List.mem_singleton.mpr rfl)⟩ = ix3 s r 0 := by
      funext b; refine Fin.ext ?_
      match b with
      | ⟨0, _⟩ => rfl
      | ⟨1, _⟩ => rfl
      | ⟨2, _⟩ => rfl
    rw [hsi, hJ]
    show min (BitVec.ofNat 32 (a.ix s r).val).toInt.toNat 7 = _
    generalize a.ix s r = e
    revert e
    decide

theorem refT_apply (P : FVec Ideal S1x128x8 .f32) (hP : ∀ s e, P (ix3 0 s e) = a.prob s e) (hI : ∀ s r, I (ix3 0 s r) = BitVec.ofNat 32 (a.ix s r).val) (s : Fin 128) (r : Fin 2) :
    refT P I (ix3 0 s r) = a.prob s (a.ix s r) := by
  have h : refT P I (ix3 0 s r) = Scalar.select (refOk (refI I) (ix2 s r)) (Host.gather gather_S1x128x8_S128x2x1_S1x128x2_0_2_1_0_2_2_111 P (refI I) (ix3 0 s r)) (Ideal.ofBits .f32 0x7FC00000#32) := by
    unfold refT
    generalize refOk (refI I) = O
    generalize Host.gather gather_S1x128x8_S128x2x1_S1x128x2_0_2_1_0_2_2_111 P (refI I) = G
    pointwise
  rw [h, refOk_apply a (refI I) (refI_apply a I hI), gather_apply a P (refI I) (refI_apply a I hI), hP]
  rfl

theorem refGt_apply (T : FVec Ideal S1x128x2 .f32) (hT : ∀ s r, T (ix3 0 s r) = a.prob s (a.ix s r)) (s : Fin 128) (r : Fin 2) :
    refGt T (ix3 0 s r) = a.gate s r := by
  have h : refGt T (ix3 0 s r) = Ideal.div (T (ix3 0 s r)) (∑ k : Fin 2, T (ix3 0 s k)) := by
    pointwise [refGt]
  rw [h, Fin.sum_univ_two]
  unfold Args.gate
  simp only [hT]

theorem refH_apply (hI : ∀ s r, I (ix3 0 s r) = BitVec.ofNat 32 (a.ix s r).val) (s : Fin 128) (r : Fin 2) (e : Fin 8) :
    refH (F := Ideal) I (ix4 0 s r e) = if a.ix s r = e then 1 else 0 := by
  have h : refH (F := Ideal) I (ix4 0 s r e) = FloatOps.uitofp (F := Ideal) FTy.f32 (IntOp.cmpi CmpIPredicate.eq (I (ix3 0 s r)) (BitVec.ofNat 32 e.val)) := by
    pointwise [refH]
  rw [h, hI]
  have e0 : ∀ i k : Fin 8, IntOp.cmpi CmpIPredicate.eq (BitVec.ofNat 32 i.val) (BitVec.ofNat 32 k.val) = if i = k then 1#1 else 0#1 := by decide
  rw [e0]
  split
  · show ((((1#1 : BitVec 1).toNat : ℝ)) : EReal) = 1
    norm_num
  · show ((((0#1 : BitVec 1).toNat : ℝ)) : EReal) = 0
    norm_num

theorem refD_apply (H : FVec Ideal S1x128x2x8 .f32) (G : FVec Ideal S1x128x2 .f32) (hH : ∀ s r e, H (ix4 0 s r e) = if a.ix s r = e then 1 else 0)
    (hG : ∀ s r, G (ix3 0 s r) = a.gate s r) (s : Fin 128) (e : Fin 8) : refD H G (ix3 0 s e) = a.dense s e := by
  have h : refD H G (ix3 0 s e) = ∑ r : Fin 2, H (ix4 0 s r e) * G (ix3 0 s r) := by
    pointwise [refD]
  rw [h, Fin.sum_univ_two]
  unfold Args.dense
  simp only [hH, hG]
  congr 1 <;> split <;> simp

theorem refHb_apply (D : FVec Ideal S1x128x8 .f32) (hx : ∀ s d, x (ix3 0 s d) = a.x s d) (hA : ∀ e d q, A (ix3 e d q) = a.la e d q)
    (hD : ∀ s e, D (ix3 0 s e) = a.dense s e) (s : Fin 128) (e : Fin 8) (q : Fin 16) : refHb D x A (ix4 0 s e q) = a.hb s e q := by
  have h : refHb D x A (ix4 0 s e q) = (∑ d : Fin 4096, x (ix3 0 s d) * A (ix3 e d q)) * (D (ix3 0 s e) * Ideal.ofBits .f32 1073741824#32) := by
    pointwise [refHb]
  rw [h]
  unfold Args.hb
  simp only [hx, hA, hD]

theorem refLo_apply (h : FVec Ideal S1x128x8x16 .bf16) (hh : ∀ s e q, h (ix4 0 s e q) = a.hb s e q) (hB : ∀ e q n, B (ix3 e q n) = a.lb e q n)
    (s : Fin 128) (n : Fin 14336) : refLo h B (ix3 0 s n) = a.lora s n := by
  have e : refLo h B (ix3 0 s n) = ∑ e : Fin 8, ∑ q : Fin 16, h (ix4 0 s e q) * B (ix3 e q n) := by
    pointwise [refLo]
  rw [e]
  unfold Args.lora
  simp only [hh, hB]

theorem refGo_apply (G : FVec Ideal S1x128x2 .f32) (r : Fin 2) (s : Fin 128) : refGo G (ix2 r s) = G (ix3 0 s r) := by
  pointwise [refGo]

end Cert.ReferenceIdeal.Hand

end
-- ==== Proof.RefRun.lean ====
module

public import Idealize.ShloMosaic.Lib.Pipeline.Value
public import proofs.«01_k».proof.Proof.RefHost

/-! # The reference's arrays after the run -/

@[expose] public section

set_option maxRecDepth 16384

noncomputable section

namespace Cert.ReferenceIdeal.Hand

open Idealize.ShloMosaic Idealize.ShloMosaic.TcCoe Idealize.SL.Sem
open Idealize.ShloMosaic.Pipeline (Dat Cfg Window)
open Cert.ReferenceIdeal Cert.ReferenceIdeal.Gen

variable {F : FTy → Type} [FloatOps F]
variable (m : (l : Loc nD τ sig) → Buf (Elt F) l) (ρ : Dev nD → PrngReg)

/-- The whole of an input array is its one block. -/
theorem iblk0 (c : Dev nD) (t : Fin cfg0.N) : iblk m c 0 t = V m c main_arg0 := by
  funext y
  show V m c main_arg0 (((cfg0.win 0).blk t).view.emb y) = V m c main_arg0 y
  refine congrArg _ ?_
  have e : ∀ t : Fin cfg0.N, win0_0.index t = ![0, 0, 0] := (by decide +kernel : ∀ t : Fin grid0.N, _)
  funext a; apply Fin.ext
  match a with
  | ⟨0, _⟩ => show win0_0.index t 0 * 1 + 1 * (y 0).val = (y 0).val; rw [e t]; simp
  | ⟨1, _⟩ => show win0_0.index t 1 * 128 + 1 * (y 1).val = (y 1).val; rw [e t]; simp
  | ⟨2, _⟩ => show win0_0.index t 2 * 4096 + 1 * (y 2).val = (y 2).val; rw [e t]; simp
theorem iblk1 (c : Dev nD) (t : Fin cfg0.N) : iblk m c 1 t = V m c main_arg1 := by
  funext y
  show V m c main_arg1 (((cfg0.win 1).blk t).view.emb y) = V m c main_arg1 y
  refine congrArg _ ?_
  have e : ∀ t : Fin cfg0.N, win0_1.index t = ![0, 0] := (by decide +kernel : ∀ t : Fin grid0.N, _)
  funext a; apply Fin.ext
  match a with
  | ⟨0, _⟩ => show win0_1.index t 0 * 4096 + 1 * (y 0).val = (y 0).val; rw [e t]; simp
  | ⟨1, _⟩ => show win0_1.index t 1 * 14336 + 1 * (y 1).val = (y 1).val; rw [e t]; simp
theorem iblk2 (c : Dev nD) (t : Fin cfg0.N) : iblk m c 2 t = V m c main_arg2 := by
  funext y
  show V m c main_arg2 (((cfg0.win 2).blk t).view.emb y) = V m c main_arg2 y
  refine congrArg _ ?_
  have e : ∀ t : Fin cfg0.N, win0_2.index t = ![0, 0] := (by decide +kernel : ∀ t : Fin grid0.N, _)
  funext a; apply Fin.ext
  match a with
  | ⟨0, _⟩ => show win0_2.index t 0 * 32 + 1 * (y 0).val = (y 0).val; rw [e t]; simp
  | ⟨1, _⟩ => show win0_2.index t 1 * 112 + 1 * (y 1).val = (y 1).val; rw [e t]; simp
theorem iblk3 (c : Dev nD) (t : Fin cfg0.N) : iblk m c 3 t = V m c main_v32 := by
  funext y
  show V m c main_v32 (((cfg0.win 3).blk t).view.emb y) = V m c main_v32 y
  refine congrArg _ ?_
  have e : ∀ t : Fin cfg0.N, win0_3.index t = ![0, 0, 0] := (by decide +kernel : ∀ t : Fin grid0.N, _)
  funext a; apply Fin.ext
  match a with
  | ⟨0, _⟩ => show win0_3.index t 0 * 1 + 1 * (y 0).val = (y 0).val; rw [e t]; simp
  | ⟨1, _⟩ => show win0_3.index t 1 * 128 + 1 * (y 1).val = (y 1).val; rw [e t]; simp
  | ⟨2, _⟩ => show win0_3.index t 2 * 14336 + 1 * (y 2).val = (y 2).val; rw [e t]; simp

theorem two0 : (![0, 0] : Fin 2 → ℕ) = fun _ => 0 := by decide
theorem three0 : (![0, 0, 0] : Fin 3 → ℕ) = fun _ => 0 := by decide

/-- The output, -/
def R4 (c : Dev nD) : Vec F S128x14336 .bf16 :=
  k0_pay1 (k0_pay8 (V m c main_arg0)) (V m c main_arg2) (V m c main_arg1) (V m c main_v32)
/-- the codes -/
def R5 (c : Dev nD) : Vec F S128x4096 .fp8e4m3 := k0_pay6 (V m c main_arg0)
/-- and the scales. -/
def R6 (c : Dev nD) : Vec F S32x128 .f32 := k0_pay7 (V m c main_arg0)

theorem out4 (c : Dev nD) (t : Fin cfg0.N) : (dats m 0 c).after 4 t = R4 m c := by
  rw [after0_4, out0_4, View.canon_unit_zero two0, View.ld_unit_zero three0, View.ld_unit_zero two0, View.ld_unit_zero two0, View.ld_unit_zero three0,
    iblk0, iblk1, iblk2, iblk3]
  rfl
theorem out5 (c : Dev nD) (t : Fin cfg0.N) : (dats m 0 c).after 5 t = R5 m c := by
  rw [after0_5, out0_5, View.canon_unit_zero two0, View.ld_unit_zero three0, iblk0]
  rfl
theorem out6 (c : Dev nD) (t : Fin cfg0.N) : (dats m 0 c).after 6 t = R6 m c := by
  rw [after0_6, out0_6, View.canon_unit_zero two0, View.ld_unit_zero three0, iblk0]
  rfl

theorem mem_blk4 (t : Fin cfg0.N) (i : S128x14336.Idx) :
    i ∈ ((cfg0.win 4).blk t).view.set ↔ ∀ a : Fin 2, win0_4.index t a * S128x14336.size a ≤ (i a).val ∧ (i a).val < win0_4.index t a * S128x14336.size a + S128x14336.size a := by
  show i ∈ ((View.whole main_v35_0).slice (win0_4.rect t)).set ↔ _
  rw [View.set_slice_whole, Rect.mem_set_unit]
  exact Iff.rfl
theorem final4 (c : Dev nD) : (dats m 0 c).arrAt 4 cfg0.N = R4 m c := by
  have e : ∀ t : Fin cfg0.N, win0_4.index t = ![0, 0] := (by decide +kernel : ∀ t : Fin grid0.N, _)
  have ef : ∀ t : Fin cfg0.N, (cfg0.win 4).flush t = true := (by decide +kernel : ∀ t : Fin grid0.N, _)
  have hi : ∀ (t : Fin cfg0.N) (y : ((cfg0.win 4).xblock (cfg0.grid.coords t)).Idx), ((cfg0.win 4).blk t).view.emb y = (cfg0.win 4).xinj (grid0.coords t) y := fun t y => by
    funext a; apply Fin.ext
    match a with
    | ⟨0, _⟩ => show win0_4.index t 0 * 128 + 1 * (y 0).val = (y 0).val; rw [e t]; simp
    | ⟨1, _⟩ => show win0_4.index t 1 * 14336 + 1 * (y 1).val = (y 1).val; rw [e t]; simp
  refine (dats m 0 c).arrAt_eq_of_cover 4 _ (fun t _ => ?_) (fun i => ⟨⟨0, by decide⟩, ef _, ?_⟩)
  · show (cfg0.win 4).cut (grid0.coords t) ((dats m 0 c).after 4 t) = _
    rw [out4]
    funext y
    exact congrArg (R4 m c) (hi t y).symm
  · refine (mem_blk4 _ i).2 fun a => ?_
    have h0 : (i 0).val < 128 := (i 0).isLt
    have h1 : (i 1).val < 14336 := (i 1).isLt
    match a with
    | ⟨0, _⟩ => show win0_4.index _ 0 * 128 ≤ (i 0).val ∧ (i 0).val < win0_4.index _ 0 * 128 + 128; rw [e]; simpa using h0
    | ⟨1, _⟩ => show win0_4.index _ 1 * 14336 ≤ (i 1).val ∧ (i 1).val < win0_4.index _ 1 * 14336 + 14336; rw [e]; simpa using h1
theorem mem_blk5 (t : Fin cfg0.N) (i : S128x4096.Idx) :
    i ∈ ((cfg0.win 5).blk t).view.set ↔ ∀ a : Fin 2, win0_5.index t a * S128x4096.size a ≤ (i a).val ∧ (i a).val < win0_5.index t a * S128x4096.size a + S128x4096.size a := by
  show i ∈ ((View.whole main_v35_1).slice (win0_5.rect t)).set ↔ _
  rw [View.set_slice_whole, Rect.mem_set_unit]
  exact Iff.rfl
theorem final5 (c : Dev nD) : (dats m 0 c).arrAt 5 cfg0.N = R5 m c := by
  have e : ∀ t : Fin cfg0.N, win0_5.index t = ![0, 0] := (by decide +kernel : ∀ t : Fin grid0.N, _)
  have ef : ∀ t : Fin cfg0.N, (cfg0.win 5).flush t = true := (by decide +kernel : ∀ t : Fin grid0.N, _)
  have hi : ∀ (t : Fin cfg0.N) (y : ((cfg0.win 5).xblock (cfg0.grid.coords t)).Idx), ((cfg0.win 5).blk t).view.emb y = (cfg0.win 5).xinj (grid0.coords t) y := fun t y => by
    funext a; apply Fin.ext
    match a with
    | ⟨0, _⟩ => show win0_5.index t 0 * 128 + 1 * (y 0).val = (y 0).val; rw [e t]; simp
    | ⟨1, _⟩ => show win0_5.index t 1 * 4096 + 1 * (y 1).val = (y 1).val; rw [e t]; simp
  refine (dats m 0 c).arrAt_eq_of_cover 5 _ (fun t _ => ?_) (fun i => ⟨⟨0, by decide⟩, ef _, ?_⟩)
  · show (cfg0.win 5).cut (grid0.coords t) ((dats m 0 c).after 5 t) = _
    rw [out5]
    funext y
    exact congrArg (R5 m c) (hi t y).symm
  · refine (mem_blk5 _ i).2 fun a => ?_
    have h0 : (i 0).val < 128 := (i 0).isLt
    have h1 : (i 1).val < 4096 := (i 1).isLt
    match a with
    | ⟨0, _⟩ => show win0_5.index _ 0 * 128 ≤ (i 0).val ∧ (i 0).val < win0_5.index _ 0 * 128 + 128; rw [e]; simpa using h0
    | ⟨1, _⟩ => show win0_5.index _ 1 * 4096 ≤ (i 1).val ∧ (i 1).val < win0_5.index _ 1 * 4096 + 4096; rw [e]; simpa using h1
theorem mem_blk6 (t : Fin cfg0.N) (i : S32x128.Idx) :
    i ∈ ((cfg0.win 6).blk t).view.set ↔ ∀ a : Fin 2, win0_6.index t a * S32x128.size a ≤ (i a).val ∧ (i a).val < win0_6.index t a * S32x128.size a + S32x128.size a := by
  show i ∈ ((View.whole main_v35_2).slice (win0_6.rect t)).set ↔ _
  rw [View.set_slice_whole, Rect.mem_set_unit]
  exact Iff.rfl
theorem final6 (c : Dev nD) : (dats m 0 c).arrAt 6 cfg0.N = R6 m c := by
  have e : ∀ t : Fin cfg0.N, win0_6.index t = ![0, 0] := (by decide +kernel : ∀ t : Fin grid0.N, _)
  have ef : ∀ t : Fin cfg0.N, (cfg0.win 6).flush t = true := (by decide +kernel : ∀ t : Fin grid0.N, _)
  have hi : ∀ (t : Fin cfg0.N) (y : ((cfg0.win 6).xblock (cfg0.grid.coords t)).Idx), ((cfg0.win 6).blk t).view.emb y = (cfg0.win 6).xinj (grid0.coords t) y := fun t y => by
    funext a; apply Fin.ext
    match a with
    | ⟨0, _⟩ => show win0_6.index t 0 * 32 + 1 * (y 0).val = (y 0).val; rw [e t]; simp
    | ⟨1, _⟩ => show win0_6.index t 1 * 128 + 1 * (y 1).val = (y 1).val; rw [e t]; simp
  refine (dats m 0 c).arrAt_eq_of_cover 6 _ (fun t _ => ?_) (fun i => ⟨⟨0, by decide⟩, ef _, ?_⟩)
  · show (cfg0.win 6).cut (grid0.coords t) ((dats m 0 c).after 6 t) = _
    rw [out6]
    funext y
    exact congrArg (R6 m c) (hi t y).symm
  · refine (mem_blk6 _ i).2 fun a => ?_
    have h0 : (i 0).val < 32 := (i 0).isLt
    have h1 : (i 1).val < 128 := (i 1).isLt
    match a with
    | ⟨0, _⟩ => show win0_6.index _ 0 * 32 ≤ (i 0).val ∧ (i 0).val < win0_6.index _ 0 * 32 + 32; rw [e]; simpa using h0
    | ⟨1, _⟩ => show win0_6.index _ 1 * 128 ≤ (i 1).val ∧ (i 1).val < win0_6.index _ 1 * 128 + 128; rw [e]; simpa using h1

/-- The run, with each result array named and the arguments unchanged. -/
theorem run : θ_run defs (onTc (τ := τ) (main (F := F))) ⟨m, fun _ => 0, ρ⟩ fun r => ∀ c : Dev nD,
      r.2.mem ((c : Thread nD τ).loc main_v35_0) = R4 m c
      ∧ r.2.mem ((c : Thread nD τ).loc main_v34) = refGo (refGates m c)
      ∧ r.2.mem ((c : Thread nD τ).loc main_v35_1) = R5 m c
      ∧ r.2.mem ((c : Thread nD τ).loc main_v35_2) = R6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1 4).trans (final4 m c),
      ((h c).2 main_v34 (Pipeline.mem_restRefs_of main_v34 (by decide) (by decide))).trans (V_v34 m c),
      ((h c).1 5).trans (final5 m c), ((h c).1 6).trans (final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.ReferenceIdeal.Hand

end
-- ==== Proof.RefFin.lean ====
module

public import proofs.«01_k».proof.Proof.RefPay
public import proofs.«01_k».proof.Proof.RefRoute
public import proofs.«01_k».proof.Proof.RefRun

/-! # The reference's results are the layer's -/

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.Quant

variable (m : (l : Loc nD τ sig) → Buf (Elt Ideal) l)

/-- The argument arrays of device `c`, entry by entry. -/
def args (c : Dev nD) : Args where
  x s d := (m ((c : Thread nD τ).loc main_arg0) : FVec Ideal S1x128x4096 .bf16) (ix3 0 s d)
  w d n := (m ((c : Thread nD τ).loc main_arg1) : FVec Ideal S4096x14336 .fp8e4m3) (ix2 d n)
  ws k n := (m ((c : Thread nD τ).loc main_arg2) : FVec Ideal S32x112 .f32) (ix2 k n)
  rw' d e := (m ((c : Thread nD τ).loc main_arg3) : FVec Ideal S4096x8 .bf16) (ix2 d e)
  rb e := (m ((c : Thread nD τ).loc main_arg4) : FVec Ideal S8 .f32) (ix1 e)
  ix s r := ⟨((m ((c : Thread nD τ).loc main_arg5) : IVec S1x128x2 32) (ix3 0 s r)).toNat % 8, Nat.mod_lt _ (by omega)⟩
  la e d q := (m ((c : Thread nD τ).loc main_arg6) : FVec Ideal S8x4096x16 .bf16) (ix3 e d q)
  lb e q n := (m ((c : Thread nD τ).loc main_arg7) : FVec Ideal S8x16x14336 .bf16) (ix3 e q n)

/-- The chosen experts are among the eight. -/
def Chosen (c : Dev nD) : Prop :=
  ∀ (s : Fin 128) (r : Fin 2), (m ((c : Thread nD τ).loc main_arg5) : IVec S1x128x2 32) (ix3 0 s r) = BitVec.ofNat 32 ((args m c).ix s r).val

variable (c : Dev nD)

theorem R6_apply (b : Fin 32) (s : Fin 128) : R6 m c (ix2 b s) = (args m c).scale s b := by
  unfold R6
  rw [V_main_arg0, pay7_apply, pay4_apply]
  rfl

theorem R5_apply (s : Fin 128) (d : Fin 4096) : R5 m c (ix2 s d) = (args m c).code s d := by
  unfold R5
  rw [V_main_arg0, pay6_apply, pay5_apply]
  have e : (⟨128 * (d.val / 128) + d.val % 128, by omega⟩ : Fin 4096) = d := Fin.ext (by show 128 * (d.val / 128) + d.val % 128 = d.val; omega)
  simp only [e]
  rfl

theorem refGates_apply (h : Chosen m c) (s : Fin 128) (r : Fin 2) : refGates m c (ix3 0 s r) = (args m c).gate s r :=
  refGt_apply (args m c) _ (refT_apply (args m c) _ _ (refP_apply (args m c) _ (refE_apply (args m c) _ (refL_apply (args m c) _ _ _
    (fun _ _ => rfl) (fun _ _ => rfl) (fun _ => rfl)))) h) s r

theorem R_gates (h : Chosen m c) (r : Fin 2) (s : Fin 128) : refGo (refGates m c) (ix2 r s) = (args m c).gate s r :=
  (refGo_apply _ r s).trans (refGates_apply m c h s r)

theorem v32_apply (h : Chosen m c) (s : Fin 128) (n : Fin 14336) : (V m c main_v32 : FVec Ideal S1x128x14336 .f32) (ix3 0 s n) = (args m c).lora s n := by
  rw [V_v32]
  exact refLo_apply (args m c) _ _ (refHb_apply (args m c) _ _ _ (fun _ _ => rfl) (fun _ _ _ => rfl)
    (refD_apply (args m c) _ _ (refH_apply (args m c) _ h) (refGates_apply m c h))) (fun _ _ _ => rfl) s n

theorem R4_apply (h : Chosen m c) (s : Fin 128) (n : Fin 14336) : R4 m c (ix2 s n) = (args m c).out s n := by
  unfold R4
  rw [pay1_apply, v32_apply m c h, V_main_arg0, V_main_arg1, V_main_arg2]
  unfold Args.out
  refine congrArg (· + _) (Finset.sum_congr rfl fun d _ => ?_)
  rw [pay8_apply, pay5_apply, pay4_apply]
  have e : (⟨128 * (d.val / 128) + d.val % 128, by omega⟩ : Fin 4096) = d := Fin.ext (by show 128 * (d.val / 128) + d.val % 128 = d.val; omega)
  simp only [e]
  rfl

end Cert.ReferenceIdeal.Hand

end
-- ==== Proof.Equal.lean ====
module

public import proofs.«01_k».proof.Defs
public import proofs.«01_k».proof.Proof.KFin
public import proofs.«01_k».proof.Proof.RefFin
public import proofs.«01_k».proof.Proof.RefRun
public import proofs.«01_k».proof.Proof.Final

/-! # The kernel and the reference compute the same four arrays -/

@[expose] public section

set_option maxRecDepth 16384

noncomputable section

namespace Cert.Equal

open Idealize.ShloMosaic Idealize.ShloMosaic.TcCoe Idealize.SL.Sem Cert.Quant

theorem preFacts : Cert.Pre_in_range.Facts where
  bitsLt_bf16_f32 := by decide
  bcast_S_S1x128x4096 := by decide
  bcast_S_S1x128x2 := by decide

/-- A magnitude that compares at most another is so. -/
theorem le_of_cmp {a b : EReal} (h : Ideal.cmp .ole a b = 1#1) : a ≤ b := by
  by_contra hn
  have : Ideal.cmp .ole a b = 0#1 := by simp [Ideal.cmp, hn]
  rw [this] at h
  exact absurd h (by decide)

/-- A word from 0 to below 8, compared as a signed one, is one of the eight numbers. -/
theorem among (i : BitVec 32) (h : IntOp.andi (IntOp.cmpi .sge i 0#32) (IntOp.cmpi .slt i 8#32) = 1#1) :
    i = BitVec.ofNat 32 (i.toNat % 8) := by
  have h1 : IntOp.cmpi .sge i 0#32 = 1#1 ∧ IntOp.cmpi .slt i 8#32 = 1#1 := by
    generalize IntOp.cmpi .sge i 0#32 = p at h
    generalize IntOp.cmpi .slt i 8#32 = q at h
    revert p q
    decide
  have h2 : (0 : ℤ) ≤ i.toInt := by
    by_contra hn
    have : IntOp.cmpi .sge i 0#32 = 0#1 := by
      simp [IntOp.cmpi, BitVec.sle, hn]
    rw [this] at h1
    exact absurd h1.1 (by decide)
  have h3 : i.toInt < 8 := by
    by_contra hn
    have : IntOp.cmpi .slt i 8#32 = 0#1 := by
      simp [IntOp.cmpi, BitVec.slt, hn]
    rw [this] at h1
    exact absurd h1.2 (by decide)
  apply BitVec.eq_of_toNat_eq
  rw [BitVec.toNat_ofNat]
  have h4 := i.isLt
  rw [BitVec.toInt_eq_toNat_cond] at h2 h3
  split at h2 <;> omega

section Pre
variable (m : (l : Loc Cert.KernelIdeal.nD Cert.KernelIdeal.τ Cert.KernelIdeal.sig) → Buf (Elt Ideal) l)
  (h : @Cert.Pre_KernelIdeal_in_range preFacts m) (c : Dev Cert.KernelIdeal.nD)
include h

theorem bounded : (Cert.KernelIdeal.Hand.args m c).Bounded := fun s d => le_of_cmp (congrFun (h c).1 (ix3 0 s d))

theorem chosen : Cert.KernelIdeal.Hand.Chosen m c := fun s r => among _ (congrFun (h c).2 (ix3 0 s r))

end Pre

/-- Arrays of two axes are equal when their entries are. -/
theorem ext2 {α : Type} {p q : Nat} {u v : (⟨2, ![p, q]⟩ : Shape).Idx → α} (h : ∀ (i : Fin p) (j : Fin q), u (ix2 i j) = v (ix2 i j)) : u = v :=
  funext fun k => by rw [eq_ix2 k]; exact h _ _

section Agree
variable (m : (l : Loc Cert.KernelIdeal.nD Cert.KernelIdeal.τ Cert.KernelIdeal.sig) → Buf (Elt Ideal) l)
  (m' : (l : Loc Cert.ReferenceIdeal.nD Cert.ReferenceIdeal.τ Cert.ReferenceIdeal.sig) → Buf (Elt Ideal) l)

/-- The two memories hold the same arguments. -/
def Agree (c : Dev Cert.KernelIdeal.nD) : Prop :=
  m' ((c : Thread Cert.ReferenceIdeal.nD Cert.ReferenceIdeal.τ).loc Cert.ReferenceIdeal.main_arg0) = m ((c : Thread Cert.KernelIdeal.nD Cert.KernelIdeal.τ).loc Cert.KernelIdeal.main_arg0)
    ∧ m' ((c : Thread Cert.ReferenceIdeal.nD Cert.ReferenceIdeal.τ).loc Cert.ReferenceIdeal.main_arg1) = m ((c : Thread Cert.KernelIdeal.nD Cert.KernelIdeal.τ).loc Cert.KernelIdeal.main_arg1)
    ∧ m' ((c : Thread Cert.ReferenceIdeal.nD Cert.ReferenceIdeal.τ).loc Cert.ReferenceIdeal.main_arg2) = m ((c : Thread Cert.KernelIdeal.nD Cert.KernelIdeal.τ).loc Cert.KernelIdeal.main_arg2)
    ∧ m' ((c : Thread Cert.ReferenceIdeal.nD Cert.ReferenceIdeal.τ).loc Cert.ReferenceIdeal.main_arg3) = m ((c : Thread Cert.KernelIdeal.nD Cert.KernelIdeal.τ).loc Cert.KernelIdeal.main_arg3)
    ∧ m' ((c : Thread Cert.ReferenceIdeal.nD Cert.ReferenceIdeal.τ).loc Cert.ReferenceIdeal.main_arg4) = m ((c : Thread Cert.KernelIdeal.nD Cert.KernelIdeal.τ).loc Cert.KernelIdeal.main_arg4)
    ∧ m' ((c : Thread Cert.ReferenceIdeal.nD Cert.ReferenceIdeal.τ).loc Cert.ReferenceIdeal.main_arg5) = m ((c : Thread Cert.KernelIdeal.nD Cert.KernelIdeal.τ).loc Cert.KernelIdeal.main_arg5)
    ∧ m' ((c : Thread Cert.ReferenceIdeal.nD Cert.ReferenceIdeal.τ).loc Cert.ReferenceIdeal.main_arg6) = m ((c : Thread Cert.KernelIdeal.nD Cert.KernelIdeal.τ).loc Cert.KernelIdeal.main_arg6)
    ∧ m' ((c : Thread Cert.ReferenceIdeal.nD Cert.ReferenceIdeal.τ).loc Cert.ReferenceIdeal.main_arg7) = m ((c : Thread Cert.KernelIdeal.nD Cert.KernelIdeal.τ).loc Cert.KernelIdeal.main_arg7)

variable {m m'} {c : Dev Cert.KernelIdeal.nD} (a : Agree m m' c)
include a

theorem args_eq : Cert.ReferenceIdeal.Hand.args m' c = Cert.KernelIdeal.Hand.args m c := by
  obtain ⟨a0, a1, a2, a3, a4, a5, a6, a7⟩ := a
  unfold Cert.ReferenceIdeal.Hand.args Cert.KernelIdeal.Hand.args
  rw [a0, a1, a2, a3, a4, a6, a7]
  congr 1
  funext s r
  exact Fin.ext (congrArg (fun w : BitVec 32 => w.toNat % 8) (congrFun a5 (ix3 0 s r)))

variable (h : @Cert.Pre_KernelIdeal_in_range preFacts m)
include h

theorem chosen' : Cert.ReferenceIdeal.Hand.Chosen m' c := fun s r => by
  rw [args_eq a]
  exact (congrFun a.2.2.2.2.2.1 _).trans (chosen m h c s r)

theorem out_eq : Cert.ReferenceIdeal.Hand.R4 m' c = Cert.KernelIdeal.Hand.G8 m c := ext2 fun s n =>
  (Cert.ReferenceIdeal.Hand.R4_apply m' c (chosen' a h) s n).trans
    ((congrArg (fun t : Args => t.out s n) (args_eq a)).trans
      (Cert.KernelIdeal.Hand.G8_apply m c (chosen m h c) (bounded m h c) s n).symm)

theorem gates_eq : Cert.ReferenceIdeal.Hand.refGo (Cert.ReferenceIdeal.Hand.refGates m' c) = Cert.KernelIdeal.Hand.G9 m c := ext2 fun r s =>
  (Cert.ReferenceIdeal.Hand.R_gates m' c (chosen' a h) r s).trans
    ((congrArg (fun t : Args => t.gate s r) (args_eq a)).trans
      (Cert.KernelIdeal.Hand.G9_apply m c (chosen m h c) r s).symm)

theorem codes_eq : Cert.ReferenceIdeal.Hand.R5 m' c = Cert.KernelIdeal.Hand.G10 m c := ext2 fun s d =>
  (Cert.ReferenceIdeal.Hand.R5_apply m' c s d).trans
    ((congrArg (fun t : Args => t.code s d) (args_eq a)).trans
      (Cert.KernelIdeal.Hand.G10_apply m c (bounded m h c) s d).symm)

theorem scales_eq : Cert.ReferenceIdeal.Hand.R6 m' c = Cert.KernelIdeal.Hand.G11 m c := ext2 fun b s =>
  (Cert.ReferenceIdeal.Hand.R6_apply m' c b s).trans
    ((congrArg (fun t : Args => t.scale s b) (args_eq a)).trans
      (Cert.KernelIdeal.Hand.G11_apply m c (bounded m h c) b s).symm)

end Agree

/-- Run on the same arguments, tokens finite and experts among the eight, the two programs end with the same four results. -/
theorem algebraic : @Cert.algebraic_KernelIdeal_ReferenceIdeal_pre_in_range Cert.KernelIdeal.Gen.facts Cert.ReferenceIdeal.Gen.facts preFacts :=
  fun m g m' g' h a =>
    ⟨fun c => Cert.KernelIdeal.Hand.G8 m c, fun c => Cert.KernelIdeal.Hand.G9 m c,
      fun c => Cert.KernelIdeal.Hand.G10 m c, fun c => Cert.KernelIdeal.Hand.G11 m c,
      Cert.KernelIdeal.Hand.run m g,
      (θ_run _ _ _).mono (fun _ k c =>
        ⟨(k c).1.trans (out_eq (a c) h), (k c).2.1.trans (gates_eq (a c) h),
          (k c).2.2.1.trans (codes_eq (a c) h), (k c).2.2.2.1.trans (scales_eq (a c) h),
          (k c).2.2.2.2⟩) (Cert.ReferenceIdeal.Hand.run m' g')⟩

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame

public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Frame
public import proofs.«01_k».proof.Proof.K.Frame
public import proofs.«01_k».proof.Proof.Final
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Equal.preFacts,
    fun m ρ _ => Cert.Kernel.Hand.frame m ρ,
    fun m ρ _ => Cert.KernelIdeal.Hand.frame m ρ, fun m ρ _ => Cert.KernelIdeal.Hand.frame m ρ,
    fun m ρ _ => Cert.ReferenceIdeal.Gen.frame m ρ, fun m ρ _ => Cert.ReferenceIdeal.Gen.frame m ρ,
    trivial, Cert.Equal.algebraic⟩

end Cert.Proof

end
